-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x8192 .f32) (main_arg2 : FVec F S2x256x4x64 .f32) (main_arg3 : FVec F S2x256x4x64 .f32) (main_arg4 : FVec F S8192x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_scores_ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S2x256x128x64 : S_.BroadcastsInDim S2x256x128x64 (![] : Fin 0 → Fin S2x256x128x64.rank)
  reducesTo_S2x256x128x64_S_d0_1_2_3 : S2x256x128x64.ReducesTo [0, 1, 2, 3] S_

variable [Facts]

def fn {F : FTy → Type} [FloatOps F] (main_arg0 : FVec F S2x256x512 .f32) (main_arg1 : FVec F S512x8192 .f32) (main_arg2 : FVec F S2x256x128x64 .f32) (main_arg3 : FVec F S2x256x128x64 .f32) (main_arg4 : FVec F S8192x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S2x256x128x64 .f32 := Host.absf main_arg2
  let main_cst_2 : FVec F S_ .f32 := constant S_ .f32 0x7F800000#32
  let main_v10 : FVec F S2x256x128x64 .f32 := broadcastInDim S2x256x128x64 ![] bcast_S_S2x256x128x64 main_cst_2
  let main_v11 : IVec S2x256x128x64 1 := cmpf .olt main_v9 main_v10
  let main_c_3 : IVec S_ 1 := constantI S_ 1 1#1
  let main_v12 : IVec S_ 1 := (fun x v => Host.reduce IntOp.andi x v reducesTo_S2x256x128x64_S_d0_1_2_3 h_S_) main_v11 main_c_3
  let main_v13 : IVec S_ 1 := andi main_v8 main_v12
  main_v13
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S512x512 : Shape := ⟨2, ![512, 512]⟩
abbrev S448x512 : Shape := ⟨2, ![448, 512]⟩
abbrev S48x512 : Shape := ⟨2, ![48, 512]⟩
abbrev S7 : Shape := ⟨1, ![7]⟩
abbrev S3 : Shape := ⟨1, ![3]⟩
abbrev S256x256 : Shape := ⟨2, ![256, 256]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S1 : Shape := ⟨1, ![1]⟩
abbrev S64x512 : Shape := ⟨2, ![64, 512]⟩
abbrev S7x64x512 : Shape := ⟨3, ![7, 64, 512]⟩
abbrev S16x512 : Shape := ⟨2, ![16, 512]⟩
abbrev S3x16x512 : Shape := ⟨3, ![3, 16, 512]⟩
abbrev S1x256x512 : Shape := ⟨3, ![1, 256, 512]⟩

abbrev nBuf : Space → Nat
  | .hbm => 30
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x4x64, .f32⟩
  | .hbm, ⟨3, _⟩ => ⟨S2x256x4x64, .f32⟩
  | .hbm, ⟨4, _⟩ => ⟨S8192x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .f32⟩
  | .hbm, ⟨29, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S512x512, .f32⟩
  | .local _ .vmem, ⟨7, _⟩ => ⟨S512x512, .bf16⟩
  | .local _ .vmem, ⟨8, _⟩ => ⟨S448x512, .bf16⟩
  | .local _ .vmem, ⟨9, _⟩ => ⟨S48x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_113 : BitVec 32 := 3#32
  let v170 : BitVec 32 := Scalar.shli v3 c3_i32_113
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c1_i32_109 : BitVec 32 := 1#32
  let v163 : BitVec 32 := Scalar.xori v153 c1_i32_109
  let c3_i32_110 : BitVec 32 := 3#32
  let v165 : BitVec 32 := Scalar.andi v163 c3_i32_110
  let c1_i32_111 : BitVec 32 := 1#32
  let v166 : BitVec 32 := Scalar.shli v165 c1_i32_111
  let c2_i32 : BitVec 32 := 2#32
  let v164 : BitVec 32 := Scalar.shrsi v163 c2_i32
  let c1_i32_112 : BitVec 32 := 1#32
  let v167 : BitVec 32 := Scalar.andi v165 c1_i32_112
  let v168 : BitVec 32 := Scalar.xori v164 v167
  let v169 : BitVec 32 := Scalar.ori v166 v168
  let v171 : BitVec 32 := Scalar.ori v170 v169
  let c1_i32_115 : BitVec 32 := 1#32
  let v172 : BitVec 32 := Scalar.muli v171 c1_i32_115
  let v173 : BitVec 32 := Scalar.addi c0_i32 v172
  v173.toNat
def k0_dev2 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_121 : BitVec 32 := 3#32
  let v181 : BitVec 32 := Scalar.shli v3 c3_i32_121
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c2_i32_116 : BitVec 32 := 2#32
  let v174 : BitVec 32 := Scalar.xori v153 c2_i32_116
  let c3_i32_118 : BitVec 32 := 3#32
  let v176 : BitVec 32 := Scalar.andi v174 c3_i32_118
  let c1_i32_119 : BitVec 32 := 1#32
  let v177 : BitVec 32 := Scalar.shli v176 c1_i32_119
  let c2_i32_117 : BitVec 32 := 2#32
  let v175 : BitVec 32 := Scalar.shrsi v174 c2_i32_117
  let c1_i32_120 : BitVec 32 := 1#32
  let v178 : BitVec 32 := Scalar.andi v176 c1_i32_120
  let v179 : BitVec 32 := Scalar.xori v175 v178
  let v180 : BitVec 32 := Scalar.ori v177 v179
  let v182 : BitVec 32 := Scalar.ori v181 v180
  let c1_i32_123 : BitVec 32 := 1#32
  let v183 : BitVec 32 := Scalar.muli v182 c1_i32_123
  let v184 : BitVec 32 := Scalar.addi c0_i32_124 v183
  v184.toNat
def k0_dev3 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_130 : BitVec 32 := 3#32
  let v192 : BitVec 32 := Scalar.shli v3 c3_i32_130
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c3_i32_125 : BitVec 32 := 3#32
  let v185 : BitVec 32 := Scalar.xori v153 c3_i32_125
  let c3_i32_127 : BitVec 32 := 3#32
  let v187 : BitVec 32 := Scalar.andi v185 c3_i32_127
  let c1_i32_128 : BitVec 32 := 1#32
  let v188 : BitVec 32 := Scalar.shli v187 c1_i32_128
  let c2_i32_126 : BitVec 32 := 2#32
  let v186 : BitVec 32 := Scalar.shrsi v185 c2_i32_126
  let c1_i32_129 : BitVec 32 := 1#32
  let v189 : BitVec 32 := Scalar.andi v187 c1_i32_129
  let v190 : BitVec 32 := Scalar.xori v186 v189
  let v191 : BitVec 32 := Scalar.ori v188 v190
  let v193 : BitVec 32 := Scalar.ori v192 v191
  let c1_i32_132 : BitVec 32 := 1#32
  let v194 : BitVec 32 := Scalar.muli v193 c1_i32_132
  let v195 : BitVec 32 := Scalar.addi c0_i32_133 v194
  v195.toNat
def k0_dev4 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_139 : BitVec 32 := 3#32
  let v203 : BitVec 32 := Scalar.shli v3 c3_i32_139
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c4_i32_134 : BitVec 32 := 4#32
  let v196 : BitVec 32 := Scalar.xori v153 c4_i32_134
  let c3_i32_136 : BitVec 32 := 3#32
  let v198 : BitVec 32 := Scalar.andi v196 c3_i32_136
  let c1_i32_137 : BitVec 32 := 1#32
  let v199 : BitVec 32 := Scalar.shli v198 c1_i32_137
  let c2_i32_135 : BitVec 32 := 2#32
  let v197 : BitVec 32 := Scalar.shrsi v196 c2_i32_135
  let c1_i32_138 : BitVec 32 := 1#32
  let v200 : BitVec 32 := Scalar.andi v198 c1_i32_138
  let v201 : BitVec 32 := Scalar.xori v197 v200
  let v202 : BitVec 32 := Scalar.ori v199 v201
  let v204 : BitVec 32 := Scalar.ori v203 v202
  let c1_i32_141 : BitVec 32 := 1#32
  let v205 : BitVec 32 := Scalar.muli v204 c1_i32_141
  let v206 : BitVec 32 := Scalar.addi c0_i32_142 v205
  v206.toNat
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_147 : BitVec 32 := 3#32
  let v214 : BitVec 32 := Scalar.shli v3 c3_i32_147
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c5_i32 : BitVec 32 := 5#32
  let v207 : BitVec 32 := Scalar.xori v153 c5_i32
  let c3_i32_144 : BitVec 32 := 3#32
  let v209 : BitVec 32 := Scalar.andi v207 c3_i32_144
  let c1_i32_145 : BitVec 32 := 1#32
  let v210 : BitVec 32 := Scalar.shli v209 c1_i32_145
  let c2_i32_143 : BitVec 32 := 2#32
  let v208 : BitVec 32 := Scalar.shrsi v207 c2_i32_143
  let c1_i32_146 : BitVec 32 := 1#32
  let v211 : BitVec 32 := Scalar.andi v209 c1_i32_146
  let v212 : BitVec 32 := Scalar.xori v208 v211
  let v213 : BitVec 32 := Scalar.ori v210 v212
  let v215 : BitVec 32 := Scalar.ori v214 v213
  let c1_i32_149 : BitVec 32 := 1#32
  let v216 : BitVec 32 := Scalar.muli v215 c1_i32_149
  let v217 : BitVec 32 := Scalar.addi c0_i32_150 v216
  v217.toNat
def k0_dev6 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_155 : BitVec 32 := 3#32
  let v225 : BitVec 32 := Scalar.shli v3 c3_i32_155
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c6_i32 : BitVec 32 := 6#32
  let v218 : BitVec 32 := Scalar.xori v153 c6_i32
  let c3_i32_152 : BitVec 32 := 3#32
  let v220 : BitVec 32 := Scalar.andi v218 c3_i32_152
  let c1_i32_153 : BitVec 32 := 1#32
  let v221 : BitVec 32 := Scalar.shli v220 c1_i32_153
  let c2_i32_151 : BitVec 32 := 2#32
  let v219 : BitVec 32 := Scalar.shrsi v218 c2_i32_151
  let c1_i32_154 : BitVec 32 := 1#32
  let v222 : BitVec 32 := Scalar.andi v220 c1_i32_154
  let v223 : BitVec 32 := Scalar.xori v219 v222
  let v224 : BitVec 32 := Scalar.ori v221 v223
  let v226 : BitVec 32 := Scalar.ori v225 v224
  let c1_i32_157 : BitVec 32 := 1#32
  let v227 : BitVec 32 := Scalar.muli v226 c1_i32_157
  let v228 : BitVec 32 := Scalar.addi c0_i32_158 v227
  v228.toNat
def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_164 : BitVec 32 := 3#32
  let v236 : BitVec 32 := Scalar.shli v3 c3_i32_164
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c7_i32_159 : BitVec 32 := 7#32
  let v229 : BitVec 32 := Scalar.xori v153 c7_i32_159
  let c3_i32_161 : BitVec 32 := 3#32
  let v231 : BitVec 32 := Scalar.andi v229 c3_i32_161
  let c1_i32_162 : BitVec 32 := 1#32
  let v232 : BitVec 32 := Scalar.shli v231 c1_i32_162
  let c2_i32_160 : BitVec 32 := 2#32
  let v230 : BitVec 32 := Scalar.shrsi v229 c2_i32_160
  let c1_i32_163 : BitVec 32 := 1#32
  let v233 : BitVec 32 := Scalar.andi v231 c1_i32_163
  let v234 : BitVec 32 := Scalar.xori v230 v233
  let v235 : BitVec 32 := Scalar.ori v232 v234
  let v237 : BitVec 32 := Scalar.ori v236 v235
  let c1_i32_166 : BitVec 32 := 1#32
  let v238 : BitVec 32 := Scalar.muli v237 c1_i32_166
  let v239 : BitVec 32 := Scalar.addi c0_i32_167 v238
  v239.toNat
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_168 : BitVec 32 := 1#32
  let v240 : BitVec 32 := Scalar.xori v3 c1_i32_168
  let c3_i32_171 : BitVec 32 := 3#32
  let v245 : BitVec 32 := Scalar.shli v240 c3_i32_171
  let c7_i32 : BitVec 32 := 7#32
  let v4 : BitVec 32 := Scalar.andi v2 c7_i32
  let c1_i32_0 : BitVec 32 := 1#32
  let v5 : BitVec 32 := Scalar.shrsi v4 c1_i32_0
  let c1_i32_169 : BitVec 32 := 1#32
  let v241 : BitVec 32 := Scalar.shli v5 c1_i32_169
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_170 : BitVec 32 := 1#32
  let v242 : BitVec 32 := Scalar.andi v5 c1_i32_170
  let v243 : BitVec 32 := Scalar.xori v8 v242
  let v244 : BitVec 32 := Scalar.ori v241 v243
  let v246 : BitVec 32 := Scalar.ori v245 v244
  let c1_i32_173 : BitVec 32 := 1#32
  let v247 : BitVec 32 := Scalar.muli v246 c1_i32_173
  let v248 : BitVec 32 := Scalar.addi c0_i32_174 v247
  v248.toNat
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_175 : BitVec 32 := 2#32
  let v249 : BitVec 32 := Scalar.xori v3 c2_i32_175
  let c3_i32_178 : BitVec 32 := 3#32
  let v254 : BitVec 32 := Scalar.shli v249 c3_i32_178
  let c7_i32 : BitVec 32 := 7#32
  let v4 : BitVec 32 := Scalar.andi v2 c7_i32
  let c1_i32_0 : BitVec 32 := 1#32
  let v5 : BitVec 32 := Scalar.shrsi v4 c1_i32_0
  let c1_i32_176 : BitVec 32 := 1#32
  let v250 : BitVec 32 := Scalar.shli v5 c1_i32_176
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_177 : BitVec 32 := 1#32
  let v251 : BitVec 32 := Scalar.andi v5 c1_i32_177
  let v252 : BitVec 32 := Scalar.xori v8 v251
  let v253 : BitVec 32 := Scalar.ori v250 v252
  let v255 : BitVec 32 := Scalar.ori v254 v253
  let c1_i32_180 : BitVec 32 := 1#32
  let v256 : BitVec 32 := Scalar.muli v255 c1_i32_180
  let v257 : BitVec 32 := Scalar.addi c0_i32_181 v256
  v257.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_182 : BitVec 32 := 3#32
  let v258 : BitVec 32 := Scalar.xori v3 c3_i32_182
  let c3_i32_185 : BitVec 32 := 3#32
  let v263 : BitVec 32 := Scalar.shli v258 c3_i32_185
  let c7_i32 : BitVec 32 := 7#32
  let v4 : BitVec 32 := Scalar.andi v2 c7_i32
  let c1_i32_0 : BitVec 32 := 1#32
  let v5 : BitVec 32 := Scalar.shrsi v4 c1_i32_0
  let c1_i32_183 : BitVec 32 := 1#32
  let v259 : BitVec 32 := Scalar.shli v5 c1_i32_183
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_184 : BitVec 32 := 1#32
  let v260 : BitVec 32 := Scalar.andi v5 c1_i32_184
  let v261 : BitVec 32 := Scalar.xori v8 v260
  let v262 : BitVec 32 := Scalar.ori v259 v261
  let v264 : BitVec 32 := Scalar.ori v263 v262
  let c1_i32_187 : BitVec 32 := 1#32
  let v265 : BitVec 32 := Scalar.muli v264 c1_i32_187
  let v266 : BitVec 32 := Scalar.addi c0_i32_188 v265
  v266.toNat
def k0_off1 (d0 : Dev nD) (c1_i32_189 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let v267 : BitVec 32 := Scalar.xori v153 c1_i32_189
  let c64_i32_195 : BitVec 32 := 64#32
  let v276 : BitVec 32 := Scalar.muli v267 c64_i32_195
  let c0_i32_202 : BitVec 32 := 0#32
  ![v276.toNat, 0]
def k0_dev11 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_194 : BitVec 32 := 3#32
  let v274 : BitVec 32 := Scalar.shli v3 c3_i32_194
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c1_i32_189 : BitVec 32 := 1#32
  let v267 : BitVec 32 := Scalar.xori v153 c1_i32_189
  let c3_i32_191 : BitVec 32 := 3#32
  let v269 : BitVec 32 := Scalar.andi v267 c3_i32_191
  let c1_i32_192 : BitVec 32 := 1#32
  let v270 : BitVec 32 := Scalar.shli v269 c1_i32_192
  let c2_i32_190 : BitVec 32 := 2#32
  let v268 : BitVec 32 := Scalar.shrsi v267 c2_i32_190
  let c1_i32_193 : BitVec 32 := 1#32
  let v271 : BitVec 32 := Scalar.andi v269 c1_i32_193
  let v272 : BitVec 32 := Scalar.xori v268 v271
  let v273 : BitVec 32 := Scalar.ori v270 v272
  let v275 : BitVec 32 := Scalar.ori v274 v273
  let c1_i32_198 : BitVec 32 := 1#32
  let v277 : BitVec 32 := Scalar.muli v275 c1_i32_198
  let v278 : BitVec 32 := Scalar.addi c0_i32_199 v277
  v278.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_208 : BitVec 32 := 3#32
  let v292 : BitVec 32 := Scalar.shli v3 c3_i32_208
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c2_i32_203 : BitVec 32 := 2#32
  let v285 : BitVec 32 := Scalar.xori v153 c2_i32_203
  let c3_i32_205 : BitVec 32 := 3#32
  let v287 : BitVec 32 := Scalar.andi v285 c3_i32_205
  let c1_i32_206 : BitVec 32 := 1#32
  let v288 : BitVec 32 := Scalar.shli v287 c1_i32_206
  let c2_i32_204 : BitVec 32 := 2#32
  let v286 : BitVec 32 := Scalar.shrsi v285 c2_i32_204
  let c1_i32_207 : BitVec 32 := 1#32
  let v289 : BitVec 32 := Scalar.andi v287 c1_i32_207
  let v290 : BitVec 32 := Scalar.xori v286 v289
  let v291 : BitVec 32 := Scalar.ori v288 v290
  let v293 : BitVec 32 := Scalar.ori v292 v291
  let c1_i32_212 : BitVec 32 := 1#32
  let v295 : BitVec 32 := Scalar.muli v293 c1_i32_212
  let v296 : BitVec 32 := Scalar.addi c0_i32_213 v295
  v296.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_222 : BitVec 32 := 3#32
  let v310 : BitVec 32 := Scalar.shli v3 c3_i32_222
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c3_i32_217 : BitVec 32 := 3#32
  let v303 : BitVec 32 := Scalar.xori v153 c3_i32_217
  let c3_i32_219 : BitVec 32 := 3#32
  let v305 : BitVec 32 := Scalar.andi v303 c3_i32_219
  let c1_i32_220 : BitVec 32 := 1#32
  let v306 : BitVec 32 := Scalar.shli v305 c1_i32_220
  let c2_i32_218 : BitVec 32 := 2#32
  let v304 : BitVec 32 := Scalar.shrsi v303 c2_i32_218
  let c1_i32_221 : BitVec 32 := 1#32
  let v307 : BitVec 32 := Scalar.andi v305 c1_i32_221
  let v308 : BitVec 32 := Scalar.xori v304 v307
  let v309 : BitVec 32 := Scalar.ori v306 v308
  let v311 : BitVec 32 := Scalar.ori v310 v309
  let c1_i32_226 : BitVec 32 := 1#32
  let v313 : BitVec 32 := Scalar.muli v311 c1_i32_226
  let v314 : BitVec 32 := Scalar.addi c0_i32_227 v313
  v314.toNat
def k0_dev14 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_236 : BitVec 32 := 3#32
  let v328 : BitVec 32 := Scalar.shli v3 c3_i32_236
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c4_i32_231 : BitVec 32 := 4#32
  let v321 : BitVec 32 := Scalar.xori v153 c4_i32_231
  let c3_i32_233 : BitVec 32 := 3#32
  let v323 : BitVec 32 := Scalar.andi v321 c3_i32_233
  let c1_i32_234 : BitVec 32 := 1#32
  let v324 : BitVec 32 := Scalar.shli v323 c1_i32_234
  let c2_i32_232 : BitVec 32 := 2#32
  let v322 : BitVec 32 := Scalar.shrsi v321 c2_i32_232
  let c1_i32_235 : BitVec 32 := 1#32
  let v325 : BitVec 32 := Scalar.andi v323 c1_i32_235
  let v326 : BitVec 32 := Scalar.xori v322 v325
  let v327 : BitVec 32 := Scalar.ori v324 v326
  let v329 : BitVec 32 := Scalar.ori v328 v327
  let c1_i32_240 : BitVec 32 := 1#32
  let v331 : BitVec 32 := Scalar.muli v329 c1_i32_240
  let v332 : BitVec 32 := Scalar.addi c0_i32_241 v331
  v332.toNat
def k0_dev15 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_249 : BitVec 32 := 3#32
  let v346 : BitVec 32 := Scalar.shli v3 c3_i32_249
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c5_i32_244 : BitVec 32 := 5#32
  let v339 : BitVec 32 := Scalar.xori v153 c5_i32_244
  let c3_i32_246 : BitVec 32 := 3#32
  let v341 : BitVec 32 := Scalar.andi v339 c3_i32_246
  let c1_i32_247 : BitVec 32 := 1#32
  let v342 : BitVec 32 := Scalar.shli v341 c1_i32_247
  let c2_i32_245 : BitVec 32 := 2#32
  let v340 : BitVec 32 := Scalar.shrsi v339 c2_i32_245
  let c1_i32_248 : BitVec 32 := 1#32
  let v343 : BitVec 32 := Scalar.andi v341 c1_i32_248
  let v344 : BitVec 32 := Scalar.xori v340 v343
  let v345 : BitVec 32 := Scalar.ori v342 v344
  let v347 : BitVec 32 := Scalar.ori v346 v345
  let c1_i32_253 : BitVec 32 := 1#32
  let v349 : BitVec 32 := Scalar.muli v347 c1_i32_253
  let v350 : BitVec 32 := Scalar.addi c0_i32_254 v349
  v350.toNat
def k0_dev16 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_262 : BitVec 32 := 3#32
  let v364 : BitVec 32 := Scalar.shli v3 c3_i32_262
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c6_i32_257 : BitVec 32 := 6#32
  let v357 : BitVec 32 := Scalar.xori v153 c6_i32_257
  let c3_i32_259 : BitVec 32 := 3#32
  let v359 : BitVec 32 := Scalar.andi v357 c3_i32_259
  let c1_i32_260 : BitVec 32 := 1#32
  let v360 : BitVec 32 := Scalar.shli v359 c1_i32_260
  let c2_i32_258 : BitVec 32 := 2#32
  let v358 : BitVec 32 := Scalar.shrsi v357 c2_i32_258
  let c1_i32_261 : BitVec 32 := 1#32
  let v361 : BitVec 32 := Scalar.andi v359 c1_i32_261
  let v362 : BitVec 32 := Scalar.xori v358 v361
  let v363 : BitVec 32 := Scalar.ori v360 v362
  let v365 : BitVec 32 := Scalar.ori v364 v363
  let c1_i32_266 : BitVec 32 := 1#32
  let v367 : BitVec 32 := Scalar.muli v365 c1_i32_266
  let v368 : BitVec 32 := Scalar.addi c0_i32_267 v367
  v368.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_275 : BitVec 32 := 3#32
  let v382 : BitVec 32 := Scalar.shli v3 c3_i32_275
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c7_i32_270 : BitVec 32 := 7#32
  let v375 : BitVec 32 := Scalar.xori v153 c7_i32_270
  let c3_i32_272 : BitVec 32 := 3#32
  let v377 : BitVec 32 := Scalar.andi v375 c3_i32_272
  let c1_i32_273 : BitVec 32 := 1#32
  let v378 : BitVec 32 := Scalar.shli v377 c1_i32_273
  let c2_i32_271 : BitVec 32 := 2#32
  let v376 : BitVec 32 := Scalar.shrsi v375 c2_i32_271
  let c1_i32_274 : BitVec 32 := 1#32
  let v379 : BitVec 32 := Scalar.andi v377 c1_i32_274
  let v380 : BitVec 32 := Scalar.xori v376 v379
  let v381 : BitVec 32 := Scalar.ori v378 v380
  let v383 : BitVec 32 := Scalar.ori v382 v381
  let c1_i32_279 : BitVec 32 := 1#32
  let v385 : BitVec 32 := Scalar.muli v383 c1_i32_279
  let v386 : BitVec 32 := Scalar.addi c0_i32_280 v385
  v386.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c64_i32 : BitVec 32 := 64#32
  let v154 : BitVec 32 := Scalar.muli v153 c64_i32
  let v435 : Index := Scalar.indexCast v154
  let c0_332 : Index := 0#32
  ![v435.toNat, 0]
def k0_off3 (d0 : Dev nD) (c1_i32_342 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c64_i32 : BitVec 32 := 64#32
  let v154 : BitVec 32 := Scalar.muli v153 c64_i32
  let c3_i32 : BitVec 32 := 3#32
  let v3 : BitVec 32 := Scalar.shrsi v2 c3_i32
  let v458 : BitVec 32 := Scalar.xori v3 c1_i32_342
  let c16_i32_343 : BitVec 32 := 16#32
  let v459 : BitVec 32 := Scalar.muli v458 c16_i32_343
  let v460 : BitVec 32 := Scalar.addi v154 v459
  let c0_i32_350 : BitVec 32 := 0#32
  ![v460.toNat, 0]
def k0_dev18 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_338 : BitVec 32 := 1#32
  let v451 : BitVec 32 := Scalar.xori v3 c1_i32_338
  let c3_i32_341 : BitVec 32 := 3#32
  let v456 : BitVec 32 := Scalar.shli v451 c3_i32_341
  let c7_i32 : BitVec 32 := 7#32
  let v4 : BitVec 32 := Scalar.andi v2 c7_i32
  let c1_i32_0 : BitVec 32 := 1#32
  let v5 : BitVec 32 := Scalar.shrsi v4 c1_i32_0
  let c1_i32_339 : BitVec 32 := 1#32
  let v452 : BitVec 32 := Scalar.shli v5 c1_i32_339
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_340 : BitVec 32 := 1#32
  let v453 : BitVec 32 := Scalar.andi v5 c1_i32_340
  let v454 : BitVec 32 := Scalar.xori v8 v453
  let v455 : BitVec 32 := Scalar.ori v452 v454
  let v457 : BitVec 32 := Scalar.ori v456 v455
  let c1_i32_346 : BitVec 32 := 1#32
  let v461 : BitVec 32 := Scalar.muli v457 c1_i32_346
  let v462 : BitVec 32 := Scalar.addi c0_i32_347 v461
  v462.toNat
def k0_dev19 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_351 : BitVec 32 := 2#32
  let v469 : BitVec 32 := Scalar.xori v3 c2_i32_351
  let c3_i32_354 : BitVec 32 := 3#32
  let v474 : BitVec 32 := Scalar.shli v469 c3_i32_354
  let c7_i32 : BitVec 32 := 7#32
  let v4 : BitVec 32 := Scalar.andi v2 c7_i32
  let c1_i32_0 : BitVec 32 := 1#32
  let v5 : BitVec 32 := Scalar.shrsi v4 c1_i32_0
  let c1_i32_352 : BitVec 32 := 1#32
  let v470 : BitVec 32 := Scalar.shli v5 c1_i32_352
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_353 : BitVec 32 := 1#32
  let v471 : BitVec 32 := Scalar.andi v5 c1_i32_353
  let v472 : BitVec 32 := Scalar.xori v8 v471
  let v473 : BitVec 32 := Scalar.ori v470 v472
  let v475 : BitVec 32 := Scalar.ori v474 v473
  let c1_i32_359 : BitVec 32 := 1#32
  let v479 : BitVec 32 := Scalar.muli v475 c1_i32_359
  let v480 : BitVec 32 := Scalar.addi c0_i32_360 v479
  v480.toNat
def k0_dev20 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_364 : BitVec 32 := 3#32
  let v487 : BitVec 32 := Scalar.xori v3 c3_i32_364
  let c3_i32_367 : BitVec 32 := 3#32
  let v492 : BitVec 32 := Scalar.shli v487 c3_i32_367
  let c7_i32 : BitVec 32 := 7#32
  let v4 : BitVec 32 := Scalar.andi v2 c7_i32
  let c1_i32_0 : BitVec 32 := 1#32
  let v5 : BitVec 32 := Scalar.shrsi v4 c1_i32_0
  let c1_i32_365 : BitVec 32 := 1#32
  let v488 : BitVec 32 := Scalar.shli v5 c1_i32_365
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_366 : BitVec 32 := 1#32
  let v489 : BitVec 32 := Scalar.andi v5 c1_i32_366
  let v490 : BitVec 32 := Scalar.xori v8 v489
  let v491 : BitVec 32 := Scalar.ori v488 v490
  let v493 : BitVec 32 := Scalar.ori v492 v491
  let c1_i32_372 : BitVec 32 := 1#32
  let v497 : BitVec 32 := Scalar.muli v493 c1_i32_372
  let v498 : BitVec 32 := Scalar.addi c0_i32_373 v497
  v498.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c64_i32 : BitVec 32 := 64#32
  let v154 : BitVec 32 := Scalar.muli v153 c64_i32
  let c3_i32 : BitVec 32 := 3#32
  let v3 : BitVec 32 := Scalar.shrsi v2 c3_i32
  let c16_i32 : BitVec 32 := 16#32
  let v155 : BitVec 32 := Scalar.muli v3 c16_i32
  let v156 : BitVec 32 := Scalar.addi v154 v155
  let v523 : Index := Scalar.indexCast v156
  let c0_398 : Index := 0#32
  ![v523.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c64_i32 : BitVec 32 := 64#32
  let v154 : BitVec 32 := Scalar.muli v153 c64_i32
  let c3_i32 : BitVec 32 := 3#32
  let v3 : BitVec 32 := Scalar.shrsi v2 c3_i32
  let c16_i32 : BitVec 32 := 16#32
  let v155 : BitVec 32 := Scalar.muli v3 c16_i32
  let v156 : BitVec 32 := Scalar.addi v154 v155
  let c0_i32_411 : BitVec 32 := 0#32
  ![v156.toNat, 0]
def k0_dev21 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c1_i32_403 : BitVec 32 := 1#32
  let v535 : BitVec 32 := Scalar.xori v3 c1_i32_403
  let c3_i32_406 : BitVec 32 := 3#32
  let v540 : BitVec 32 := Scalar.shli v535 c3_i32_406
  let c7_i32 : BitVec 32 := 7#32
  let v4 : BitVec 32 := Scalar.andi v2 c7_i32
  let c1_i32_0 : BitVec 32 := 1#32
  let v5 : BitVec 32 := Scalar.shrsi v4 c1_i32_0
  let c1_i32_404 : BitVec 32 := 1#32
  let v536 : BitVec 32 := Scalar.shli v5 c1_i32_404
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_405 : BitVec 32 := 1#32
  let v537 : BitVec 32 := Scalar.andi v5 c1_i32_405
  let v538 : BitVec 32 := Scalar.xori v8 v537
  let v539 : BitVec 32 := Scalar.ori v536 v538
  let v541 : BitVec 32 := Scalar.ori v540 v539
  let c1_i32_409 : BitVec 32 := 1#32
  let v542 : BitVec 32 := Scalar.muli v541 c1_i32_409
  let v543 : BitVec 32 := Scalar.addi c0_i32_410 v542
  v543.toNat
def k0_dev22 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c2_i32_413 : BitVec 32 := 2#32
  let v550 : BitVec 32 := Scalar.xori v3 c2_i32_413
  let c3_i32_416 : BitVec 32 := 3#32
  let v555 : BitVec 32 := Scalar.shli v550 c3_i32_416
  let c7_i32 : BitVec 32 := 7#32
  let v4 : BitVec 32 := Scalar.andi v2 c7_i32
  let c1_i32_0 : BitVec 32 := 1#32
  let v5 : BitVec 32 := Scalar.shrsi v4 c1_i32_0
  let c1_i32_414 : BitVec 32 := 1#32
  let v551 : BitVec 32 := Scalar.shli v5 c1_i32_414
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_415 : BitVec 32 := 1#32
  let v552 : BitVec 32 := Scalar.andi v5 c1_i32_415
  let v553 : BitVec 32 := Scalar.xori v8 v552
  let v554 : BitVec 32 := Scalar.ori v551 v553
  let v556 : BitVec 32 := Scalar.ori v555 v554
  let c1_i32_419 : BitVec 32 := 1#32
  let v557 : BitVec 32 := Scalar.muli v556 c1_i32_419
  let v558 : BitVec 32 := Scalar.addi c0_i32_420 v557
  v558.toNat
def k0_dev23 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_423 : BitVec 32 := 3#32
  let v565 : BitVec 32 := Scalar.xori v3 c3_i32_423
  let c3_i32_426 : BitVec 32 := 3#32
  let v570 : BitVec 32 := Scalar.shli v565 c3_i32_426
  let c7_i32 : BitVec 32 := 7#32
  let v4 : BitVec 32 := Scalar.andi v2 c7_i32
  let c1_i32_0 : BitVec 32 := 1#32
  let v5 : BitVec 32 := Scalar.shrsi v4 c1_i32_0
  let c1_i32_424 : BitVec 32 := 1#32
  let v566 : BitVec 32 := Scalar.shli v5 c1_i32_424
  let c1_i32_1 : BitVec 32 := 1#32
  let v6 : BitVec 32 := Scalar.andi v4 c1_i32_1
  let c1_i32_2 : BitVec 32 := 1#32
  let v7 : BitVec 32 := Scalar.andi v5 c1_i32_2
  let v8 : BitVec 32 := Scalar.xori v6 v7
  let c1_i32_425 : BitVec 32 := 1#32
  let v567 : BitVec 32 := Scalar.andi v5 c1_i32_425
  let v568 : BitVec 32 := Scalar.xori v8 v567
  let v569 : BitVec 32 := Scalar.ori v566 v568
  let v571 : BitVec 32 := Scalar.ori v570 v569
  let c1_i32_429 : BitVec 32 := 1#32
  let v572 : BitVec 32 := Scalar.muli v571 c1_i32_429
  let v573 : BitVec 32 := Scalar.addi c0_i32_430 v572
  v573.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c64_i32 : BitVec 32 := 64#32
  let v154 : BitVec 32 := Scalar.muli v153 c64_i32
  let c0_i32_461 : BitVec 32 := 0#32
  ![v154.toNat, 0]
def k0_dev24 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_456 : BitVec 32 := 3#32
  let v605 : BitVec 32 := Scalar.shli v3 c3_i32_456
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c1_i32_451 : BitVec 32 := 1#32
  let v598 : BitVec 32 := Scalar.xori v153 c1_i32_451
  let c3_i32_453 : BitVec 32 := 3#32
  let v600 : BitVec 32 := Scalar.andi v598 c3_i32_453
  let c1_i32_454 : BitVec 32 := 1#32
  let v601 : BitVec 32 := Scalar.shli v600 c1_i32_454
  let c2_i32_452 : BitVec 32 := 2#32
  let v599 : BitVec 32 := Scalar.shrsi v598 c2_i32_452
  let c1_i32_455 : BitVec 32 := 1#32
  let v602 : BitVec 32 := Scalar.andi v600 c1_i32_455
  let v603 : BitVec 32 := Scalar.xori v599 v602
  let v604 : BitVec 32 := Scalar.ori v601 v603
  let v606 : BitVec 32 := Scalar.ori v605 v604
  let c1_i32_459 : BitVec 32 := 1#32
  let v607 : BitVec 32 := Scalar.muli v606 c1_i32_459
  let v608 : BitVec 32 := Scalar.addi c0_i32_460 v607
  v608.toNat
def k0_dev25 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_468 : BitVec 32 := 3#32
  let v622 : BitVec 32 := Scalar.shli v3 c3_i32_468
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c2_i32_463 : BitVec 32 := 2#32
  let v615 : BitVec 32 := Scalar.xori v153 c2_i32_463
  let c3_i32_465 : BitVec 32 := 3#32
  let v617 : BitVec 32 := Scalar.andi v615 c3_i32_465
  let c1_i32_466 : BitVec 32 := 1#32
  let v618 : BitVec 32 := Scalar.shli v617 c1_i32_466
  let c2_i32_464 : BitVec 32 := 2#32
  let v616 : BitVec 32 := Scalar.shrsi v615 c2_i32_464
  let c1_i32_467 : BitVec 32 := 1#32
  let v619 : BitVec 32 := Scalar.andi v617 c1_i32_467
  let v620 : BitVec 32 := Scalar.xori v616 v619
  let v621 : BitVec 32 := Scalar.ori v618 v620
  let v623 : BitVec 32 := Scalar.ori v622 v621
  let c1_i32_471 : BitVec 32 := 1#32
  let v624 : BitVec 32 := Scalar.muli v623 c1_i32_471
  let v625 : BitVec 32 := Scalar.addi c0_i32_472 v624
  v625.toNat
def k0_dev26 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_480 : BitVec 32 := 3#32
  let v639 : BitVec 32 := Scalar.shli v3 c3_i32_480
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c3_i32_475 : BitVec 32 := 3#32
  let v632 : BitVec 32 := Scalar.xori v153 c3_i32_475
  let c3_i32_477 : BitVec 32 := 3#32
  let v634 : BitVec 32 := Scalar.andi v632 c3_i32_477
  let c1_i32_478 : BitVec 32 := 1#32
  let v635 : BitVec 32 := Scalar.shli v634 c1_i32_478
  let c2_i32_476 : BitVec 32 := 2#32
  let v633 : BitVec 32 := Scalar.shrsi v632 c2_i32_476
  let c1_i32_479 : BitVec 32 := 1#32
  let v636 : BitVec 32 := Scalar.andi v634 c1_i32_479
  let v637 : BitVec 32 := Scalar.xori v633 v636
  let v638 : BitVec 32 := Scalar.ori v635 v637
  let v640 : BitVec 32 := Scalar.ori v639 v638
  let c1_i32_483 : BitVec 32 := 1#32
  let v641 : BitVec 32 := Scalar.muli v640 c1_i32_483
  let v642 : BitVec 32 := Scalar.addi c0_i32_484 v641
  v642.toNat
def k0_dev27 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_492 : BitVec 32 := 3#32
  let v656 : BitVec 32 := Scalar.shli v3 c3_i32_492
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c4_i32_487 : BitVec 32 := 4#32
  let v649 : BitVec 32 := Scalar.xori v153 c4_i32_487
  let c3_i32_489 : BitVec 32 := 3#32
  let v651 : BitVec 32 := Scalar.andi v649 c3_i32_489
  let c1_i32_490 : BitVec 32 := 1#32
  let v652 : BitVec 32 := Scalar.shli v651 c1_i32_490
  let c2_i32_488 : BitVec 32 := 2#32
  let v650 : BitVec 32 := Scalar.shrsi v649 c2_i32_488
  let c1_i32_491 : BitVec 32 := 1#32
  let v653 : BitVec 32 := Scalar.andi v651 c1_i32_491
  let v654 : BitVec 32 := Scalar.xori v650 v653
  let v655 : BitVec 32 := Scalar.ori v652 v654
  let v657 : BitVec 32 := Scalar.ori v656 v655
  let c1_i32_495 : BitVec 32 := 1#32
  let v658 : BitVec 32 := Scalar.muli v657 c1_i32_495
  let v659 : BitVec 32 := Scalar.addi c0_i32_496 v658
  v659.toNat
def k0_dev28 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_504 : BitVec 32 := 3#32
  let v673 : BitVec 32 := Scalar.shli v3 c3_i32_504
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c5_i32_499 : BitVec 32 := 5#32
  let v666 : BitVec 32 := Scalar.xori v153 c5_i32_499
  let c3_i32_501 : BitVec 32 := 3#32
  let v668 : BitVec 32 := Scalar.andi v666 c3_i32_501
  let c1_i32_502 : BitVec 32 := 1#32
  let v669 : BitVec 32 := Scalar.shli v668 c1_i32_502
  let c2_i32_500 : BitVec 32 := 2#32
  let v667 : BitVec 32 := Scalar.shrsi v666 c2_i32_500
  let c1_i32_503 : BitVec 32 := 1#32
  let v670 : BitVec 32 := Scalar.andi v668 c1_i32_503
  let v671 : BitVec 32 := Scalar.xori v667 v670
  let v672 : BitVec 32 := Scalar.ori v669 v671
  let v674 : BitVec 32 := Scalar.ori v673 v672
  let c1_i32_507 : BitVec 32 := 1#32
  let v675 : BitVec 32 := Scalar.muli v674 c1_i32_507
  let v676 : BitVec 32 := Scalar.addi c0_i32_508 v675
  v676.toNat
def k0_dev29 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_516 : BitVec 32 := 3#32
  let v690 : BitVec 32 := Scalar.shli v3 c3_i32_516
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c6_i32_511 : BitVec 32 := 6#32
  let v683 : BitVec 32 := Scalar.xori v153 c6_i32_511
  let c3_i32_513 : BitVec 32 := 3#32
  let v685 : BitVec 32 := Scalar.andi v683 c3_i32_513
  let c1_i32_514 : BitVec 32 := 1#32
  let v686 : BitVec 32 := Scalar.shli v685 c1_i32_514
  let c2_i32_512 : BitVec 32 := 2#32
  let v684 : BitVec 32 := Scalar.shrsi v683 c2_i32_512
  let c1_i32_515 : BitVec 32 := 1#32
  let v687 : BitVec 32 := Scalar.andi v685 c1_i32_515
  let v688 : BitVec 32 := Scalar.xori v684 v687
  let v689 : BitVec 32 := Scalar.ori v686 v688
  let v691 : BitVec 32 := Scalar.ori v690 v689
  let c1_i32_519 : BitVec 32 := 1#32
  let v692 : BitVec 32 := Scalar.muli v691 c1_i32_519
  let v693 : BitVec 32 := Scalar.addi c0_i32_520 v692
  v693.toNat
def k0_dev30 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.shrsi v2 c3_i32
  let c3_i32_528 : BitVec 32 := 3#32
  let v707 : BitVec 32 := Scalar.shli v3 c3_i32_528
  let c7_i32 : BitVec 32 := 7#32
  let v4 : BitVec 32 := Scalar.andi v2 c7_i32
  let c1_i32_1 : BitVec 32 := 1#32
  let v6 : BitVec 32 := Scalar.andi v4 c1_i32_1
  let c1_i32_0 : BitVec 32 := 1#32
  let v5 : BitVec 32 := Scalar.shrsi v4 c1_i32_0
  let c1_i32_2 : BitVec 32 := 1#32
  let v7 : BitVec 32 := Scalar.andi v5 c1_i32_2
  let v8 : BitVec 32 := Scalar.xori v6 v7
  let c4_i32 : BitVec 32 := 4#32
  let v152 : BitVec 32 := Scalar.muli v8 c4_i32
  let v153 : BitVec 32 := Scalar.addi v152 v5
  let c7_i32_523 : BitVec 32 := 7#32
  let v700 : BitVec 32 := Scalar.xori v153 c7_i32_523
  let c3_i32_525 : BitVec 32 := 3#32
  let v702 : BitVec 32 := Scalar.andi v700 c3_i32_525
  let c1_i32_526 : BitVec 32 := 1#32
  let v703 : BitVec 32 := Scalar.shli v702 c1_i32_526
  let c2_i32_524 : BitVec 32 := 2#32
  let v701 : BitVec 32 := Scalar.shrsi v700 c2_i32_524
  let c1_i32_527 : BitVec 32 := 1#32
  let v704 : BitVec 32 := Scalar.andi v702 c1_i32_527
  let v705 : BitVec 32 := Scalar.xori v701 v704
  let v706 : BitVec 32 := Scalar.ori v703 v705
  let v708 : BitVec 32 := Scalar.ori v707 v706
  let c1_i32_531 : BitVec 32 := 1#32
  let v709 : BitVec 32 := Scalar.muli v708 c1_i32_531
  let v710 : BitVec 32 := Scalar.addi c0_i32_532 v709
  v710.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S2x128x256x256, .f32⟩
  | .hbm, ⟨19, _⟩ => ⟨S_, .f32⟩
  | .hbm, ⟨20, _⟩ => ⟨S2x128x256x256, .f32⟩
  | .hbm, ⟨21, _⟩ => ⟨S2x128x256x256, .f32⟩
  | .hbm, ⟨22, _⟩ => ⟨S1x1x256x256, .i1⟩
  | .hbm, ⟨23, _⟩ => ⟨S_, .f32⟩
  | .hbm, ⟨24, _⟩ => ⟨S_, .f32⟩
  | .hbm, ⟨25, _⟩ => ⟨S2x128x256x256, .i1⟩
  | .hbm, ⟨26, _⟩ => ⟨S2x128x256x256, .f32⟩
  | .hbm, ⟨27, _⟩ => ⟨S2x128x256x256, .f32⟩
  | .hbm, ⟨28, _⟩ => ⟨S_, .f32⟩
  | .hbm, ⟨29, _⟩ => ⟨S2x128x256, .f32⟩
  | .hbm, ⟨30, _⟩ => ⟨S2x128x256x1, .f32⟩
  | .hbm, ⟨31, _⟩ => ⟨S2x128x256x256, .f32⟩
  | .hbm, ⟨32, _⟩ => ⟨S2x128x256x256, .f32⟩
  | .hbm, ⟨33, _⟩ => ⟨S2x128x256x256, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S2x128x256, .f32⟩
  | .hbm, ⟨39, _⟩ => ⟨S2x128x256x1, .f32⟩
  | .hbm, ⟨40, _⟩ => ⟨S_, .f32⟩
  | .hbm, ⟨41, _⟩ => ⟨S_, .f32⟩
  | .hbm, ⟨42, _⟩ => ⟨S2x128x256x1, .i1⟩
  | .hbm, ⟨43, _⟩ => ⟨S2x128x256x1, .f32⟩
  | .hbm, ⟨44, _⟩ => ⟨S2x128x256x1, .f32⟩
  | .hbm, ⟨45, _⟩ => ⟨S2x128x256x256, .f32⟩
  | .hbm, ⟨46, _⟩ => ⟨S2x128x256x256, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S2x128x256x256, .i1⟩
  | .hbm, ⟨51, _⟩ => ⟨S2x128x256x256, .f32⟩
  | .hbm, ⟨52, _⟩ => ⟨S2x128x256x256, .f32⟩
  | .hbm, ⟨53, _⟩ => ⟨S2x128x64x256, .f32⟩
  | .hbm, ⟨54, _⟩ => ⟨S2x256x128x64, .f32⟩
  | .hbm, ⟨55, _⟩ => ⟨S2x256x8192, .f32⟩
  | .hbm, ⟨56, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Geometry.lean ====
/- The mesh as the exchange sees it: every device has a place in its group of eight (`qd`) and a layer (`zd`);
   `peer j` is the device reached in direction `j`. The printed device numbers and row offsets in these terms. -/
module

public import proofs.«01_k».proof.Proof.Gen.KernelIdeal

@[expose] public section

namespace Cert.KernelIdeal

open Idealize.ShloMosaic Idealize.ShloMosaic.TcCoe Gen

/-- A device's place in its group of eight: the chunk of 64 rows it gathers. -/
def qd (c : Dev nD) : ℕ := (c.val % 2 + c.val % 8 / 2 % 2) % 2 * 4 + c.val % 8 / 2
/-- A device's layer, of four. -/
def zd (c : Dev nD) : ℕ := c.val / 8

theorem qd_lt (c : Dev nD) : qd c < 8 := by revert c; decide +kernel
theorem zd_lt (c : Dev nD) : zd c < 4 := by revert c; decide +kernel

/-- The device at place `q` of layer `z`. -/
def devAt (q z : ℕ) : Dev nD := ⟨(z * 8 + q % 4 * 2 + (q / 4 + q % 4) % 2) % 32, Nat.mod_lt _ (by decide)⟩

theorem qd_devAt : ∀ q : Fin 8, ∀ z : Fin 4, qd (devAt q.val z.val) = q.val := by decide +kernel
theorem zd_devAt : ∀ q : Fin 8, ∀ z : Fin 4, zd (devAt q.val z.val) = z.val := by decide +kernel
theorem devAt_qz (c : Dev nD) : devAt (qd c) (zd c) = c := by revert c; decide +kernel

/-- The device reached in direction `j`: seven within the group of eight, three along the layers. -/
def peer (j : Fin 10) (c : Dev nD) : Dev nD :=
  if j.val < 7 then devAt (qd c ^^^ (j.val + 1)) (zd c) else devAt (qd c) (zd c ^^^ (j.val - 6))

theorem peer_peer (j : Fin 10) (c : Dev nD) : peer j (peer j c) = c := by revert j c; decide +kernel
theorem peer_ne (j : Fin 10) (c : Dev nD) : peer j c ≠ c := by revert j c; decide +kernel

theorem qd_peer_q : ∀ (j : Fin 10) (c : Dev nD), j.val < 7 → qd (peer j c) = qd c ^^^ (j.val + 1) := by decide +kernel
theorem zd_peer_q : ∀ (j : Fin 10) (c : Dev nD), j.val < 7 → zd (peer j c) = zd c := by decide +kernel
theorem qd_peer_z : ∀ (j : Fin 10) (c : Dev nD), 7 ≤ j.val → qd (peer j c) = qd c := by decide +kernel
theorem zd_peer_z : ∀ (j : Fin 10) (c : Dev nD), 7 ≤ j.val → zd (peer j c) = zd c ^^^ (j.val - 6) := by decide +kernel

/-- Where a device's chunk of 64 rows begins. -/
def blk (c : Dev nD) : ℕ := 64 * qd c
/-- Where a device's piece of 16 rows of its chunk begins. -/
def sub (c : Dev nD) : ℕ := 64 * qd c + 16 * zd c

theorem blk_le (c : Dev nD) : blk c + 64 ≤ 512 := by revert c; decide +kernel
theorem sub_le (c : Dev nD) : sub c + 16 ≤ 512 := by revert c; decide +kernel

/-! ## The printed device numbers -/

theorem dev1_eq (d : Dev nD) : (⟨k0_dev1 d, k0_dev1_lt d⟩ : Dev nD) = peer 0 d := by revert d; decide +kernel
theorem dev2_eq (d : Dev nD) : (⟨k0_dev2 d, k0_dev2_lt d⟩ : Dev nD) = peer 1 d := by revert d; decide +kernel
theorem dev3_eq (d : Dev nD) : (⟨k0_dev3 d, k0_dev3_lt d⟩ : Dev nD) = peer 2 d := by revert d; decide +kernel
theorem dev4_eq (d : Dev nD) : (⟨k0_dev4 d, k0_dev4_lt d⟩ : Dev nD) = peer 3 d := by revert d; decide +kernel
theorem dev5_eq (d : Dev nD) : (⟨k0_dev5 d, k0_dev5_lt d⟩ : Dev nD) = peer 4 d := by revert d; decide +kernel
theorem dev6_eq (d : Dev nD) : (⟨k0_dev6 d, k0_dev6_lt d⟩ : Dev nD) = peer 5 d := by revert d; decide +kernel
theorem dev7_eq (d : Dev nD) : (⟨k0_dev7 d, k0_dev7_lt d⟩ : Dev nD) = peer 6 d := by revert d; decide +kernel
theorem dev8_eq (d : Dev nD) : (⟨k0_dev8 d, k0_dev8_lt d⟩ : Dev nD) = peer 7 d := by revert d; decide +kernel
theorem dev9_eq (d : Dev nD) : (⟨k0_dev9 d, k0_dev9_lt d⟩ : Dev nD) = peer 8 d := by revert d; decide +kernel
theorem dev10_eq (d : Dev nD) : (⟨k0_dev10 d, k0_dev10_lt d⟩ : Dev nD) = peer 9 d := by revert d; decide +kernel
theorem dev11_eq (d : Dev nD) : (⟨k0_dev11 d, k0_dev11_lt d⟩ : Dev nD) = peer 0 d := by revert d; decide +kernel
theorem dev12_eq (d : Dev nD) : (⟨k0_dev12 d, k0_dev12_lt d⟩ : Dev nD) = peer 1 d := by revert d; decide +kernel
theorem dev13_eq (d : Dev nD) : (⟨k0_dev13 d, k0_dev13_lt d⟩ : Dev nD) = peer 2 d := by revert d; decide +kernel
theorem dev14_eq (d : Dev nD) : (⟨k0_dev14 d, k0_dev14_lt d⟩ : Dev nD) = peer 3 d := by revert d; decide +kernel
theorem dev15_eq (d : Dev nD) : (⟨k0_dev15 d, k0_dev15_lt d⟩ : Dev nD) = peer 4 d := by revert d; decide +kernel
theorem dev16_eq (d : Dev nD) : (⟨k0_dev16 d, k0_dev16_lt d⟩ : Dev nD) = peer 5 d := by revert d; decide +kernel
theorem dev17_eq (d : Dev nD) : (⟨k0_dev17 d, k0_dev17_lt d⟩ : Dev nD) = peer 6 d := by revert d; decide +kernel
theorem dev18_eq (d : Dev nD) : (⟨k0_dev18 d, k0_dev18_lt d⟩ : Dev nD) = peer 7 d := by revert d; decide +kernel
theorem dev19_eq (d : Dev nD) : (⟨k0_dev19 d, k0_dev19_lt d⟩ : Dev nD) = peer 8 d := by revert d; decide +kernel
theorem dev20_eq (d : Dev nD) : (⟨k0_dev20 d, k0_dev20_lt d⟩ : Dev nD) = peer 9 d := by revert d; decide +kernel
theorem dev21_eq (d : Dev nD) : (⟨k0_dev21 d, k0_dev21_lt d⟩ : Dev nD) = peer 7 d := by revert d; decide +kernel
theorem dev22_eq (d : Dev nD) : (⟨k0_dev22 d, k0_dev22_lt d⟩ : Dev nD) = peer 8 d := by revert d; decide +kernel
theorem dev23_eq (d : Dev nD) : (⟨k0_dev23 d, k0_dev23_lt d⟩ : Dev nD) = peer 9 d := by revert d; decide +kernel
theorem dev24_eq (d : Dev nD) : (⟨k0_dev24 d, k0_dev24_lt d⟩ : Dev nD) = peer 0 d := by revert d; decide +kernel
theorem dev25_eq (d : Dev nD) : (⟨k0_dev25 d, k0_dev25_lt d⟩ : Dev nD) = peer 1 d := by revert d; decide +kernel
theorem dev26_eq (d : Dev nD) : (⟨k0_dev26 d, k0_dev26_lt d⟩ : Dev nD) = peer 2 d := by revert d; decide +kernel
theorem dev27_eq (d : Dev nD) : (⟨k0_dev27 d, k0_dev27_lt d⟩ : Dev nD) = peer 3 d := by revert d; decide +kernel
theorem dev28_eq (d : Dev nD) : (⟨k0_dev28 d, k0_dev28_lt d⟩ : Dev nD) = peer 4 d := by revert d; decide +kernel
theorem dev29_eq (d : Dev nD) : (⟨k0_dev29 d, k0_dev29_lt d⟩ : Dev nD) = peer 5 d := by revert d; decide +kernel
theorem dev30_eq (d : Dev nD) : (⟨k0_dev30 d, k0_dev30_lt d⟩ : Dev nD) = peer 6 d := by revert d; decide +kernel

/-! ## The printed row offsets -/

theorem off1_eq0 (d : Dev nD) : k0_off1 d 1#32 = ![blk (peer 0 d), 0] := by revert d; decide +kernel
theorem off1_eq1 (d : Dev nD) : k0_off1 d 2#32 = ![blk (peer 1 d), 0] := by revert d; decide +kernel
theorem off1_eq2 (d : Dev nD) : k0_off1 d 3#32 = ![blk (peer 2 d), 0] := by revert d; decide +kernel
theorem off1_eq3 (d : Dev nD) : k0_off1 d 4#32 = ![blk (peer 3 d), 0] := by revert d; decide +kernel
theorem off1_eq4 (d : Dev nD) : k0_off1 d 5#32 = ![blk (peer 4 d), 0] := by revert d; decide +kernel
theorem off1_eq5 (d : Dev nD) : k0_off1 d 6#32 = ![blk (peer 5 d), 0] := by revert d; decide +kernel
theorem off1_eq6 (d : Dev nD) : k0_off1 d 7#32 = ![blk (peer 6 d), 0] := by revert d; decide +kernel
theorem off3_eq0 (d : Dev nD) : k0_off3 d 1#32 = ![sub (peer 7 d), 0] := by revert d; decide +kernel
theorem off3_eq1 (d : Dev nD) : k0_off3 d 2#32 = ![sub (peer 8 d), 0] := by revert d; decide +kernel
theorem off3_eq2 (d : Dev nD) : k0_off3 d 3#32 = ![sub (peer 9 d), 0] := by revert d; decide +kernel
theorem off2_eq (d : Dev nD) : k0_off2 d = ![blk d, 0] := by revert d; decide +kernel
theorem off4_eq (d : Dev nD) : k0_off4 d = ![sub d, 0] := by revert d; decide +kernel
theorem off5_eq (d : Dev nD) : k0_off5 d = ![sub d, 0] := by revert d; decide +kernel
theorem off6_eq (d : Dev nD) : k0_off6 d = ![blk d, 0] := by revert d; decide +kernel

end Cert.KernelIdeal

end
-- ==== Proof.Contents.lean ====
/- What the exchange leaves in each buffer, given what every device computed (`A`): the received chunks (`rb`), the sum
   of a chunk over the eight devices of a group (`s1`), the received pieces (`zb`), a piece summed over the layers too
   (`s2`) and the gathered array (`fin`), the same on every device. The rows a copy moves, as sets of elements. -/
module

public import proofs.«01_k».proof.Proof.Geometry
public import proofs.«01_k».proof.Proof.Gen.KernelIdeal.Skeleton
public import Idealize.ShloMosaic.Lib.ValueIdxCore

@[expose] public section

noncomputable section

namespace Cert.KernelIdeal

open Idealize.ShloMosaic Idealize.ShloMosaic.TcCoe Gen

variable {F : FTy → Type} [FloatOps F]

/-- Row `r` (taken within bounds), column `j` of an array of `n` rows of 512. -/
def ix (n : ℕ) (h : 0 < n) (r : ℕ) (j : Fin 512) : (⟨2, ![n, 512]⟩ : Shape).Idx := ValueIdx.ix2 ⟨r % n, Nat.mod_lt _ h⟩ j

abbrev i512 (r : ℕ) (j : Fin 512) : S512x512.Idx := ix 512 (by decide) r j
abbrev i64 (r : ℕ) (j : Fin 512) : S64x512.Idx := ix 64 (by decide) r j
abbrev i16 (r : ℕ) (j : Fin 512) : S16x512.Idx := ix 16 (by decide) r j

/-- Direction `j` of the ten, taken within bounds. -/
def dir (j : ℕ) : Fin 10 := ⟨j % 10, Nat.mod_lt _ (by decide)⟩

section
variable (A : Dev nD → Vec F S512x512 .f32)

/-- What a device computed, at the width the copies carry. -/
def p16 (c : Dev nD) : Vec F S512x512 .bf16 := k0_pay18 (A c)
/-- A device's own chunk of what it computed. -/
def own (c : Dev nD) : Vec F S64x512 .f32 := fun i => A c (i512 (blk c + (i 0).val) (i 1))
/-- The seven chunks a device receives from its group. -/
def rb (c : Dev nD) : Vec F S448x512 .bf16 := fun i => p16 A (peer (dir ((i 0).val / 64)) c) (i512 (blk c + (i 0).val % 64) (i 1))
/-- A chunk summed over the group. -/
def s1 (c : Dev nD) : Vec F S64x512 .f32 := k0_pay20 (own A c) (rb A c)
/-- The same at the width the copies carry. -/
def s1h (c : Dev nD) : Vec F S64x512 .bf16 := k0_pay22 (k0_pay21 (own A c) (rb A c))
/-- The three pieces a device receives from the other layers. -/
def zb (c : Dev nD) : Vec F S48x512 .bf16 := fun i => s1h A (peer (dir (7 + (i 0).val / 16)) c) (i64 (16 * zd c + (i 0).val % 16) (i 1))
/-- A piece summed over the group and the layers. -/
def s2 (c : Dev nD) : Vec F S16x512 .bf16 := k0_pay23 (fun i => s1 A c (i64 (16 * zd c + (i 0).val) (i 1))) (zb A c)
/-- The whole sum, as every device holds it after the gathers. -/
def fin : Vec F S512x512 .bf16 := fun i => s2 A (devAt ((i 0).val / 64) ((i 0).val % 64 / 16)) (i16 (i 0).val (i 1))
/-- Contents of the working array that hold a chunk's sum on the device's own chunk. -/
def mid (c : Dev nD) : Vec F S512x512 .bf16 := fun i => s1h A c (i64 (i 0).val (i 1))
/-- Contents of the computed array once its own chunk is summed over the group. -/
def acc1 (c : Dev nD) : Vec F S512x512 .f32 := fun i => if (i 0).val / 64 = qd c then s1 A c (i64 (i 0).val (i 1)) else A c i
end

/-! ## Rows -/

/-- The elements of block `v` of `g` rows of an array of `n` rows. -/
def rows (n g v : ℕ) : Finset (⟨2, ![n, 512]⟩ : Shape).Idx := Finset.univ.filter fun i => (i 0).val / g = v

theorem mem_rows {n g v : ℕ} {i : (⟨2, ![n, 512]⟩ : Shape).Idx} : i ∈ rows n g v ↔ (i 0).val / g = v := by
  simp [rows]

theorem set_rows (n g v : ℕ) (hg : 0 < g) (inb) :
    (Rect.unit (s := ⟨2, ![n, 512]⟩) ![g * v, 0] ![g, 512] inb).set = rows n g v := by
  ext i
  have h1 : (i 1).val < 512 := (i 1).isLt
  rw [Rect.mem_set_unit, mem_rows, Fin.forall_fin_two]
  simp only [Matrix.cons_val_zero, Matrix.cons_val_one]
  rw [Nat.div_eq_iff hg]
  constructor
  · rintro ⟨⟨h, h'⟩, -⟩
    rw [Nat.mul_comm v]; omega
  · intro ⟨h, h'⟩
    rw [Nat.mul_comm v] at *
    exact ⟨⟨h, by omega⟩, Nat.zero_le _, by omega⟩

theorem rows_disjoint {n g v v' : ℕ} (h : v ≠ v') : Disjoint (rows n g v) (rows n g v') :=
  Finset.disjoint_left.mpr fun i hi hi' => h ((mem_rows.mp hi).symm.trans (mem_rows.mp hi'))

/-- A piece's number among the 32 pieces of 16 rows. -/
def sk (c : Dev nD) : ℕ := 4 * qd c + zd c

theorem blk_eq (c : Dev nD) : blk c = 64 * qd c := rfl
theorem sub_eq (c : Dev nD) : sub c = 16 * sk c := by unfold sub sk; omega

theorem chunk_cover : ∀ (c : Dev nD) (q : Fin 8), q.val = qd c ∨ ∃ j : Fin 7, q.val = qd (peer (dir j.val) c) := by decide +kernel
theorem piece_cover : ∀ (c : Dev nD) (z : Fin 4), z.val = zd c ∨ ∃ j : Fin 3, z.val = zd (peer (dir (7 + j.val)) c) := by decide +kernel
theorem qd_peer_ne : ∀ (c : Dev nD) (j : Fin 7), qd (peer (dir j.val) c) ≠ qd c := by decide +kernel
theorem qd_peer_inj : ∀ (c : Dev nD) (j j' : Fin 7), j ≠ j' → qd (peer (dir j.val) c) ≠ qd (peer (dir j'.val) c) := by decide +kernel
theorem sk_peer_ne : ∀ (c : Dev nD) (j : Fin 3), sk (peer (dir (7 + j.val)) c) ≠ sk c := by decide +kernel
theorem sk_peer_inj : ∀ (c : Dev nD) (j j' : Fin 3), j ≠ j' → sk (peer (dir (7 + j.val)) c) ≠ sk (peer (dir (7 + j'.val)) c) := by decide +kernel
theorem qd_peer_layer : ∀ (c : Dev nD) (j : Fin 3), qd (peer (dir (7 + j.val)) c) = qd c := by decide +kernel

/-- The working array is the own chunk and the group's chunks. -/
theorem chunks_univ (c : Dev nD) :
    (Finset.univ : Finset (⟨2, ![512, 512]⟩ : Shape).Idx)
      = rows 512 64 (qd c) ∪ (Finset.univ : Finset (Fin 7)).biUnion fun j => rows 512 64 (qd (peer (dir j.val) c)) := by
  ext i
  have h0 : (i 0).val < 512 := (i 0).isLt
  simp only [Finset.mem_univ, Finset.mem_union, Finset.mem_biUnion, mem_rows, true_and, true_iff]
  exact chunk_cover c ⟨(i 0).val / 64, by omega⟩

/-- A chunk is the own piece and the other layers' pieces. -/
theorem pieces_chunk (c : Dev nD) :
    rows 512 64 (qd c)
      = rows 512 16 (sk c) ∪ (Finset.univ : Finset (Fin 3)).biUnion fun j => rows 512 16 (sk (peer (dir (7 + j.val)) c)) := by
  ext i
  simp only [Finset.mem_univ, Finset.mem_union, Finset.mem_biUnion, mem_rows, true_and]
  have hz := zd_lt c
  constructor
  · intro h
    rcases piece_cover c ⟨(i 0).val / 16 % 4, by omega⟩ with h' | ⟨j, h'⟩
    · left; dsimp only at h'; unfold sk; omega
    · right; refine ⟨j, ?_⟩
      dsimp only at h'; have := qd_peer_layer c j; unfold sk; omega
  · rintro (h | ⟨j, h⟩)
    · unfold sk at h; omega
    · have := qd_peer_layer c j
      have := zd_lt (peer (dir (7 + j.val)) c)
      unfold sk at h; omega

theorem slots_univ : (Finset.univ : Finset (⟨2, ![448, 512]⟩ : Shape).Idx) = (Finset.univ : Finset (Fin 7)).biUnion fun j => rows 448 64 j.val := by
  ext i
  have h0 : (i 0).val < 448 := (i 0).isLt
  simp only [Finset.mem_univ, Finset.mem_biUnion, mem_rows, true_and, true_iff]
  exact ⟨⟨(i 0).val / 64, by omega⟩, rfl⟩

theorem zslots_univ : (Finset.univ : Finset (⟨2, ![48, 512]⟩ : Shape).Idx) = (Finset.univ : Finset (Fin 3)).biUnion fun j => rows 48 16 j.val := by
  ext i
  have h0 : (i 0).val < 48 := (i 0).isLt
  simp only [Finset.mem_univ, Finset.mem_biUnion, mem_rows, true_and, true_iff]
  exact ⟨⟨(i 0).val / 16, by omega⟩, rfl⟩

/-! ## What a copy or a store leaves -/

/-- Contents written through a view are any contents that read the same through it, on the view's elements. -/
theorem write_eq_on {κ : Kind} {sp : Space} {s : Shape} {e : EltTy} {Val : EltTy → Type} (v : View sig κ sp s e)
    (f g : v.ty.Contents Val) (w : s.Idx → Val e) (h : ∀ x, w x = v.read Val g x) :
    ∀ i ∈ v.set, v.write Val f w Finset.univ i = g i := by
  intro i hi
  obtain ⟨x, -, rfl⟩ := Finset.mem_map.mp hi
  rw [View.write_emb_of_mem _ _ (Finset.mem_univ x), h, View.read_apply, cast_cast, cast_eq]

/-- The elements a unit rectangle at `off` names. -/
theorem emb_rows (n g v : ℕ) (hn : 0 < n) (inb) (x : (⟨2, ![g, 512]⟩ : Shape).Idx) (hlt : g * v + (x 0).val < n) :
    (Rect.unit (s := ⟨2, ![n, 512]⟩) ![g * v, 0] ![g, 512] inb).emb x = ix n hn (g * v + (x 0).val) (x 1) := by
  funext a
  apply Fin.ext
  revert a
  rw [Fin.forall_fin_two]
  constructor
  · show g * v + 1 * (x 0).val = (g * v + (x 0).val) % n
    rw [Nat.mod_eq_of_lt hlt, Nat.one_mul]
  · show 0 + 1 * (x 1).val = (x 1).val
    omega

theorem ix_eta (n : ℕ) (h : 0 < n) (i : (⟨2, ![n, 512]⟩ : Shape).Idx) : ix n h (i 0).val (i 1) = i := by
  funext a
  apply Fin.ext
  revert a
  rw [Fin.forall_fin_two]
  exact ⟨Nat.mod_eq_of_lt (i 0).isLt, rfl⟩

end Cert.KernelIdeal

end

end
-- ==== Proof.Schedule.lean ====
/- The exchange's protocol: each device's cells (the entry semaphore, a send and a receive cell per transfer), who pays
   each of them with what, what a device owes at launch and the order the waits respect. -/
module

public import proofs.«01_k».proof.Proof.Contents
public import Idealize.ShloMosaic.Lib.Rounds
public import Idealize.ShloMosaic.Lib.Transfers
public import Idealize.ShloMosaic.Lib.Pipeline.Kit
public import Idealize.ShloMosaic.Lib.Pipeline.Regions
public import Idealize.ShloMosaic.Lib.Pipeline.RegionTalk
public import Idealize.ShloMosaic.Lib.Tactic

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's rounds and the exchange's, whose duties are numbered by direction. -/
abbrev UU : Type := UR sig nD τ × URounds (GSem nD τ sig) (Fin 10)

local notation "𝕄" => MT nD τ sig Unit (Elt F) ℕ UU ℕ

abbrev EP : Emb (UR sig nD τ) (MT nD τ sig Unit (Elt F) ℕ UU ℕ) := embL
abbrev ER : Emb (URounds (GSem nD τ sig) (Fin 10)) (MT nD τ sig Unit (Elt F) ℕ UU ℕ) := embR

/-! ## The twenty transfers: seven chunk exchanges, three piece exchanges, three piece gathers, seven chunk gathers -/

/-- The direction transfer `k` goes. -/
def kdir (k : ℕ) : Fin 10 := dir (if k < 10 then k else if k < 13 then k - 3 else k - 13)
/-- Transfer `k`'s semaphore on the sender. -/
def sendNum (k : ℕ) : ℕ := if k < 7 then 6 + k else if k < 10 then 13 + k else if k < 13 then 16 + k else 19 + k
/-- Transfer `k`'s semaphore on the receiver. -/
def recvNum (k : ℕ) : ℕ := if k < 7 then 13 + k else if k < 10 then 16 + k else if k < 13 then 19 + k else 26 + k
def semOf (n : ℕ) : DmaSem sig := ⟨n % 46, Nat.mod_lt _ (by decide)⟩

abbrev barS : Sem sig := ⟨0, by decide⟩
abbrev barCell (c : Dev nD) : GSem nD τ sig := ((c : Thread nD τ), .reg barS)
abbrev sendCell (k : ℕ) (c : Dev nD) : GSem nD τ sig := ((c : Thread nD τ), .dma (semOf (sendNum k)))
abbrev recvCell (k : ℕ) (c : Dev nD) : GSem nD τ sig := ((c : Thread nD τ), .dma (semOf (recvNum k)))

abbrev m6 : Memref sig .tc .vmem S512x512 .f32 := Memref.whole cc0_scratch0
abbrev m7 : Memref sig .tc .vmem S512x512 .bf16 := Memref.whole cc0_scratch1
abbrev m8 : Memref sig .tc .vmem S448x512 .bf16 := Memref.whole cc0_scratch2
abbrev m9 : Memref sig .tc .vmem S48x512 .bf16 := Memref.whole cc0_scratch3

/-- What the seven chunk exchanges credit, and the other kinds. -/
def amtA : ℕ := (m8.slice (Rect.unit (s := S448x512) ![0, 0] S64x512.size inb_S448x512_S64x512_0_0) (fun _ => rfl) : Memref sig .tc .vmem S64x512 .bf16).view.dmaCredit
def amtB : ℕ := (m9.slice (Rect.unit (s := S48x512) ![0, 0] S16x512.size inb_S48x512_S16x512_0_0) (fun _ => rfl) : Memref sig .tc .vmem S16x512 .bf16).view.dmaCredit
def amtC : ℕ := (m7.slice (Rect.unit (s := S512x512) (k0_off5 0) S16x512.size (k0_off5_inb 0)) (fun _ => rfl) : Memref sig .tc .vmem S16x512 .bf16).view.dmaCredit
def amtD : ℕ := (m7.slice (Rect.unit (s := S512x512) (k0_off6 0) S64x512.size (k0_off6_inb 0)) (fun _ => rfl) : Memref sig .tc .vmem S64x512 .bf16).view.dmaCredit
/-- What transfer `k` credits. -/
def amt (k : ℕ) : ℕ := if k < 7 then amtA else if k < 10 then amtB else if k < 13 then amtC else amtD

theorem amt_pos (k : ℕ) : 0 < amt k := by
  unfold amt amtA amtB amtC amtD
  (repeat' split) <;> exact View.dmaCredit_pos _ (by decide)

/-! ## The working buffers' elements -/

section
variable (c : Dev nD)
abbrev at6 (f : Vec F S512x512 .f32) : sProp 𝕄 := m6.view.loc (c : Thread nD τ) ↦{fullShare} f
abbrev at7 (S : Finset S512x512.Idx) (q : PosShare TreeShare) (f : Vec F S512x512 .bf16) : sProp 𝕄 := m7.view.loc (c : Thread nD τ) ↦[S]{q} f
abbrev at8 (S : Finset S448x512.Idx) (f : Vec F S448x512 .bf16) : sProp 𝕄 := m8.view.loc (c : Thread nD τ) ↦[S]{fullShare} f
abbrev at9 (S : Finset S48x512.Idx) (f : Vec F S48x512 .bf16) : sProp 𝕄 := m9.view.loc (c : Thread nD τ) ↦[S]{fullShare} f
end

/-- The part of a piece lent to piece gather `k`; what stays while the three run; the part of a chunk lent to chunk gather
    `k`; what stays while all run. -/
def tokC (k : ℕ) : PosShare TreeShare := Transfers.shareTokN fullShare (k - 10)
def keepC : PosShare TreeShare := Transfers.shareDrop fullShare 3
def tokD (k : ℕ) : PosShare TreeShare := Transfers.shareTokN keepC (k - 13)
def keepD : PosShare TreeShare := Transfers.shareDrop keepC 7

section
variable (A : Dev nD → Vec F S512x512 .f32)

/-- The entry signal from direction `j`: the signaller's slot this device will write, and that the two receive cells this
    device will pay there are open. -/
def barPay (j : Fin 10) (d : Dev nD) : sProp 𝕄 :=
  if j.val < 7 then
    iprop((∃ f, at8 (peer j d) (rows 448 64 j.val) f) ∗ reached ER (recvCell j.val (peer j d)) 0 ∗ reached ER (recvCell (13 + j.val) (peer j d)) 0)
  else
    iprop((∃ f, at9 (peer j d) (rows 48 16 (j.val - 7)) f) ∗ reached ER (recvCell j.val (peer j d)) 0 ∗ reached ER (recvCell (3 + j.val) (peer j d)) 0)

/-- What a sender gets back: nothing from the exchanges (their sources go to the receiver), the lent part from the gathers. -/
def sendPay (k : ℕ) (c : Dev nD) : sProp 𝕄 :=
  if k < 10 then iprop(emp)
  else if k < 13 then at7 c (rows 512 16 (sk c)) (tokC k) (fin A)
  else at7 c (rows 512 64 (qd c)) (tokD k) (fin A)

/-- What a receiver gets: the landed rows, and from the exchanges the sender's rows, which this device will gather into. -/
def recvPay (k : ℕ) (d : Dev nD) : sProp 𝕄 :=
  if k < 7 then iprop(at8 d (rows 448 64 k) (rb A d) ∗ ∃ f, at7 (peer (kdir k) d) (rows 512 64 (qd d)) fullShare f)
  else if k < 10 then iprop(at9 d (rows 48 16 (k - 7)) (zb A d) ∗ ∃ f, at7 (peer (kdir k) d) (rows 512 16 (sk d)) fullShare f)
  else if k < 13 then at7 d (rows 512 16 (sk (peer (kdir k) d))) fullShare (fin A)
  else at7 d (rows 512 64 (qd (peer (kdir k) d))) fullShare (fin A)

/-- The payload of the transfer semaphore number `n`. -/
def semPay (n : ℕ) (c : Dev nD) : sProp 𝕄 :=
  if n < 6 then iprop(emp) else if n < 13 then sendPay A (n - 6) c else if n < 20 then recvPay A (n - 13) c
  else if n < 23 then sendPay A (n - 13) c else if n < 26 then recvPay A (n - 16) c
  else if n < 29 then sendPay A (n - 16) c else if n < 32 then recvPay A (n - 19) c
  else if n < 39 then sendPay A (n - 19) c else recvPay A (n - 26) c

/-- The amount of the transfer semaphore number `n`. -/
def semAmt (n : ℕ) : ℕ := if n < 20 then amtA else if n < 26 then amtB else if n < 32 then amtC else amtD

theorem semAmt_pos (n : ℕ) : 0 < semAmt n := by
  unfold semAmt amtA amtB amtC amtD
  (repeat' split) <;> exact View.dmaCredit_pos _ (by decide)

/-- One round on every cell: ten duties of one unit on the entry semaphore, one duty on each transfer cell. -/
def Rd : Rounds.Schedule (GSem nD τ sig) (Fin 10) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma s => semAmt s.val
  payload g _ d := match g.2 with | .reg _ => barPay d g.1.1 | .dma s => semPay A s.val g.1.1
  amount_pos g _ _ _ := by
    rcases g with ⟨t, _ | s⟩
    · exact Nat.one_pos
    · exact semAmt_pos _

instance barPay_storable (j : Fin 10) (d : Dev nD) : BI.Storable (upEmb : UEmb _ 𝕄) (barPay (F := F) j d) := by
  unfold barPay; split <;> infer_instance
instance sendPay_storable (k : ℕ) (d : Dev nD) : BI.Storable (upEmb : UEmb _ 𝕄) (sendPay A k d) := by
  unfold sendPay; (repeat' split) <;> infer_instance
instance recvPay_storable (k : ℕ) (d : Dev nD) : BI.Storable (upEmb : UEmb _ 𝕄) (recvPay A k d) := by
  unfold recvPay; (repeat' split) <;> infer_instance

instance Rd_payload_storable (g : GSem nD τ sig) (r : ℕ) (d : Fin 10) :
    BI.Storable (upEmb : UEmb _ 𝕄) ((Rd A).payload g r d) := by
  rcases g with ⟨t, _ | s⟩
  · show BI.Storable upEmb (barPay d t.1)
    infer_instance
  · show BI.Storable upEmb (semPay A s.val t.1)
    unfold semPay
    (repeat' split) <;> infer_instance

/-! ## The schedule read at each cell -/

theorem forall_lt20 {P : ℕ → Prop} (h : ∀ k : Fin 20, P k.val) : ∀ k, k < 20 → P k := fun k hk => h ⟨k, hk⟩

theorem sendNum_lt : ∀ k < 20, sendNum k < 46 := forall_lt20 (by decide)
theorem recvNum_lt : ∀ k < 20, recvNum k < 46 := forall_lt20 (by decide)
theorem semOf_send (k : ℕ) (hk : k < 20) : (semOf (sendNum k)).val = sendNum k := Nat.mod_eq_of_lt (sendNum_lt k hk)
theorem semOf_recv (k : ℕ) (hk : k < 20) : (semOf (recvNum k)).val = recvNum k := Nat.mod_eq_of_lt (recvNum_lt k hk)

theorem semPay_send (k : ℕ) (hk : k < 20) (c : Dev nD) : semPay A (sendNum k) c = sendPay A k c := by
  by_cases h0 : k < 7
  · rw [show sendNum k = 6 + k by unfold sendNum; simp only [h0, if_true, if_false]]
    unfold semPay; rw [if_neg (by omega : ¬ 6 + k < 6), if_pos (by omega : 6 + k < 13)]; congr 1; omega
  by_cases h1 : k < 10
  · rw [show sendNum k = 13 + k by unfold sendNum; simp only [h0, h1, if_true, if_false]]
    unfold semPay; rw [if_neg (by omega : ¬ 13 + k < 6), if_neg (by omega : ¬ 13 + k < 13), if_neg (by omega : ¬ 13 + k < 20), if_pos (by omega : 13 + k < 23)]; congr 1; omega
  by_cases h2 : k < 13
  · rw [show sendNum k = 16 + k by unfold sendNum; simp only [h0, h1, h2, if_true, if_false]]
    unfold semPay; rw [if_neg (by omega : ¬ 16 + k < 6), if_neg (by omega : ¬ 16 + k < 13), if_neg (by omega : ¬ 16 + k < 20), if_neg (by omega : ¬ 16 + k < 23), if_neg (by omega : ¬ 16 + k < 26), if_pos (by omega : 16 + k < 29)]; congr 1; omega
  rw [show sendNum k = 19 + k by unfold sendNum; simp only [h0, h1, h2, if_false]]
  unfold semPay; rw [if_neg (by omega : ¬ 19 + k < 6), if_neg (by omega : ¬ 19 + k < 13), if_neg (by omega : ¬ 19 + k < 20), if_neg (by omega : ¬ 19 + k < 23), if_neg (by omega : ¬ 19 + k < 26), if_neg (by omega : ¬ 19 + k < 29), if_neg (by omega : ¬ 19 + k < 32), if_pos (by omega : 19 + k < 39)]; congr 1; omega
theorem semPay_recv (k : ℕ) (hk : k < 20) (c : Dev nD) : semPay A (recvNum k) c = recvPay A k c := by
  by_cases h0 : k < 7
  · rw [show recvNum k = 13 + k by unfold recvNum; simp only [h0, if_true, if_false]]
    unfold semPay; rw [if_neg (by omega : ¬ 13 + k < 6), if_neg (by omega : ¬ 13 + k < 13), if_pos (by omega : 13 + k < 20)]; congr 1; omega
  by_cases h1 : k < 10
  · rw [show recvNum k = 16 + k by unfold recvNum; simp only [h0, h1, if_true, if_false]]
    unfold semPay; rw [if_neg (by omega : ¬ 16 + k < 6), if_neg (by omega : ¬ 16 + k < 13), if_neg (by omega : ¬ 16 + k < 20), if_neg (by omega : ¬ 16 + k < 23), if_pos (by omega : 16 + k < 26)]; congr 1; omega
  by_cases h2 : k < 13
  · rw [show recvNum k = 19 + k by unfold recvNum; simp only [h0, h1, h2, if_true, if_false]]
    unfold semPay; rw [if_neg (by omega : ¬ 19 + k < 6), if_neg (by omega : ¬ 19 + k < 13), if_neg (by omega : ¬ 19 + k < 20), if_neg (by omega : ¬ 19 + k < 23), if_neg (by omega : ¬ 19 + k < 26), if_neg (by omega : ¬ 19 + k < 29), if_pos (by omega : 19 + k < 32)]; congr 1; omega
  rw [show recvNum k = 26 + k by unfold recvNum; simp only [h0, h1, h2, if_false]]
  unfold semPay; rw [if_neg (by omega : ¬ 26 + k < 6), if_neg (by omega : ¬ 26 + k < 13), if_neg (by omega : ¬ 26 + k < 20), if_neg (by omega : ¬ 26 + k < 23), if_neg (by omega : ¬ 26 + k < 26), if_neg (by omega : ¬ 26 + k < 29), if_neg (by omega : ¬ 26 + k < 32), if_neg (by omega : ¬ 26 + k < 39)]; congr 1; omega
theorem semAmt_send (k : ℕ) (hk : k < 20) : semAmt (sendNum k) = amt k := by
  have h : ∀ k < 20, (sendNum k < 20 ↔ k < 7) ∧ (sendNum k < 26 ↔ k < 10) ∧ (sendNum k < 32 ↔ k < 13) := forall_lt20 (by decide)
  unfold semAmt amt
  simp only [h k hk]
theorem semAmt_recv (k : ℕ) (hk : k < 20) : semAmt (recvNum k) = amt k := by
  have h : ∀ k < 20, (recvNum k < 20 ↔ k < 7) ∧ (recvNum k < 26 ↔ k < 10) ∧ (recvNum k < 32 ↔ k < 13) := forall_lt20 (by decide)
  unfold semAmt amt
  simp only [h k hk]

section
variable (c : Dev nD) (k : ℕ) (hk : k < 20)

theorem duties_bar : (Rd A).duties (barCell c) 0 = Finset.univ := by dsimp only [Rd]; exact if_pos ⟨rfl, rfl⟩
include hk in
theorem duties_send : (Rd A).duties (sendCell k c) 0 = {0} := by
  dsimp only [Rd]; rw [if_pos ⟨rfl, rfl⟩, semOf_send k hk, if_pos]
  revert k; exact forall_lt20 (by decide)
include hk in
theorem duties_recv : (Rd A).duties (recvCell k c) 0 = {0} := by
  dsimp only [Rd]; rw [if_pos ⟨rfl, rfl⟩, semOf_recv k hk, if_pos]
  revert k; exact forall_lt20 (by decide)
theorem duties_later (g : GSem nD τ sig) : ∀ r, 1 ≤ r → (Rd A).duties g r = ∅ :=
  fun r hr => by dsimp only [Rd]; rw [if_neg (fun h => by omega)]

theorem amount_bar (u : Fin 10) : (Rd A).amount (barCell c) 0 u = 1 := rfl
include hk in
theorem amount_send (u : Fin 10) : (Rd A).amount (sendCell k c) 0 u = amt k := by
  dsimp only [Rd]; rw [semOf_send k hk, semAmt_send k hk]
include hk in
theorem amount_recv (u : Fin 10) : (Rd A).amount (recvCell k c) 0 u = amt k := by
  dsimp only [Rd]; rw [semOf_recv k hk, semAmt_recv k hk]

theorem expect_bar : (Rd A).expect (barCell c) 0 = 10 := by
  unfold Schedule.expect Schedule.amountOf; rw [duties_bar]; rfl
include hk in
theorem expect_send : (Rd A).expect (sendCell k c) 0 = amt k := by
  unfold Schedule.expect Schedule.amountOf; rw [duties_send A c k hk, Finset.sum_singleton, amount_send A c k hk]
include hk in
theorem expect_recv : (Rd A).expect (recvCell k c) 0 = amt k := by
  unfold Schedule.expect Schedule.amountOf; rw [duties_recv A c k hk, Finset.sum_singleton, amount_recv A c k hk]

theorem payload_bar (u : Fin 10) : (Rd A).payload (barCell c) 0 u = barPay u c := rfl
include hk in
theorem payload_send (u : Fin 10) : (Rd A).payload (sendCell k c) 0 u = sendPay A k c := by
  dsimp only [Rd]; rw [semOf_send k hk, semPay_send A k hk]
include hk in
theorem payload_recv (u : Fin 10) : (Rd A).payload (recvCell k c) 0 u = recvPay A k c := by
  dsimp only [Rd]; rw [semOf_recv k hk, semPay_recv A k hk]

theorem rest_bar : bigSep ((Rd A).duties (barCell c) 0 \ ∅) (fun u => (Rd A).payload (barCell c) 0 u) = bigSep Finset.univ (fun j => barPay j c) := by
  rw [Finset.sdiff_empty, duties_bar]; rfl
include hk in
theorem rest_send : bigSep ((Rd A).duties (sendCell k c) 0 \ ∅) (fun u => (Rd A).payload (sendCell k c) 0 u) = sendPay A k c := by
  rw [Finset.sdiff_empty, duties_send A c k hk, bigSep_singleton, payload_send A c k hk]
include hk in
theorem rest_recv : bigSep ((Rd A).duties (recvCell k c) 0 \ ∅) (fun u => (Rd A).payload (recvCell k c) 0 u) = recvPay A k c := by
  rw [Finset.sdiff_empty, duties_recv A c k hk, bigSep_singleton, payload_recv A c k hk]
end

end

/-! ## What each device owes at launch; the order of the waits -/

theorem Ico_insert {a b : ℕ} (h : a < b) : Finset.Ico a b = insert a (Finset.Ico (a + 1) b) := by
  ext i; simp only [Finset.mem_Ico, Finset.mem_insert]; omega

/-- The cell the `i`-th payment goes to: ten entry signals, then the twenty transfers. -/
def payCell (i : ℕ) (c : Dev nD) : GSem nD τ sig :=
  if i < 10 then barCell (peer (dir i) c) else recvCell (i - 10) (peer (kdir (i - 10)) c)
def payAmt (i : ℕ) : ℕ := if i < 10 then 1 else amt (i - 10)
/-- What is owed once `n` payments are made. -/
def owe (n : ℕ) (c : Dev nD) : CellTallies nD τ sig Unit := ∑ i ∈ Finset.Ico n 30, tallyAt (payCell i c) () (payAmt i)

theorem owe_step {n : ℕ} (hn : n < 30) (c : Dev nD) : owe n c = owe (n + 1) c + tallyAt (payCell n c) () (payAmt n) := by
  unfold owe; rw [Ico_insert hn, Finset.sum_insert (by simp), add_comm]
theorem owe_end (c : Dev nD) : owe 30 c = 0 := by unfold owe; rw [Finset.Ico_self, Finset.sum_empty]

def L (g : GSem nD τ sig) : Finset Unit := if g.1.2 = .tc then {()} else ∅
def semLv (n : ℕ) : ℕ :=
  if n < 13 then 0 else if n < 20 then 2 else if n < 23 then 0 else if n < 26 then 3 else if n < 29 then 0
  else if n < 32 then 4 else if n < 39 then 0 else 5
/-- The entry semaphores first, then the receive cells kind by kind. -/
def lv (g : GSem nD τ sig) (_ : Unit) : ℕ := match g.2 with | .reg _ => 1 | .dma s => semLv s.val

theorem L_of_ne (g : GSem nD τ sig) (h : g.1.2 ≠ .tc) : L g = ∅ := if_neg h
theorem L_tc (c : Dev nD) (sm : SemLoc sig) : L ((c : Thread nD τ), sm) = {()} := if_pos rfl

def payLv (i : ℕ) : ℕ := if i < 10 then 1 else if i < 17 then 2 else if i < 20 then 3 else if i < 23 then 4 else 5

theorem payCell_tc (i : ℕ) (c : Dev nD) : (payCell i c).1.2 = .tc := by unfold payCell; split <;> rfl
theorem lv_payCell : ∀ i < 30, ∀ c, lv (payCell i c) () = payLv i := by
  intro i hi c
  unfold payCell
  split
  · show 1 = payLv i
    unfold payLv; rw [if_pos (by assumption)]
  · show semLv (semOf (recvNum (i - 10))).val = _
    rw [semOf_recv _ (by omega)]
    have h : ∀ k < 20, semLv (recvNum k) = payLv (10 + k) := forall_lt20 (by decide)
    rw [h _ (by omega)]; congr 1; omega

theorem owe_pos {n : ℕ} {c : Dev nD} {g : GSem nD τ sig} {u : Unit} (h : 0 < owe n c g u) : ∃ i ∈ Finset.Ico n 30, g = payCell i c := by
  by_contra hne
  have h0 : ∀ i ∈ Finset.Ico n 30, tallyAt (payCell i c) () (payAmt i) g u = 0 := fun i hi => by
    rw [tallyAt_apply, if_neg]
    rintro ⟨rfl, -⟩
    exact hne ⟨i, hi, rfl⟩
  have : owe n c g u = 0 := by
    unfold owe
    rw [Finset.sum_apply, Finsupp.finset_sum_apply]
    exact Finset.sum_eq_zero h0
  omega

/-- A wait may be entered when everything still owed lies above its cell. -/
theorem mayWait (c : Dev nD) (sm : SemLoc sig) (n ℓ : ℕ) (hℓ : lv ((c : Thread nD τ), sm) () = ℓ)
    (h : ∀ i ∈ Finset.Ico n 30, ℓ < payLv i) :
    (levAts L lv : sProp 𝕄) ⊢ MayWait (c : Thread nD τ) sm () (owe n c) :=
  MayOwe.of_cut (L := L) (lev := lv) ℓ (fun p hp => by rw [Finset.mem_singleton.mp hp, L_tc]; exact Finset.mem_singleton_self _)
    (fun g u hg => by
      obtain ⟨i, hi, rfl⟩ := owe_pos hg
      unfold L; rw [if_pos (payCell_tc i c)]; exact Finset.mem_singleton_self _)
    (fun p hp => by rw [Finset.mem_singleton.mp hp]; exact hℓ.le)
    (fun g u hg => by
      obtain ⟨i, hi, rfl⟩ := owe_pos hg
      rw [lv_payCell i (Finset.mem_Ico.mp hi).2]; exact h i hi)

theorem lv_recv (k : ℕ) (hk : k < 20) (c : Dev nD) : lv (recvCell k c) () = payLv (10 + k) := by
  show semLv (semOf (recvNum k)).val = _
  rw [semOf_recv _ hk]
  revert k; exact forall_lt20 (by decide)
theorem lv_send (k : ℕ) (hk : k < 20) (c : Dev nD) : lv (sendCell k c) () = 0 := by
  show semLv (semOf (sendNum k)).val = _
  rw [semOf_send _ hk]
  revert k; exact forall_lt20 (by decide)

end Cert.KernelIdeal

end

end
-- ==== Proof.Steps.lean ====
/- The steps of the exchange, each once for all transfers: a copy issued, a receive wait, a send wait, an entry signal and
   the entry wait. `net s r w` is a device's bookkeeping after `s` copies are issued, `r` landings and `w` completed
   copies are waited for. -/
module

public import proofs.«01_k».proof.Proof.Schedule
public import Idealize.SL.BI.BigOpNat

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Dev nD → Vec F S512x512 .f32) (K : GSem nD τ sig → ℕ) (c : Dev nD)

/-- One of the twenty. -/
theorem of_all (P : ℕ → sProp 𝕄) (k : ℕ) (hk : k < 20) : bigSep (Finset.Ico 0 20) P ⊢ P k :=
  bigSep_elim (Finset.mem_Ico.mpr ⟨Nat.zero_le _, hk⟩)
/-- One device's. -/
theorem of_dev (P : Dev nD → sProp 𝕄) (d : Dev nD) : bigSep Finset.univ P ⊢ P d := bigSep_elim (Finset.mem_univ d)

/-- Every cell's invariant, on every device. -/
def recs : sProp 𝕄 :=
  bigSep Finset.univ fun d : Dev nD => iprop(cellInv ER (Rd A) (K (barCell d)) (barCell d)
    ∗ bigSep (Finset.Ico 0 20) fun k => iprop(cellInv ER (Rd A) (K (sendCell k d)) (sendCell k d) ∗ cellInv ER (Rd A) (K (recvCell k d)) (recvCell k d)))

instance recs_persistent : BI.Persistent (recs A K) := by unfold recs; infer_instance

theorem recs_bar (d : Dev nD) : recs A K ⊢ cellInv ER (Rd A) (K (barCell d)) (barCell d) := by
  unfold recs
  exact (of_dev _ d).trans sep_elim_left
theorem recs_send (d : Dev nD) (k : ℕ) (hk : k < 20) : recs A K ⊢ cellInv ER (Rd A) (K (sendCell k d)) (sendCell k d) := by
  unfold recs
  exact (of_dev _ d).trans (sep_elim_right.trans ((of_all _ k hk).trans sep_elim_left))
theorem recs_recv (d : Dev nD) (k : ℕ) (hk : k < 20) : recs A K ⊢ cellInv ER (Rd A) (K (recvCell k d)) (recvCell k d) := by
  unfold recs
  exact (of_dev _ d).trans (sep_elim_right.trans ((of_all _ k hk).trans sep_elim_right))

/-- What every step may use: the invariants, the order of the cells, and that the cells it pays are open. -/
def amb : sProp 𝕄 :=
  iprop(recs A K ∗ levAts L lv
    ∗ (bigSep (Finset.Ico 0 20) fun k => reached ER (sendCell k c) 0)
    ∗ bigSep (Finset.Ico 0 20) fun k => reached ER (recvCell k (peer (kdir k) c)) 0)

instance amb_persistent : BI.Persistent (amb A K c) := by unfold amb; infer_instance

/-- The tokens transfer `k` is paid with. -/
abbrev duty2 (k : ℕ) : sProp 𝕄 := iprop(dutyTok ER (sendCell k c) 0 0 ∗ dutyTok ER (recvCell k (peer (kdir k) c)) 0 0)
/-- The credit and position transfer `k`'s landing here is waited for with. -/
abbrev wait2 (k : ℕ) : sProp 𝕄 := iprop(cred (tallyAt (recvCell k c) () (amt k)) ∗ atPos ER (recvCell k c) 0 ∅ 0)

/-- The bookkeeping after `s` copies issued, `r` landings and `w` completed copies waited for. -/
def net (s r w : ℕ) : sProp 𝕄 :=
  iprop((bigSep (Finset.Ico s 20) (duty2 c))
    ∗ (bigSep (Finset.Ico w s) fun k => cred (tallyAt (sendCell k c) () (amt k)))
    ∗ (bigSep (Finset.Ico w 20) fun k => atPos ER (sendCell k c) 0 ∅ 0)
    ∗ (bigSep (Finset.Ico 0 w) fun k => atPos ER (sendCell k c) (0 + 1) ∅ 0)
    ∗ (bigSep (Finset.Ico r 20) (wait2 c))
    ∗ (bigSep (Finset.Ico 0 r) fun k => atPos ER (recvCell k c) (0 + 1) ∅ 0)
    ∗ ∃ W, owes (c : Thread nD τ) (owe (10 + s) c) W)

theorem payCell_send (k : ℕ) : payCell (10 + k) c = recvCell k (peer (kdir k) c) := by
  unfold payCell; rw [if_neg (by omega), Nat.add_sub_cancel_left]
theorem payAmt_send (k : ℕ) : payAmt (10 + k) = amt k := by
  unfold payAmt; rw [if_neg (by omega), Nat.add_sub_cancel_left]

section
variable {α : Type} {kt : PUnit → Prog (TpuEff nD τ sig (Elt F) Λ₀ .tc) α}

/-- A copy issued whose source comes back to the sender. -/
theorem step_send {Q : α → sProp 𝕄} (k : ℕ) (hk : k < 20) {d : Dev nD} (hd : d = peer (kdir k) c) {s : Shape} {e : EltTy}
    {src dst : Memref sig .tc .vmem s e} {sS sem : DmaSem sig} (hsS : sS = semOf (sendNum k)) (hsem : sem = semOf (recvNum k))
    {hsc : dst.view.ref.isScScratch = false} {hsrc : src.view.WordExact} {hdst : dst.view.WordExact}
    {hty : DmaTarget.Typed .vmem (SemLoc.dma sem : SemLoc sig) (.remote (Dev.tc d) dst (.dma sS) hsc)}
    {q : PosShare TreeShare} {fs : Buf (Elt F) (src.view.loc (c : Thread nD τ))} {fd : Buf (Elt F) (dst.view.loc (d : Thread nD τ))}
    (hN : dst.view.dmaCredit = amt k) (r w : ℕ) (hw : w ≤ k)
    (hpay₁ : (src.view.loc (c : Thread nD τ) ↦[src.view.set]{q} fs) ⊢ sendPay A k c)
    (hpay₂ : (dst.view.loc (d : Thread nD τ) ↦[dst.view.set]{fullShare} (dst.view.write (Elt F) fd (src.view.read (Elt F) fs) Finset.univ))
      ⊢ recvPay A k d) :
    iprop(amb A K c ∗ net c k r w
        ∗ (src.view.loc (c : Thread nD τ) ↦[src.view.set]{q} fs) ∗ (dst.view.loc (d : Thread nD τ) ↦[dst.view.set]{fullShare} fd))
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma src (.remote (Dev.tc d) dst (.dma sS) hsc) (.dma sem) hsrc hdst hty) kt) Q) := by
  subst hd hsS hsem
  unfold amb net
  rw [bigSep_Ico_succ_bot hk, bigSep_Ico_succ_top hw]
  iintro ⟨⟨#HI, #Hlev, #HrS, #HrR⟩, ⟨⟨⟨HtS, HtR⟩, Hd⟩, Hcr, HaS, HcS, HaR, HcR, %W, HO⟩, Hsrc, Hdst⟩ Hk
  iapply (Rounds.wp_send_pointsTo 𝒱₀ ER (Rd A) (c : Thread nD τ) none (c' := (peer (kdir k) c : Thread nD τ)) (src := src) (dst := dst)
      (sS := .dma (semOf (sendNum k))) (sem := .dma (semOf (recvNum k))) (q := q) (fs := fs) (κ₁ := K (sendCell k c)) (κ₂ := K (recvCell k (peer (kdir k) c)))
      (r₁ := 0) (r₂ := 0) (d₁ := 0) (d₂ := 0) (fd := fd)
      (by rw [duties_send A c k hk]; exact Finset.mem_singleton_self _) (by rw [duties_recv A _ k hk]; exact Finset.mem_singleton_self _)
      () () (amt k) hN (amount_send A c k hk 0) (amount_recv A _ k hk 0) (O₀ := owe (10 + k) c) (owe (10 + (k + 1)) c)
      (by rw [owe_step (n := 10 + k) (by omega), payCell_send, payAmt_send]; rfl) (W := W)
      (by rw [payload_send A c k hk]; exact hpay₁)
      (by rw [payload_recv A _ k hk]; exact hpay₂)) $$ [Hsrc Hdst HO HtS HtR]
  · isplitr; · iapply (recs_send A K c k hk); iexact HI
    isplitr; · iapply (recs_recv A K (peer (kdir k) c) k hk); iexact HI
    isplitl [Hsrc]; · iexact Hsrc
    isplitl [Hdst]; · iexact Hdst
    isplitl [HO]; · iexact HO
    isplitl [HtS]; · iexact HtS
    isplitr; · iapply (of_all (fun k => reached ER (sendCell k c) 0) k hk); iexact HrS
    isplitl [HtR]; · iexact HtR
    iapply (of_all (fun k => reached ER (recvCell k (peer (kdir k) c)) 0) k hk); iexact HrR
  iintro ⟨Hc, HO⟩
  iapply Hk
  isplitl [Hd]; · iexact Hd
  isplitl [Hc Hcr]; · isplitl [Hc] <;> iassumption
  isplitl [HaS]; · iexact HaS
  isplitl [HcS]; · iexact HcS
  isplitl [HaR]; · iexact HaR
  isplitl [HcR]; · iexact HcR
  iexists W; iexact HO

/-- A copy issued whose source goes to the receiver with the landing. -/
theorem step_give {Q : α → sProp 𝕄} (k : ℕ) (hk : k < 10) {d : Dev nD} (hd : d = peer (kdir k) c) {s : Shape} {e : EltTy}
    {src dst : Memref sig .tc .vmem s e} {sS sem : DmaSem sig} (hsS : sS = semOf (sendNum k)) (hsem : sem = semOf (recvNum k))
    {hsc : dst.view.ref.isScScratch = false} {hsrc : src.view.WordExact} {hdst : dst.view.WordExact}
    {hty : DmaTarget.Typed .vmem (SemLoc.dma sem : SemLoc sig) (.remote (Dev.tc d) dst (.dma sS) hsc)}
    {q : PosShare TreeShare} {fs : Buf (Elt F) (src.view.loc (c : Thread nD τ))} {fd : Buf (Elt F) (dst.view.loc (d : Thread nD τ))}
    (hN : dst.view.dmaCredit = amt k) (r w : ℕ) (hw : w ≤ k)
    (hpay₂ : iprop((dst.view.loc (d : Thread nD τ) ↦[dst.view.set]{fullShare} (dst.view.write (Elt F) fd (src.view.read (Elt F) fs) Finset.univ))
        ∗ (src.view.loc (c : Thread nD τ) ↦[src.view.set]{q} fs))
      ⊢ recvPay A k d) :
    iprop(amb A K c ∗ net c k r w
        ∗ (src.view.loc (c : Thread nD τ) ↦[src.view.set]{q} fs) ∗ (dst.view.loc (d : Thread nD τ) ↦[dst.view.set]{fullShare} fd))
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma src (.remote (Dev.tc d) dst (.dma sS) hsc) (.dma sem) hsrc hdst hty) kt) Q) := by
  subst hd hsS hsem
  unfold amb net
  have hk' : k < 20 := by omega
  rw [bigSep_Ico_succ_bot hk', bigSep_Ico_succ_top hw]
  iintro ⟨⟨#HI, #Hlev, #HrS, #HrR⟩, ⟨⟨⟨HtS, HtR⟩, Hd⟩, Hcr, HaS, HcS, HaR, HcR, %W, HO⟩, Hsrc, Hdst⟩ Hk
  iapply (Rounds.wp_send_landing_pointsTo 𝒱₀ ER (Rd A) (c : Thread nD τ) none (c' := (peer (kdir k) c : Thread nD τ)) (src := src) (dst := dst)
      (sS := .dma (semOf (sendNum k))) (sem := .dma (semOf (recvNum k))) (q := q) (fs := fs) (κ₁ := K (sendCell k c)) (κ₂ := K (recvCell k (peer (kdir k) c)))
      (r₁ := 0) (r₂ := 0) (d₁ := 0) (d₂ := 0) (fd := fd)
      (by rw [duties_send A c k hk']; exact Finset.mem_singleton_self _) (by rw [duties_recv A _ k hk']; exact Finset.mem_singleton_self _)
      () () (amt k) hN (amount_send A c k hk' 0) (amount_recv A _ k hk' 0) (O₀ := owe (10 + k) c) (owe (10 + (k + 1)) c)
      (by rw [owe_step (n := 10 + k) (by omega), payCell_send, payAmt_send]; rfl) (W := W)
      (by rw [payload_send A c k hk']; unfold sendPay; rw [if_pos hk])
      (by rw [payload_recv A _ k hk']; exact hpay₂)) $$ [Hsrc Hdst HO HtS HtR]
  · isplitr; · iapply (recs_send A K c k hk'); iexact HI
    isplitr; · iapply (recs_recv A K (peer (kdir k) c) k hk'); iexact HI
    isplitl [Hsrc]; · iexact Hsrc
    isplitl [Hdst]; · iexact Hdst
    isplitl [HO]; · iexact HO
    isplitl [HtS]; · iexact HtS
    isplitr; · iapply (of_all (fun k => reached ER (sendCell k c) 0) k hk'); iexact HrS
    isplitl [HtR]; · iexact HtR
    iapply (of_all (fun k => reached ER (recvCell k (peer (kdir k) c)) 0) k hk'); iexact HrR
  iintro ⟨Hc, HO⟩
  iapply Hk
  isplitl [Hd]; · iexact Hd
  isplitl [Hc Hcr]; · isplitl [Hc] <;> iassumption
  isplitl [HaS]; · iexact HaS
  isplitl [HcS]; · iexact HcS
  isplitl [HaR]; · iexact HaR
  isplitl [HcR]; · iexact HcR
  iexists W; iexact HO

/-- A landing waited for, everything still owed lying above it. -/
theorem step_recv {Q : α → sProp 𝕄} (k : ℕ) (hk : k < 20) {s : Shape} {e : EltTy} {s' : Shape} {e' : EltTy}
    {src : Memref sig .tc .vmem s' e'} {dst : Memref sig .tc .vmem s e} {sem : DmaSem sig} (hsem : sem = semOf (recvNum k))
    {hsrc : src.view.WordExact} {hdst : dst.view.WordExact}
    (hN : dst.view.dmaCredit = amt k) (t w : ℕ) (ht : ∀ i ∈ Finset.Ico (10 + t) 30, payLv (10 + k) < payLv i) :
    iprop(amb A K c ∗ net c t k w)
      ⊢ iprop((iprop(net c t (k + 1) w ∗ recvPay A k c) -∗ wp frame (wpE (defs₀ (F := F)) 𝒱₀ c none) Set.univ (kt ⟨⟩) Q)
        -∗ wp frame (wpE (defs₀ (F := F)) 𝒱₀ c none) Set.univ (.op (.waitDma2 sem src dst hsrc hdst) kt) Q) := by
  subst hsem
  unfold amb net
  rw [bigSep_Ico_succ_bot hk, bigSep_Ico_succ_top (Nat.zero_le k)]
  iintro ⟨⟨#HI, #Hlev, #HrS, #HrR⟩, Hd, Hcr, HaS, HcS, ⟨⟨Hc, Ha⟩, HaR⟩, HcR, %W, HO⟩ Hk
  iapply (Rounds.wp_wait_rest_token 𝒱₀ ER (Rd A) (c : Thread nD τ) none (κ := K (recvCell k c))
      (wpE_waitDma2_eq 𝒱₀ (c : Thread nD τ) none Set.univ) (Set.mem_univ _) () (O := owe (10 + t) c) (W := W) (R := 0) (m := 0) (T := ∅)
      (by rw [expect_recv A c k hk, hN, Nat.zero_add])) $$ [Hc HO Ha]
  · isplitr; · iapply (recs_recv A K c k hk); iexact HI
    isplitl [Hc]; · rw [hN]; iexact Hc
    isplitl [HO]; · iexact HO
    isplitr; · iapply (mayWait c (.dma (semOf (recvNum k))) (10 + t) (payLv (10 + k)) (lv_recv k hk c) ht); iexact Hlev
    iexact Ha
  iintro ⟨HO, Ha, -, Hpay⟩
  ihave Hp := (Entails.of_eq (rest_recv A c k hk)) $$ Hpay
  iapply Hk
  isplitr [Hp]
  · isplitl [Hd]; · iexact Hd
    isplitl [Hcr]; · iexact Hcr
    isplitl [HaS]; · iexact HaS
    isplitl [HcS]; · iexact HcS
    isplitl [HaR]; · iexact HaR
    isplitl [HcR Ha]; · isplitl [Ha] <;> iassumption
    iexists _; iexact HO
  iexact Hp

/-- A completed copy waited for, nothing being owed any more. -/
theorem step_back {Q : α → sProp 𝕄} (k : ℕ) (hk : k < 20) {s : Shape} {e : EltTy} {s' : Shape} {e' : EltTy}
    {src : Memref sig .tc .vmem s' e'} {dst : Memref sig .tc .vmem s e} {sem : DmaSem sig} (hsem : sem = semOf (sendNum k))
    {hsrc : src.view.WordExact} {hdst : dst.view.WordExact} (hN : dst.view.dmaCredit = amt k) (r : ℕ) :
    iprop(amb A K c ∗ net c 20 r k)
      ⊢ iprop((iprop(net c 20 r (k + 1) ∗ sendPay A k c) -∗ wp frame (wpE (defs₀ (F := F)) 𝒱₀ c none) Set.univ (kt ⟨⟩) Q)
        -∗ wp frame (wpE (defs₀ (F := F)) 𝒱₀ c none) Set.univ (.op (.waitDma2 sem src dst hsrc hdst) kt) Q) := by
  subst hsem
  unfold amb net
  rw [bigSep_Ico_succ_bot hk, bigSep_Ico_succ_bot hk, bigSep_Ico_succ_top (Nat.zero_le k)]
  iintro ⟨⟨#HI, #Hlev, #HrS, #HrR⟩, Hd, ⟨Hc, Hcr⟩, ⟨Ha, HaS⟩, HcS, HaR, HcR, %W, HO⟩ Hk
  iapply (Rounds.wp_wait_rest_token 𝒱₀ ER (Rd A) (c : Thread nD τ) none (κ := K (sendCell k c))
      (wpE_waitDma2_eq 𝒱₀ (c : Thread nD τ) none Set.univ) (Set.mem_univ _) () (O := owe (10 + 20) c) (W := W) (R := 0) (m := 0) (T := ∅)
      (by rw [expect_send A c k hk, hN, Nat.zero_add])) $$ [Hc HO Ha]
  · isplitr; · iapply (recs_send A K c k hk); iexact HI
    isplitl [Hc]; · rw [hN]; iexact Hc
    isplitl [HO]; · iexact HO
    isplitr; · iapply (mayWait c (.dma (semOf (sendNum k))) (10 + 20) 0 (lv_send k hk c) (fun i hi => by rw [Finset.Ico_self] at hi; exact absurd hi (Finset.notMem_empty _))); iexact Hlev
    iexact Ha
  iintro ⟨HO, Ha, -, Hpay⟩
  ihave Hp := (Entails.of_eq (rest_send A c k hk)) $$ Hpay
  iapply Hk
  isplitr [Hp]
  · isplitl [Hd]; · iexact Hd
    isplitl [Hcr]; · iexact Hcr
    isplitl [HaS]; · iexact HaS
    isplitl [HcS Ha]; · isplitl [Ha] <;> iassumption
    isplitl [HaR]; · iexact HaR
    isplitl [HcR]; · iexact HcR
    iexists _; iexact HO
  iexact Hp

/-- An entry signal, in direction `i`. -/
theorem step_signal {Q : α → sProp 𝕄} (i : ℕ) (hi : i < 10) {d : Dev nD} (hd : d = peer (dir i) c) {sem : Sem sig} (hsem : sem = barS) :
    iprop(recs A K ∗ (bigSep Finset.univ fun d : Dev nD => reached ER (barCell d) 0)
        ∗ dutyTok ER (barCell (peer (dir i) c)) 0 (dir i) ∗ barPay (dir i) (peer (dir i) c) ∗ ∃ W, owes (c : Thread nD τ) (owe i c) W)
      ⊢ iprop(((∃ W, owes (c : Thread nD τ) (owe (i + 1) c) W) -∗ wp frame (wpE (defs₀ (F := F)) 𝒱₀ c none) Set.univ (kt ⟨⟩) Q)
        -∗ wp frame (wpE (defs₀ (F := F)) 𝒱₀ c none) Set.univ (.op (.semSignal (d : Thread nD τ) sem 1) kt) Q) := by
  subst hd hsem
  iintro ⟨#HI, #Hr, Ht, Hp, %W, HO⟩ Hk
  iapply (Rounds.wp_signal 𝒱₀ ER (Rd A) (c : Thread nD τ) none (dst := (peer (dir i) c : Thread nD τ)) (sem := barS) (r := 0) (d := dir i) (κ := K (barCell (peer (dir i) c)))
      (by rw [duties_bar]; exact Finset.mem_univ _) (amount_bar A (peer (dir i) c) (dir i)) () (O₀ := owe i c) (W := W) (owe (i + 1) c)
      (by rw [owe_step (n := i) (by omega)]; unfold payCell payAmt; rw [if_pos hi, if_pos hi]))
    $$ [HO Ht Hp]
  · isplitr; · iapply (recs_bar A K (peer (dir i) c)); iexact HI
    isplitl [HO]; · iexact HO
    isplitl [Ht]; · iexact Ht
    isplitl [Hp]; · rw [payload_bar]; iexact Hp
    iapply (of_dev (fun d : Dev nD => reached ER (barCell d) 0) (peer (dir i) c)); iexact Hr
  iintro HO
  iapply Hk
  iexists W; iexact HO

/-- The entry wait: every peer's slots arrive. -/
theorem step_enter {Q : α → sProp 𝕄} {sem : Sem sig} (hsem : sem = barS) :
    iprop(recs A K ∗ levAts L lv ∗ cred (tallyAt (barCell c) () 10) ∗ atPos ER (barCell c) 0 ∅ 0 ∗ ∃ W, owes (c : Thread nD τ) (owe 10 c) W)
      ⊢ iprop((iprop((∃ W, owes (c : Thread nD τ) (owe 10 c) W) ∗ atPos ER (barCell c) (0 + 1) ∅ 0 ∗ bigSep Finset.univ fun j => barPay j c)
            -∗ wp frame (wpE (defs₀ (F := F)) 𝒱₀ c none) Set.univ (kt ⟨⟩) Q)
        -∗ wp frame (wpE (defs₀ (F := F)) 𝒱₀ c none) Set.univ (.op (.semWait sem 10) kt) Q) := by
  subst hsem
  iintro ⟨#HI, #Hlev, Hc, Ha, %W, HO⟩ Hk
  iapply (Rounds.wp_wait_rest_token 𝒱₀ ER (Rd A) (c : Thread nD τ) none (κ := K (barCell c))
      (wpE_semWait_eq 𝒱₀ (c : Thread nD τ) none Set.univ) (Set.mem_univ _) () (O := owe 10 c) (W := W) (R := 0) (m := 0) (T := ∅)
      (by rw [expect_bar])) $$ [Hc HO Ha]
  · isplitr; · iapply (recs_bar A K c); iexact HI
    isplitl [Hc]; · iexact Hc
    isplitl [HO]; · iexact HO
    isplitr; · iapply (mayWait c (.reg barS) 10 1 rfl (by decide)); iexact Hlev
    iexact Ha
  iintro ⟨HO, Ha, -, Hpay⟩
  ihave Hp := (Entails.of_eq (rest_bar A c)) $$ Hpay
  iapply Hk
  isplitl [HO]; · iexists _; iexact HO
  isplitl [Ha]; · iexact Ha
  iexact Hp

end

end Cert.KernelIdeal

end

end
-- ==== Proof.Moves.lean ====
/- The four kinds of copies the kernel issues, each as the step it is: rows of chunks and pieces sent to be added, rows of
   pieces and chunks sent to be kept. The semaphores by their numbers. -/
module

public import proofs.«01_k».proof.Proof.Steps

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

/-! ## Where pieces begin, in pieces -/

theorem off3_sk0 : k0_off3 c 1#32 = ![16 * sk (peer (kdir 7) c), 0] := (off3_eq0 c).trans (congrArg (fun n => ![n, 0]) (sub_eq _))
theorem off3_sk1 : k0_off3 c 2#32 = ![16 * sk (peer (kdir 8) c), 0] := (off3_eq1 c).trans (congrArg (fun n => ![n, 0]) (sub_eq _))
theorem off3_sk2 : k0_off3 c 3#32 = ![16 * sk (peer (kdir 9) c), 0] := (off3_eq2 c).trans (congrArg (fun n => ![n, 0]) (sub_eq _))
theorem off4_sk : k0_off4 c = ![16 * sk c, 0] := (off4_eq c).trans (congrArg (fun n => ![n, 0]) (sub_eq _))
theorem off5_sk : k0_off5 c = ![16 * sk c, 0] := (off5_eq c).trans (congrArg (fun n => ![n, 0]) (sub_eq _))

/-! ## Reading rows of a whole buffer -/

theorem set7 (g v : ℕ) (hg : 0 < g) (inb) (h) :
    (m7.slice (Rect.unit (s := S512x512) ![g * v, 0] ![g, 512] inb) h).view.set = rows 512 g v :=
  (View.set_slice_whole _ _).trans (set_rows 512 g v hg inb)
theorem set8 (g v : ℕ) (hg : 0 < g) (inb) (h) :
    (m8.slice (Rect.unit (s := S448x512) ![g * v, 0] ![g, 512] inb) h).view.set = rows 448 g v :=
  (View.set_slice_whole _ _).trans (set_rows 448 g v hg inb)
theorem set9 (g v : ℕ) (hg : 0 < g) (inb) (h) :
    (m9.slice (Rect.unit (s := S48x512) ![g * v, 0] ![g, 512] inb) h).view.set = rows 48 g v :=
  (View.set_slice_whole _ _).trans (set_rows 48 g v hg inb)

theorem read7 (r : Rect S512x512) (h) (f : Vec F S512x512 .bf16) (x) : (m7.slice r h).view.read (Elt F) f x = f (r.emb x) := rfl
theorem read8 (r : Rect S448x512) (h) (f : Vec F S448x512 .bf16) (x) : (m8.slice r h).view.read (Elt F) f x = f (r.emb x) := rfl
theorem read9 (r : Rect S48x512) (h) (f : Vec F S48x512 .bf16) (x) : (m9.slice r h).view.read (Elt F) f x = f (r.emb x) := rfl

theorem land7 (d : Dev nD) (r : Rect S512x512) (h) (f g : Vec F S512x512 .bf16) (w : Vec F r.shape .bf16) (hw : ∀ x, w x = g (r.emb x)) :
    ((m7.slice r h).view.loc (d : Thread nD τ) ↦[(m7.slice r h).view.set]{fullShare} ((m7.slice r h).view.write (Elt F) f w Finset.univ) : sProp 𝕄)
      = ((m7.slice r h).view.loc (d : Thread nD τ) ↦[(m7.slice r h).view.set]{fullShare} g) :=
  pointsTo_congr (write_eq_on (Val := Elt F) (m7.slice r h).view f g w hw)
theorem land8 (d : Dev nD) (r : Rect S448x512) (h) (f g : Vec F S448x512 .bf16) (w : Vec F r.shape .bf16) (hw : ∀ x, w x = g (r.emb x)) :
    ((m8.slice r h).view.loc (d : Thread nD τ) ↦[(m8.slice r h).view.set]{fullShare} ((m8.slice r h).view.write (Elt F) f w Finset.univ) : sProp 𝕄)
      = ((m8.slice r h).view.loc (d : Thread nD τ) ↦[(m8.slice r h).view.set]{fullShare} g) :=
  pointsTo_congr (write_eq_on (Val := Elt F) (m8.slice r h).view f g w hw)
theorem land9 (d : Dev nD) (r : Rect S48x512) (h) (f g : Vec F S48x512 .bf16) (w : Vec F r.shape .bf16) (hw : ∀ x, w x = g (r.emb x)) :
    ((m9.slice r h).view.loc (d : Thread nD τ) ↦[(m9.slice r h).view.set]{fullShare} ((m9.slice r h).view.write (Elt F) f w Finset.univ) : sProp 𝕄)
      = ((m9.slice r h).view.loc (d : Thread nD τ) ↦[(m9.slice r h).view.set]{fullShare} g) :=
  pointsTo_congr (write_eq_on (Val := Elt F) (m9.slice r h).view f g w hw)

theorem peer_kdir (k : ℕ) (d : Dev nD) : peer (kdir k) (peer (kdir k) d) = d := peer_peer _ d
theorem kdir_lt (k : ℕ) (h : k < 10) : kdir k = dir k := by unfold kdir; rw [if_pos h]

theorem rb_row (k : ℕ) (hk : k < 7) (x : S64x512.Idx) :
    p16 A c (ix 512 (by decide) (64 * qd (peer (kdir k) c) + (x 0).val) (x 1)) = rb A (peer (kdir k) c) (ix 448 (by decide) (64 * k + (x 0).val) (x 1)) := by
  have hx : (x 0).val < 64 := (x 0).isLt
  have h0 : (ix 448 (by decide) (64 * k + (x 0).val) (x 1) 0).val = 64 * k + (x 0).val := Nat.mod_eq_of_lt (by omega)
  unfold rb
  rw [h0, show (64 * k + (x 0).val) / 64 = k by omega, show (64 * k + (x 0).val) % 64 = (x 0).val by omega, ← kdir_lt k (by omega), peer_kdir]
  rfl

theorem zb_row (k : ℕ) (hk : 7 ≤ k) (hk' : k < 10) (x : S16x512.Idx) :
    mid A c (ix 512 (by decide) (16 * sk (peer (kdir k) c) + (x 0).val) (x 1))
      = zb A (peer (kdir k) c) (ix 48 (by decide) (16 * (k - 7) + (x 0).val) (x 1)) := by
  have hx : (x 0).val < 16 := (x 0).isLt
  have h0 : (ix 48 (by decide) (16 * (k - 7) + (x 0).val) (x 1) 0).val = 16 * (k - 7) + (x 0).val := Nat.mod_eq_of_lt (by omega)
  have hz := zd_lt (peer (kdir k) c)
  have hq := qd_lt (peer (kdir k) c)
  have h1 : (ix 512 (by decide) (16 * sk (peer (kdir k) c) + (x 0).val) (x 1) 0).val = 16 * sk (peer (kdir k) c) + (x 0).val :=
    Nat.mod_eq_of_lt (by unfold sk; omega)
  unfold zb mid
  rw [h0, h1, show (16 * (k - 7) + (x 0).val) / 16 = k - 7 by omega, show (16 * (k - 7) + (x 0).val) % 16 = (x 0).val by omega,
    show 7 + (k - 7) = k by omega, ← kdir_lt k (by omega), peer_kdir]
  unfold i64 ix
  congr 1
  have : (16 * sk (peer (kdir k) c) + (x 0).val) % 64 = (16 * zd (peer (kdir k) c) + (x 0).val) % 64 := by unfold sk; omega
  exact congrArg₂ _ (Fin.ext this) rfl

section
variable {α : Type} {kt : PUnit → Prog (TpuEff nD τ sig (Elt F) Λ₀ .tc) α}

/-- A chunk sent to be added. -/
theorem send_A {Q : α → sProp 𝕄} (k : ℕ) (hk : k < 7) {d : Dev nD} (hd : d = peer (kdir k) c)
    {o o' : Fin 2 → ℕ} (ho : o = ![64 * qd (peer (kdir k) c), 0]) (ho' : o' = ![64 * k, 0]) {inb inb'} {h h'}
    {sS sem : DmaSem sig} (hsS : sS = semOf (sendNum k)) (hsem : sem = semOf (recvNum k)) {hsc hsrc hdst hty} (r w : ℕ) (hw : w ≤ k) :
    iprop(amb A K c ∗ net c k r w ∗ at7 c (rows 512 64 (qd (peer (kdir k) c))) fullShare (p16 A c) ∗ ∃ f, at8 (peer (kdir k) c) (rows 448 64 k) f)
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![64, 512] inb) h)
            (.remote (Dev.tc d) (m8.slice (Rect.unit (s := S448x512) o' ![64, 512] inb') h') (.dma sS) hsc) (.dma sem) hsrc hdst hty) kt) Q) := by
  subst ho ho'
  have hp (f : Vec F S448x512 .bf16) : iprop(((m8.slice (Rect.unit (s := S448x512) ![64 * k, 0] ![64, 512] inb') h').view.loc (d : Thread nD τ) ↦[(m8.slice (Rect.unit (s := S448x512) ![64 * k, 0] ![64, 512] inb') h').view.set]{fullShare} ((m8.slice (Rect.unit (s := S448x512) ![64 * k, 0] ![64, 512] inb') h').view.write (Elt F) f ((m7.slice (Rect.unit (s := S512x512) ![64 * qd (peer (kdir k) c), 0] ![64, 512] inb) h).view.read (Elt F) (p16 A c)) Finset.univ))
        ∗ ((m7.slice (Rect.unit (s := S512x512) ![64 * qd (peer (kdir k) c), 0] ![64, 512] inb) h).view.loc (c : Thread nD τ) ↦[(m7.slice (Rect.unit (s := S512x512) ![64 * qd (peer (kdir k) c), 0] ![64, 512] inb) h).view.set]{fullShare} (p16 A c))) ⊢ recvPay A k d := by
    rw [set7 64 _ (by decide), hd]
    unfold recvPay
    rw [if_pos hk, peer_kdir]
    iintro ⟨H, Hs⟩
    isplitl [H]
    · rw [land8 _ _ _ f (rb A (peer (kdir k) c)) _ ?_, set8 64 _ (by decide)]
      · exact .rfl
      · intro x
        have hx : (x 0).val < 64 := (x 0).isLt
        have hq := qd_lt (peer (kdir k) c)
        rw [read7, emb_rows 512 64 _ (by decide) _ x (by omega), emb_rows 448 64 _ (by decide) _ x (by omega)]
        exact rb_row A c k hk x
    · iexists _; iexact Hs
  iintro ⟨#Ha, Hn, Hs, %f, Hd⟩
  iapply (step_give A K c k (by omega) hd hsS hsem (src := m7.slice (Rect.unit (s := S512x512) ![64 * qd (peer (kdir k) c), 0] ![64, 512] inb) h)
    (dst := m8.slice (Rect.unit (s := S448x512) ![64 * k, 0] ![64, 512] inb') h') (q := fullShare) (fs := p16 A c) (fd := f)
    (by unfold amt; rw [if_pos hk]; rfl) r w hw (hp f)) $$ [Hn Hs Hd]
  · isplitr; · iexact Ha
    isplitl [Hn]; · iexact Hn
    isplitl [Hs]
    · rw [set7 64 _ (by decide)]; iexact Hs
    · rw [set8 64 _ (by decide), hd]; iexact Hd

/-- A piece sent to be added. -/
theorem send_B {Q : α → sProp 𝕄} (k : ℕ) (hk : 7 ≤ k) (hk' : k < 10) {d : Dev nD} (hd : d = peer (kdir k) c)
    {o o' : Fin 2 → ℕ} (ho : o = ![16 * sk (peer (kdir k) c), 0]) (ho' : o' = ![16 * (k - 7), 0]) {inb inb'} {h h'}
    {sS sem : DmaSem sig} (hsS : sS = semOf (sendNum k)) (hsem : sem = semOf (recvNum k)) {hsc hsrc hdst hty} (r w : ℕ) (hw : w ≤ k) :
    iprop(amb A K c ∗ net c k r w ∗ at7 c (rows 512 16 (sk (peer (kdir k) c))) fullShare (mid A c) ∗ ∃ f, at9 (peer (kdir k) c) (rows 48 16 (k - 7)) f)
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![16, 512] inb) h)
            (.remote (Dev.tc d) (m9.slice (Rect.unit (s := S48x512) o' ![16, 512] inb') h') (.dma sS) hsc) (.dma sem) hsrc hdst hty) kt) Q) := by
  subst ho ho'
  have hp (f : Vec F S48x512 .bf16) : iprop(((m9.slice (Rect.unit (s := S48x512) ![16 * (k - 7), 0] ![16, 512] inb') h').view.loc (d : Thread nD τ) ↦[(m9.slice (Rect.unit (s := S48x512) ![16 * (k - 7), 0] ![16, 512] inb') h').view.set]{fullShare} ((m9.slice (Rect.unit (s := S48x512) ![16 * (k - 7), 0] ![16, 512] inb') h').view.write (Elt F) f ((m7.slice (Rect.unit (s := S512x512) ![16 * sk (peer (kdir k) c), 0] ![16, 512] inb) h).view.read (Elt F) (mid A c)) Finset.univ))
        ∗ ((m7.slice (Rect.unit (s := S512x512) ![16 * sk (peer (kdir k) c), 0] ![16, 512] inb) h).view.loc (c : Thread nD τ) ↦[(m7.slice (Rect.unit (s := S512x512) ![16 * sk (peer (kdir k) c), 0] ![16, 512] inb) h).view.set]{fullShare} (mid A c))) ⊢ recvPay A k d := by
    rw [set7 16 _ (by decide), hd]
    unfold recvPay
    rw [if_neg (by omega), if_pos hk', peer_kdir]
    iintro ⟨H, Hs⟩
    isplitl [H]
    · rw [land9 _ _ _ f (zb A (peer (kdir k) c)) _ ?_, set9 16 _ (by decide)]
      · exact .rfl
      · intro x
        have hx : (x 0).val < 16 := (x 0).isLt
        have hq := qd_lt (peer (kdir k) c)
        have hz := zd_lt (peer (kdir k) c)
        rw [read7, emb_rows 512 16 _ (by decide) _ x (by unfold sk; omega), emb_rows 48 16 _ (by decide) _ x (by omega)]
        exact zb_row A c k hk hk' x
    · iexists _; iexact Hs
  iintro ⟨#Ha, Hn, Hs, %f, Hd⟩
  iapply (step_give A K c k (by omega) hd hsS hsem (src := m7.slice (Rect.unit (s := S512x512) ![16 * sk (peer (kdir k) c), 0] ![16, 512] inb) h)
    (dst := m9.slice (Rect.unit (s := S48x512) ![16 * (k - 7), 0] ![16, 512] inb') h') (q := fullShare) (fs := mid A c) (fd := f)
    (by unfold amt; rw [if_neg (by omega), if_pos hk']; rfl) r w hw (hp f)) $$ [Hn Hs Hd]
  · isplitr; · iexact Ha
    isplitl [Hn]; · iexact Hn
    isplitl [Hs]
    · rw [set7 16 _ (by decide)]; iexact Hs
    · rw [set9 16 _ (by decide), hd]; iexact Hd

/-- A finished piece sent to be kept. -/
theorem send_C {Q : α → sProp 𝕄} (k : ℕ) (hk : 10 ≤ k) (hk' : k < 13) {d : Dev nD} (hd : d = peer (kdir k) c)
    {o : Fin 2 → ℕ} (ho : o = ![16 * sk c, 0]) {inb inb'} {h h'}
    {sS sem : DmaSem sig} (hsS : sS = semOf (sendNum k)) (hsem : sem = semOf (recvNum k)) {hsc hsrc hdst hty} (r w : ℕ) (hw : w ≤ k) :
    iprop(amb A K c ∗ net c k r w ∗ at7 c (rows 512 16 (sk c)) (tokC k) (fin A) ∗ ∃ f, at7 (peer (kdir k) c) (rows 512 16 (sk c)) fullShare f)
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![16, 512] inb) h)
            (.remote (Dev.tc d) (m7.slice (Rect.unit (s := S512x512) o ![16, 512] inb') h') (.dma sS) hsc) (.dma sem) hsrc hdst hty) kt) Q) := by
  subst ho
  have hs : ((m7.slice (Rect.unit (s := S512x512) ![16 * sk c, 0] ![16, 512] inb) h).view.loc (c : Thread nD τ) ↦[(m7.slice (Rect.unit (s := S512x512) ![16 * sk c, 0] ![16, 512] inb) h).view.set]{tokC k} (fin A)) ⊢ sendPay A k c := by
    rw [set7 16 _ (by decide)]
    unfold sendPay
    rw [if_neg (by omega), if_pos hk']
  have hp (f : Vec F S512x512 .bf16) : ((m7.slice (Rect.unit (s := S512x512) ![16 * sk c, 0] ![16, 512] inb') h').view.loc (d : Thread nD τ) ↦[(m7.slice (Rect.unit (s := S512x512) ![16 * sk c, 0] ![16, 512] inb') h').view.set]{fullShare} ((m7.slice (Rect.unit (s := S512x512) ![16 * sk c, 0] ![16, 512] inb') h').view.write (Elt F) f ((m7.slice (Rect.unit (s := S512x512) ![16 * sk c, 0] ![16, 512] inb) h).view.read (Elt F) (fin A)) Finset.univ)) ⊢ recvPay A k d := by
    rw [hd]
    unfold recvPay
    rw [if_neg (by omega), if_neg (by omega), if_pos hk', peer_kdir]
    rw [land7 _ _ _ f (fin A) _ ?_, set7 16 _ (by decide)]
    intro x; rfl
  iintro ⟨#Ha, Hn, Hs, %f, Hd⟩
  iapply (step_send A K c k (by omega) hd hsS hsem (src := m7.slice (Rect.unit (s := S512x512) ![16 * sk c, 0] ![16, 512] inb) h)
    (dst := m7.slice (Rect.unit (s := S512x512) ![16 * sk c, 0] ![16, 512] inb') h') (q := tokC k) (fs := fin A) (fd := f)
    (by unfold amt; rw [if_neg (by omega), if_neg (by omega), if_pos hk']; rfl) r w hw hs (hp f)) $$ [Hn Hs Hd]
  · isplitr; · iexact Ha
    isplitl [Hn]; · iexact Hn
    isplitl [Hs]
    · rw [set7 16 _ (by decide)]; iexact Hs
    · rw [set7 16 _ (by decide), hd]; iexact Hd

/-- A finished chunk sent to be kept. -/
theorem send_D {Q : α → sProp 𝕄} (k : ℕ) (hk : 13 ≤ k) (hk' : k < 20) {d : Dev nD} (hd : d = peer (kdir k) c)
    {o : Fin 2 → ℕ} (ho : o = ![64 * qd c, 0]) {inb inb'} {h h'}
    {sS sem : DmaSem sig} (hsS : sS = semOf (sendNum k)) (hsem : sem = semOf (recvNum k)) {hsc hsrc hdst hty} (r w : ℕ) (hw : w ≤ k) :
    iprop(amb A K c ∗ net c k r w ∗ at7 c (rows 512 64 (qd c)) (tokD k) (fin A) ∗ ∃ f, at7 (peer (kdir k) c) (rows 512 64 (qd c)) fullShare f)
      ⊢ iprop((net c (k + 1) r w -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![64, 512] inb) h)
            (.remote (Dev.tc d) (m7.slice (Rect.unit (s := S512x512) o ![64, 512] inb') h') (.dma sS) hsc) (.dma sem) hsrc hdst hty) kt) Q) := by
  subst ho
  have hs : ((m7.slice (Rect.unit (s := S512x512) ![64 * qd c, 0] ![64, 512] inb) h).view.loc (c : Thread nD τ) ↦[(m7.slice (Rect.unit (s := S512x512) ![64 * qd c, 0] ![64, 512] inb) h).view.set]{tokD k} (fin A)) ⊢ sendPay A k c := by
    rw [set7 64 _ (by decide)]
    unfold sendPay
    rw [if_neg (by omega), if_neg (by omega)]
  have hp (f : Vec F S512x512 .bf16) : ((m7.slice (Rect.unit (s := S512x512) ![64 * qd c, 0] ![64, 512] inb') h').view.loc (d : Thread nD τ) ↦[(m7.slice (Rect.unit (s := S512x512) ![64 * qd c, 0] ![64, 512] inb') h').view.set]{fullShare} ((m7.slice (Rect.unit (s := S512x512) ![64 * qd c, 0] ![64, 512] inb') h').view.write (Elt F) f ((m7.slice (Rect.unit (s := S512x512) ![64 * qd c, 0] ![64, 512] inb) h).view.read (Elt F) (fin A)) Finset.univ)) ⊢ recvPay A k d := by
    rw [hd]
    unfold recvPay
    rw [if_neg (by omega), if_neg (by omega), if_neg (by omega), peer_kdir]
    rw [land7 _ _ _ f (fin A) _ ?_, set7 64 _ (by decide)]
    intro x; rfl
  iintro ⟨#Ha, Hn, Hs, %f, Hd⟩
  iapply (step_send A K c k (by omega) hd hsS hsem (src := m7.slice (Rect.unit (s := S512x512) ![64 * qd c, 0] ![64, 512] inb) h)
    (dst := m7.slice (Rect.unit (s := S512x512) ![64 * qd c, 0] ![64, 512] inb') h') (q := tokD k) (fs := fin A) (fd := f)
    (by unfold amt; rw [if_neg (by omega), if_neg (by omega), if_neg (by omega)]; rfl) r w hw hs (hp f)) $$ [Hn Hs Hd]
  · isplitr; · iexact Ha
    isplitl [Hn]; · iexact Hn
    isplitl [Hs]
    · rw [set7 64 _ (by decide)]; iexact Hs
    · rw [set7 64 _ (by decide), hd]; iexact Hd

end

end Cert.KernelIdeal

end

end
-- ==== Proof.State.lean ====
/- What a device holds while the exchange runs: the bookkeeping, what it has still to send, what it has received and what
   came back to it; and each copy and each wait as a step between such states. -/
module

public import proofs.«01_k».proof.Proof.Moves

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

abbrev giveA (k : ℕ) : sProp 𝕄 :=
  iprop(at7 c (rows 512 64 (qd (peer (kdir k) c))) fullShare (p16 A c) ∗ ∃ f, at8 (peer (kdir k) c) (rows 448 64 k) f)
abbrev giveB (k : ℕ) : sProp 𝕄 :=
  iprop(at7 c (rows 512 16 (sk (peer (kdir k) c))) fullShare (mid A c) ∗ ∃ f, at9 (peer (kdir k) c) (rows 48 16 (k - 7)) f)
abbrev giveC (k : ℕ) : sProp 𝕄 :=
  iprop(at7 c (rows 512 16 (sk c)) (tokC k) (fin A) ∗ ∃ f, at7 (peer (kdir k) c) (rows 512 16 (sk c)) fullShare f)
abbrev giveD (k : ℕ) : sProp 𝕄 :=
  iprop(at7 c (rows 512 64 (qd c)) (tokD k) (fin A) ∗ ∃ f, at7 (peer (kdir k) c) (rows 512 64 (qd c)) fullShare f)

/-- What transfer `k` is issued with: its source and its destination. -/
def give (k : ℕ) : sProp 𝕄 := if k < 7 then giveA A c k else if k < 10 then giveB A c k else if k < 13 then giveC A c k else giveD A c k

theorem give_A (k : ℕ) (h : k < 7) : give A c k = giveA A c k := by unfold give; rw [if_pos h]
theorem give_B (k : ℕ) (h : 7 ≤ k) (h' : k < 10) : give A c k = giveB A c k := by unfold give; rw [if_neg (by omega), if_pos h']
theorem give_C (k : ℕ) (h : 10 ≤ k) (h' : k < 13) : give A c k = giveC A c k := by
  unfold give; rw [if_neg (by omega), if_neg (by omega), if_pos h']
theorem give_D (k : ℕ) (h : 13 ≤ k) : give A c k = giveD A c k := by
  unfold give; rw [if_neg (by omega), if_neg (by omega), if_neg (by omega)]

/-- After `s` copies issued, up to `S` of which can be issued as things stand, `r` landings waited for, of which those from
    `r₀` are still unused, and `w` completed copies waited for. -/
def St (s S r₀ r w : ℕ) : sProp 𝕄 :=
  iprop(amb A K c ∗ net c s r w ∗ (bigSep (Finset.Ico s S) (give A c))
    ∗ (bigSep (Finset.Ico r₀ r) fun k => recvPay A k c) ∗ bigSep (Finset.Ico 0 w) fun k => sendPay A k c)

section
variable {α : Type} {kt : PUnit → Prog (TpuEff nD τ sig (Elt F) Λ₀ .tc) α}

theorem st_A {Q : α → sProp 𝕄} (k : ℕ) (hk : k < 7) (S r₀ r : ℕ) (hS : k < S) {d : Dev nD} (hd : d = peer (kdir k) c)
    {o o' : Fin 2 → ℕ} (ho : o = ![64 * qd (peer (kdir k) c), 0]) (ho' : o' = ![64 * k, 0]) {inb inb'} {h h'}
    {sS sem : DmaSem sig} (hsS : sS = semOf (sendNum k)) (hsem : sem = semOf (recvNum k)) {hsc hsrc hdst hty} :
    St A K c k S r₀ r 0
      ⊢ iprop((St A K c (k + 1) S r₀ r 0 -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![64, 512] inb) h)
            (.remote (Dev.tc d) (m8.slice (Rect.unit (s := S448x512) o' ![64, 512] inb') h') (.dma sS) hsc) (.dma sem) hsrc hdst hty) kt) Q) := by
  unfold St
  rw [bigSep_Ico_succ_bot hS, give_A A c k hk]
  iintro ⟨#Ha, Hn, ⟨Hg, Hgs⟩, Hr, Hb⟩ Hk
  iapply (send_A A K c k hk hd ho ho' hsS hsem r 0 (Nat.zero_le _)) $$ [Hn Hg]
  · isplitr; · iexact Ha
    isplitl [Hn]; · iexact Hn
    iexact Hg
  iintro Hn
  iapply Hk
  isplitr; · iexact Ha
  isplitl [Hn]; · iexact Hn
  isplitl [Hgs]; · iexact Hgs
  isplitl [Hr] <;> iassumption

theorem st_B {Q : α → sProp 𝕄} (k : ℕ) (hk : 7 ≤ k) (hk' : k < 10) (S r₀ r : ℕ) (hS : k < S) {d : Dev nD} (hd : d = peer (kdir k) c)
    {o o' : Fin 2 → ℕ} (ho : o = ![16 * sk (peer (kdir k) c), 0]) (ho' : o' = ![16 * (k - 7), 0]) {inb inb'} {h h'}
    {sS sem : DmaSem sig} (hsS : sS = semOf (sendNum k)) (hsem : sem = semOf (recvNum k)) {hsc hsrc hdst hty} :
    St A K c k S r₀ r 0
      ⊢ iprop((St A K c (k + 1) S r₀ r 0 -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![16, 512] inb) h)
            (.remote (Dev.tc d) (m9.slice (Rect.unit (s := S48x512) o' ![16, 512] inb') h') (.dma sS) hsc) (.dma sem) hsrc hdst hty) kt) Q) := by
  unfold St
  rw [bigSep_Ico_succ_bot hS, give_B A c k hk hk']
  iintro ⟨#Ha, Hn, ⟨Hg, Hgs⟩, Hr, Hb⟩ Hk
  iapply (send_B A K c k hk hk' hd ho ho' hsS hsem r 0 (Nat.zero_le _)) $$ [Hn Hg]
  · isplitr; · iexact Ha
    isplitl [Hn]; · iexact Hn
    iexact Hg
  iintro Hn
  iapply Hk
  isplitr; · iexact Ha
  isplitl [Hn]; · iexact Hn
  isplitl [Hgs]; · iexact Hgs
  isplitl [Hr] <;> iassumption

theorem st_C {Q : α → sProp 𝕄} (k : ℕ) (hk : 10 ≤ k) (hk' : k < 13) (S r₀ r : ℕ) (hS : k < S) {d : Dev nD} (hd : d = peer (kdir k) c)
    {o : Fin 2 → ℕ} (ho : o = ![16 * sk c, 0]) {inb inb'} {h h'}
    {sS sem : DmaSem sig} (hsS : sS = semOf (sendNum k)) (hsem : sem = semOf (recvNum k)) {hsc hsrc hdst hty} :
    St A K c k S r₀ r 0
      ⊢ iprop((St A K c (k + 1) S r₀ r 0 -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![16, 512] inb) h)
            (.remote (Dev.tc d) (m7.slice (Rect.unit (s := S512x512) o ![16, 512] inb') h') (.dma sS) hsc) (.dma sem) hsrc hdst hty) kt) Q) := by
  unfold St
  rw [bigSep_Ico_succ_bot hS, give_C A c k hk hk']
  iintro ⟨#Ha, Hn, ⟨Hg, Hgs⟩, Hr, Hb⟩ Hk
  iapply (send_C A K c k hk hk' hd ho hsS hsem r 0 (Nat.zero_le _)) $$ [Hn Hg]
  · isplitr; · iexact Ha
    isplitl [Hn]; · iexact Hn
    iexact Hg
  iintro Hn
  iapply Hk
  isplitr; · iexact Ha
  isplitl [Hn]; · iexact Hn
  isplitl [Hgs]; · iexact Hgs
  isplitl [Hr] <;> iassumption

theorem st_D {Q : α → sProp 𝕄} (k : ℕ) (hk : 13 ≤ k) (hk' : k < 20) (S r₀ r : ℕ) (hS : k < S) {d : Dev nD} (hd : d = peer (kdir k) c)
    {o : Fin 2 → ℕ} (ho : o = ![64 * qd c, 0]) {inb inb'} {h h'}
    {sS sem : DmaSem sig} (hsS : sS = semOf (sendNum k)) (hsem : sem = semOf (recvNum k)) {hsc hsrc hdst hty} :
    St A K c k S r₀ r 0
      ⊢ iprop((St A K c (k + 1) S r₀ r 0 -∗ wp frame (wpE (defs₀ (F := F)) 𝒱₀ c none) Set.univ (kt ⟨⟩) Q)
        -∗ wp frame (wpE (defs₀ (F := F)) 𝒱₀ c none) Set.univ (.op (.enqueueDma (m7.slice (Rect.unit (s := S512x512) o ![64, 512] inb) h)
            (.remote (Dev.tc d) (m7.slice (Rect.unit (s := S512x512) o ![64, 512] inb') h') (.dma sS) hsc) (.dma sem) hsrc hdst hty) kt) Q) := by
  unfold St
  rw [bigSep_Ico_succ_bot hS, give_D A c k hk]
  iintro ⟨#Ha, Hn, ⟨Hg, Hgs⟩, Hr, Hb⟩ Hk
  iapply (send_D A K c k hk hk' hd ho hsS hsem r 0 (Nat.zero_le _)) $$ [Hn Hg]
  · isplitr; · iexact Ha
    isplitl [Hn]; · iexact Hn
    iexact Hg
  iintro Hn
  iapply Hk
  isplitr; · iexact Ha
  isplitl [Hn]; · iexact Hn
  isplitl [Hgs]; · iexact Hgs
  isplitl [Hr] <;> iassumption

theorem st_recv {Q : α → sProp 𝕄} (k : ℕ) (hk : k < 20) (s S r₀ : ℕ) (hr : r₀ ≤ k) (hs : ∀ i ∈ Finset.Ico (10 + s) 30, payLv (10 + k) < payLv i)
    {sh : Shape} {e : EltTy} {sh' : Shape} {e' : EltTy}
    {src : Memref sig .tc .vmem sh' e'} {dst : Memref sig .tc .vmem sh e} {sem : DmaSem sig} (hsem : sem = semOf (recvNum k))
    (hN : dst.view.dmaCredit = amt k) {hsrc hdst} :
    St A K c s S r₀ k 0
      ⊢ iprop((St A K c s S r₀ (k + 1) 0 -∗ wp frame (wpE (defs₀ (F := F)) 𝒱₀ c none) Set.univ (kt ⟨⟩) Q)
        -∗ wp frame (wpE (defs₀ (F := F)) 𝒱₀ c none) Set.univ (.op (.waitDma2 sem src dst hsrc hdst) kt) Q) := by
  unfold St
  rw [bigSep_Ico_succ_top hr]
  iintro ⟨#Ha, Hn, Hgs, Hr, Hb⟩ Hk
  iapply (step_recv A K c k hk hsem hN s 0 hs) $$ [Hn]
  · isplitr; · iexact Ha
    iexact Hn
  iintro ⟨Hn, Hp⟩
  iapply Hk
  isplitr; · iexact Ha
  isplitl [Hn]; · iexact Hn
  isplitl [Hgs]; · iexact Hgs
  isplitr [Hb]
  · isplitl [Hp] <;> iassumption
  · iexact Hb

theorem st_back {Q : α → sProp 𝕄} (k : ℕ) (hk : k < 20) (S r₀ r : ℕ)
    {sh : Shape} {e : EltTy} {sh' : Shape} {e' : EltTy}
    {src : Memref sig .tc .vmem sh' e'} {dst : Memref sig .tc .vmem sh e} {sem : DmaSem sig} (hsem : sem = semOf (sendNum k))
    (hN : dst.view.dmaCredit = amt k) {hsrc hdst} :
    St A K c 20 S r₀ r k
      ⊢ iprop((St A K c 20 S r₀ r (k + 1) -∗ wp frame (wpE (defs₀ (F := F)) 𝒱₀ c none) Set.univ (kt ⟨⟩) Q)
        -∗ wp frame (wpE (defs₀ (F := F)) 𝒱₀ c none) Set.univ (.op (.waitDma2 sem src dst hsrc hdst) kt) Q) := by
  unfold St
  rw [bigSep_Ico_succ_top (Nat.zero_le k)]
  iintro ⟨#Ha, Hn, Hgs, Hr, Hb⟩ Hk
  iapply (step_back A K c k hk hsem hN r) $$ [Hn]
  · isplitr; · iexact Ha
    iexact Hn
  iintro ⟨Hn, Hp⟩
  iapply Hk
  isplitr; · iexact Ha
  isplitl [Hn]; · iexact Hn
  isplitl [Hgs]; · iexact Hgs
  isplitl [Hr]; · iexact Hr
  isplitl [Hp] <;> iassumption

theorem wait_A {Q : α → sProp 𝕄} (k : ℕ) (hk : k < 7) (s S r₀ : ℕ) (hr : r₀ ≤ k) (hs : ∀ i ∈ Finset.Ico (10 + s) 30, payLv (10 + k) < payLv i)
    {sh : Shape} {e : EltTy} {src : Memref sig .tc .vmem sh e} {o : Fin 2 → ℕ} {inb} {h} {sem : DmaSem sig} (hsem : sem = semOf (recvNum k)) {hsrc hdst} :
    St A K c s S r₀ k 0
      ⊢ iprop((St A K c s S r₀ (k + 1) 0 -∗ wp frame (wpE (defs₀ (F := F)) 𝒱₀ c none) Set.univ (kt ⟨⟩) Q)
        -∗ wp frame (wpE (defs₀ (F := F)) 𝒱₀ c none) Set.univ (.op (.waitDma2 sem src (m8.slice (Rect.unit (s := S448x512) o ![64, 512] inb) h) hsrc hdst) kt) Q) :=
  st_recv A K c k (by omega) s S r₀ hr hs hsem (by unfold amt; rw [if_pos hk]; rfl)

theorem back_A {Q : α → sProp 𝕄} (k : ℕ) (hk : k < 7) (S r₀ r : ℕ)
    {sh : Shape} {e : EltTy} {src : Memref sig .tc .vmem sh e} {o : Fin 2 → ℕ} {inb} {h} {sem : DmaSem sig} (hsem : sem = semOf (sendNum k)) {hsrc hdst} :
    St A K c 20 S r₀ r k
      ⊢ iprop((St A K c 20 S r₀ r (k + 1) -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![64, 512] inb) h) hsrc hdst) kt) Q) :=
  st_back A K c k (by omega) S r₀ r hsem (by unfold amt; rw [if_pos hk]; rfl)

theorem wait_B {Q : α → sProp 𝕄} (k : ℕ) (hk : 7 ≤ k) (hk' : k < 10) (s S r₀ : ℕ) (hr : r₀ ≤ k) (hs : ∀ i ∈ Finset.Ico (10 + s) 30, payLv (10 + k) < payLv i)
    {sh : Shape} {e : EltTy} {src : Memref sig .tc .vmem sh e} {o : Fin 2 → ℕ} {inb} {h} {sem : DmaSem sig} (hsem : sem = semOf (recvNum k)) {hsrc hdst} :
    St A K c s S r₀ k 0
      ⊢ iprop((St A K c s S r₀ (k + 1) 0 -∗ wp frame (wpE (defs₀ (F := F)) 𝒱₀ c none) Set.univ (kt ⟨⟩) Q)
        -∗ wp frame (wpE (defs₀ (F := F)) 𝒱₀ c none) Set.univ (.op (.waitDma2 sem src (m9.slice (Rect.unit (s := S48x512) o ![16, 512] inb) h) hsrc hdst) kt) Q) :=
  st_recv A K c k (by omega) s S r₀ hr hs hsem (by unfold amt; rw [if_neg (by omega), if_pos hk']; rfl)

theorem back_B {Q : α → sProp 𝕄} (k : ℕ) (hk : 7 ≤ k) (hk' : k < 10) (S r₀ r : ℕ)
    {sh : Shape} {e : EltTy} {src : Memref sig .tc .vmem sh e} {o : Fin 2 → ℕ} {inb} {h} {sem : DmaSem sig} (hsem : sem = semOf (sendNum k)) {hsrc hdst} :
    St A K c 20 S r₀ r k
      ⊢ iprop((St A K c 20 S r₀ r (k + 1) -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![16, 512] inb) h) hsrc hdst) kt) Q) :=
  st_back A K c k (by omega) S r₀ r hsem (by unfold amt; rw [if_neg (by omega), if_pos hk']; rfl)

theorem wait_C {Q : α → sProp 𝕄} (k : ℕ) (hk : 10 ≤ k) (hk' : k < 13) (s S r₀ : ℕ) (hr : r₀ ≤ k) (hs : ∀ i ∈ Finset.Ico (10 + s) 30, payLv (10 + k) < payLv i)
    {sh : Shape} {e : EltTy} {src : Memref sig .tc .vmem sh e} {o : Fin 2 → ℕ} {inb} {h} {sem : DmaSem sig} (hsem : sem = semOf (recvNum k)) {hsrc hdst} :
    St A K c s S r₀ k 0
      ⊢ iprop((St A K c s S r₀ (k + 1) 0 -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![16, 512] inb) h) hsrc hdst) kt) Q) :=
  st_recv A K c k (by omega) s S r₀ hr hs hsem (by unfold amt; rw [if_neg (by omega), if_neg (by omega), if_pos hk']; rfl)

theorem back_C {Q : α → sProp 𝕄} (k : ℕ) (hk : 10 ≤ k) (hk' : k < 13) (S r₀ r : ℕ)
    {sh : Shape} {e : EltTy} {src : Memref sig .tc .vmem sh e} {o : Fin 2 → ℕ} {inb} {h} {sem : DmaSem sig} (hsem : sem = semOf (sendNum k)) {hsrc hdst} :
    St A K c 20 S r₀ r k
      ⊢ iprop((St A K c 20 S r₀ r (k + 1) -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![16, 512] inb) h) hsrc hdst) kt) Q) :=
  st_back A K c k (by omega) S r₀ r hsem (by unfold amt; rw [if_neg (by omega), if_neg (by omega), if_pos hk']; rfl)

theorem wait_D {Q : α → sProp 𝕄} (k : ℕ) (hk : 13 ≤ k) (hk' : k < 20) (s S r₀ : ℕ) (hr : r₀ ≤ k) (hs : ∀ i ∈ Finset.Ico (10 + s) 30, payLv (10 + k) < payLv i)
    {sh : Shape} {e : EltTy} {src : Memref sig .tc .vmem sh e} {o : Fin 2 → ℕ} {inb} {h} {sem : DmaSem sig} (hsem : sem = semOf (recvNum k)) {hsrc hdst} :
    St A K c s S r₀ k 0
      ⊢ iprop((St A K c s S r₀ (k + 1) 0 -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![64, 512] inb) h) hsrc hdst) kt) Q) :=
  st_recv A K c k (by omega) s S r₀ hr hs hsem (by unfold amt; rw [if_neg (by omega), if_neg (by omega), if_neg (by omega)]; rfl)

theorem back_D {Q : α → sProp 𝕄} (k : ℕ) (hk : 13 ≤ k) (hk' : k < 20) (S r₀ r : ℕ)
    {sh : Shape} {e : EltTy} {src : Memref sig .tc .vmem sh e} {o : Fin 2 → ℕ} {inb} {h} {sem : DmaSem sig} (hsem : sem = semOf (sendNum k)) {hsrc hdst} :
    St A K c 20 S r₀ r k
      ⊢ iprop((St A K c 20 S r₀ r (k + 1) -∗ wp frame (wpE (defs₀ (F := F)) 𝒱₀ c none) Set.univ (kt ⟨⟩) Q)
        -∗ wp frame (wpE (defs₀ (F := F)) 𝒱₀ c none) Set.univ (.op (.waitDma2 sem src (m7.slice (Rect.unit (s := S512x512) o ![64, 512] inb) h) hsrc hdst) kt) Q) :=
  st_back A K c k (by omega) S r₀ r hsem (by unfold amt; rw [if_neg (by omega), if_neg (by omega), if_neg (by omega)]; rfl)

end

end Cert.KernelIdeal

end

end
-- ==== Proof.Load.lean ====
/- The first parts of the body: the operands read and the partial product computed and stored. -/
module

public import proofs.«01_k».proof.Proof.State

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operands as they are staged -/

abbrev g0 : Memref sig .tc .vmem S2x256x512 .f32 := Memref.whole cc0_stg0_0
abbrev g1 : Memref sig .tc .vmem S512x256 .f32 := Memref.whole cc0_stg1_0
abbrev g2 : Memref sig .tc .vmem S2x256x4x64 .f32 := Memref.whole cc0_stg2_0
abbrev g3 : Memref sig .tc .vmem S2x256x4x64 .f32 := Memref.whole cc0_stg3_0
abbrev g4 : Memref sig .tc .vmem S256x512 .f32 := Memref.whole cc0_stg4_0
abbrev g5 : Memref sig .tc .vmem S2x256x512 .f32 := Memref.whole cc0_stg5_0

/-- One batch's keys (or values) of one head. -/
def head (b : Fin 2) (h : Fin 4) (f : Vec F S2x256x4x64 .f32) : Vec F S1x256x1x64 .f32 := fun i => f (ValueIdx.ix4 b (i 1) h (i 3))

/-- What a device computes before the exchange, of its operands. -/
def comp (x : Vec F S2x256x512 .f32) (wq : Vec F S512x256 .f32) (k v : Vec F S2x256x4x64 .f32) (wo : Vec F S256x512 .f32) : Vec F S512x512 .f32 :=
  k0_pay17 k0_pay1
    (k0_pay10 k0_pay1
      (k0_pay6 (k0_pay3 (head 0 0 v)) (k0_pay4 x wq (head 0 0 k)) (k0_pay5 x wq (head 0 0 k)))
      (k0_pay7 k0_pay1 (k0_pay2 x wq) (head 0 1 k) (head 0 1 v)) (k0_pay8 k0_pay1 (k0_pay2 x wq) (head 0 2 k) (head 0 2 v))
      (k0_pay9 (k0_pay2 x wq)) (head 0 3 k) (head 0 3 v))
    (k0_pay11 k0_pay1 (k0_pay2 x wq) (head 1 0 k) (head 1 0 v))
    (k0_pay13 k0_pay1 (k0_pay12 (k0_pay2 x wq)) (head 1 1 k) (head 1 1 v))
    (k0_pay14 k0_pay1 (k0_pay2 x wq) (head 1 2 k) (head 1 2 v)) (k0_pay15 (k0_pay2 x wq)) (k0_pay16 (head 1 3 k)) (head 1 3 v) wo

/-- A rectangle over the whole of a buffer names each element by its own index. -/
theorem emb_full {s : Shape} (o : Fin s.rank → ℕ) (inb) (ho : ∀ a, o a = 0) (x : s.Idx) : (Rect.unit (s := s) o s.size inb).emb x = x := by
  funext a
  apply Fin.ext
  show o a + 1 * (x a).val = (x a).val
  rw [ho, Nat.zero_add, Nat.one_mul]

theorem zero2 : ∀ a : Fin 2, (![0, 0] : Fin 2 → ℕ) a = 0 := by decide
theorem zero3 : ∀ a : Fin 3, (![0, 0, 0] : Fin 3 → ℕ) a = 0 := by decide

theorem load0 (inb) (f : Vec F S2x256x512 .f32) :
    g0.view.readAt (Elt F) (Rect.unit (s := S2x256x512) ![0, 0, 0] S2x256x512.size inb).toLoadRect f = f :=
  funext fun x => congrArg f (emb_full (s := S2x256x512) _ inb zero3 x)
theorem load1 (inb) (f : Vec F S512x256 .f32) :
    g1.view.readAt (Elt F) (Rect.unit (s := S512x256) ![0, 0] S512x256.size inb).toLoadRect f = f :=
  funext fun x => congrArg f (emb_full (s := S512x256) _ inb zero2 x)
theorem load4 (inb) (f : Vec F S256x512 .f32) :
    g4.view.readAt (Elt F) (Rect.unit (s := S256x512) ![0, 0] S256x512.size inb).toLoadRect f = f :=
  funext fun x => congrArg f (emb_full (s := S256x512) _ inb zero2 x)
theorem load6 (inb) (f : Vec F S512x512 .f32) :
    m6.view.readAt (Elt F) (Rect.unit (s := S512x512) ![0, 0] S512x512.size inb).toLoadRect f = f :=
  funext fun x => congrArg f (emb_full (s := S512x512) _ inb zero2 x)
theorem load8 (inb) (f : Vec F S448x512 .bf16) :
    m8.view.readAt (Elt F) (Rect.unit (s := S448x512) ![0, 0] S448x512.size inb).toLoadRect f = f :=
  funext fun x => congrArg f (emb_full (s := S448x512) _ inb zero2 x)
theorem load9 (inb) (f : Vec F S48x512 .bf16) :
    m9.view.readAt (Elt F) (Rect.unit (s := S48x512) ![0, 0] S48x512.size inb).toLoadRect f = f :=
  funext fun x => congrArg f (emb_full (s := S48x512) _ inb zero2 x)

theorem emb_head (b : Fin 2) (h : Fin 4) (inb) (x : S1x256x1x64.Idx) :
    (Rect.unit (s := S2x256x4x64) ![b.val, 0, h.val, 0] S1x256x1x64.size inb).emb x = ValueIdx.ix4 b (x 1) h (x 3) := by
  have h0 : (x 0).val < 1 := (x 0).isLt
  have h2 : (x 2).val < 1 := (x 2).isLt
  funext a
  apply Fin.ext
  fin_cases a
  · show b.val + 1 * (x 0).val = b.val; omega
  · show 0 + 1 * (x 1).val = (x 1).val; omega
  · show h.val + 1 * (x 2).val = h.val; omega
  · show 0 + 1 * (x 3).val = (x 3).val; omega

theorem load2_00 (inb) (f : Vec F S2x256x4x64 .f32) :
    g2.view.readAt (Elt F) (Rect.unit (s := S2x256x4x64) ![0, 0, 0, 0] S1x256x1x64.size inb).toLoadRect f = head 0 0 f :=
  funext fun x => congrArg f (emb_head 0 0 inb x)
theorem load3_00 (inb) (f : Vec F S2x256x4x64 .f32) :
    g3.view.readAt (Elt F) (Rect.unit (s := S2x256x4x64) ![0, 0, 0, 0] S1x256x1x64.size inb).toLoadRect f = head 0 0 f :=
  funext fun x => congrArg f (emb_head 0 0 inb x)
theorem load2_01 (inb) (f : Vec F S2x256x4x64 .f32) :
    g2.view.readAt (Elt F) (Rect.unit (s := S2x256x4x64) ![0, 0, 1, 0] S1x256x1x64.size inb).toLoadRect f = head 0 1 f :=
  funext fun x => congrArg f (emb_head 0 1 inb x)
theorem load3_01 (inb) (f : Vec F S2x256x4x64 .f32) :
    g3.view.readAt (Elt F) (Rect.unit (s := S2x256x4x64) ![0, 0, 1, 0] S1x256x1x64.size inb).toLoadRect f = head 0 1 f :=
  funext fun x => congrArg f (emb_head 0 1 inb x)
theorem load2_02 (inb) (f : Vec F S2x256x4x64 .f32) :
    g2.view.readAt (Elt F) (Rect.unit (s := S2x256x4x64) ![0, 0, 2, 0] S1x256x1x64.size inb).toLoadRect f = head 0 2 f :=
  funext fun x => congrArg f (emb_head 0 2 inb x)
theorem load3_02 (inb) (f : Vec F S2x256x4x64 .f32) :
    g3.view.readAt (Elt F) (Rect.unit (s := S2x256x4x64) ![0, 0, 2, 0] S1x256x1x64.size inb).toLoadRect f = head 0 2 f :=
  funext fun x => congrArg f (emb_head 0 2 inb x)
theorem load2_03 (inb) (f : Vec F S2x256x4x64 .f32) :
    g2.view.readAt (Elt F) (Rect.unit (s := S2x256x4x64) ![0, 0, 3, 0] S1x256x1x64.size inb).toLoadRect f = head 0 3 f :=
  funext fun x => congrArg f (emb_head 0 3 inb x)
theorem load3_03 (inb) (f : Vec F S2x256x4x64 .f32) :
    g3.view.readAt (Elt F) (Rect.unit (s := S2x256x4x64) ![0, 0, 3, 0] S1x256x1x64.size inb).toLoadRect f = head 0 3 f :=
  funext fun x => congrArg f (emb_head 0 3 inb x)
theorem load2_10 (inb) (f : Vec F S2x256x4x64 .f32) :
    g2.view.readAt (Elt F) (Rect.unit (s := S2x256x4x64) ![1, 0, 0, 0] S1x256x1x64.size inb).toLoadRect f = head 1 0 f :=
  funext fun x => congrArg f (emb_head 1 0 inb x)
theorem load3_10 (inb) (f : Vec F S2x256x4x64 .f32) :
    g3.view.readAt (Elt F) (Rect.unit (s := S2x256x4x64) ![1, 0, 0, 0] S1x256x1x64.size inb).toLoadRect f = head 1 0 f :=
  funext fun x => congrArg f (emb_head 1 0 inb x)
theorem load2_11 (inb) (f : Vec F S2x256x4x64 .f32) :
    g2.view.readAt (Elt F) (Rect.unit (s := S2x256x4x64) ![1, 0, 1, 0] S1x256x1x64.size inb).toLoadRect f = head 1 1 f :=
  funext fun x => congrArg f (emb_head 1 1 inb x)
theorem load3_11 (inb) (f : Vec F S2x256x4x64 .f32) :
    g3.view.readAt (Elt F) (Rect.unit (s := S2x256x4x64) ![1, 0, 1, 0] S1x256x1x64.size inb).toLoadRect f = head 1 1 f :=
  funext fun x => congrArg f (emb_head 1 1 inb x)
theorem load2_12 (inb) (f : Vec F S2x256x4x64 .f32) :
    g2.view.readAt (Elt F) (Rect.unit (s := S2x256x4x64) ![1, 0, 2, 0] S1x256x1x64.size inb).toLoadRect f = head 1 2 f :=
  funext fun x => congrArg f (emb_head 1 2 inb x)
theorem load3_12 (inb) (f : Vec F S2x256x4x64 .f32) :
    g3.view.readAt (Elt F) (Rect.unit (s := S2x256x4x64) ![1, 0, 2, 0] S1x256x1x64.size inb).toLoadRect f = head 1 2 f :=
  funext fun x => congrArg f (emb_head 1 2 inb x)
theorem load2_13 (inb) (f : Vec F S2x256x4x64 .f32) :
    g2.view.readAt (Elt F) (Rect.unit (s := S2x256x4x64) ![1, 0, 3, 0] S1x256x1x64.size inb).toLoadRect f = head 1 3 f :=
  funext fun x => congrArg f (emb_head 1 3 inb x)
theorem load3_13 (inb) (f : Vec F S2x256x4x64 .f32) :
    g3.view.readAt (Elt F) (Rect.unit (s := S2x256x4x64) ![1, 0, 3, 0] S1x256x1x64.size inb).toLoadRect f = head 1 3 f :=
  funext fun x => congrArg f (emb_head 1 3 inb x)

/-! ## Whole stores -/

theorem store6 (inb) (f w : Vec F S512x512 .f32) :
    (m6.access (Rect.unit (s := S512x512) ![0, 0] S512x512.size inb)).write (Elt F) f w Finset.univ = w := by
  funext i
  have e := emb_full (s := S512x512) _ inb zero2 i
  refine write_eq_on (Val := Elt F) (m6.access (Rect.unit (s := S512x512) ![0, 0] S512x512.size inb)) f w w
    (fun x => congrArg w (emb_full (s := S512x512) _ inb zero2 x).symm) i (Finset.mem_map.mpr ⟨i, Finset.mem_univ _, e⟩)
theorem store7 (inb) (f w : Vec F S512x512 .bf16) :
    (m7.access (Rect.unit (s := S512x512) ![0, 0] S512x512.size inb)).write (Elt F) f w Finset.univ = w := by
  funext i
  have e := emb_full (s := S512x512) _ inb zero2 i
  refine write_eq_on (Val := Elt F) (m7.access (Rect.unit (s := S512x512) ![0, 0] S512x512.size inb)) f w w
    (fun x => congrArg w (emb_full (s := S512x512) _ inb zero2 x).symm) i (Finset.mem_map.mpr ⟨i, Finset.mem_univ _, e⟩)

section
variable (c : Dev nD)

abbrev on0 (f : Vec F S2x256x512 .f32) : sProp 𝕄 := g0.view.loc (c : Thread nD τ) ↦{fullShare} f
abbrev on1 (f : Vec F S512x256 .f32) : sProp 𝕄 := g1.view.loc (c : Thread nD τ) ↦{fullShare} f
abbrev on2 (f : Vec F S2x256x4x64 .f32) : sProp 𝕄 := g2.view.loc (c : Thread nD τ) ↦{fullShare} f
abbrev on3 (f : Vec F S2x256x4x64 .f32) : sProp 𝕄 := g3.view.loc (c : Thread nD τ) ↦{fullShare} f
abbrev on4 (f : Vec F S256x512 .f32) : sProp 𝕄 := g4.view.loc (c : Thread nD τ) ↦{fullShare} f
abbrev on5 (f : Vec F S2x256x512 .f32) : sProp 𝕄 := g5.view.loc (c : Thread nD τ) ↦{fullShare} f

variable (h0 : (g0 : Memref sig .tc .vmem S2x256x512 .f32).IsWhole) (h1 : (g1 : Memref sig .tc .vmem S512x256 .f32).IsWhole)
  (h2 : (g2 : Memref sig .tc .vmem S2x256x4x64 .f32).IsWhole) (h3 : (g3 : Memref sig .tc .vmem S2x256x4x64 .f32).IsWhole)
  (h4 : (g4 : Memref sig .tc .vmem S256x512 .f32).IsWhole) (h5 : (g5 : Memref sig .tc .vmem S2x256x512 .f32).IsWhole)
  (h6 : m6.IsWhole) (h7 : m7.IsWhole) (h8 : m8.IsWhole) (h9 : m9.IsWhole)
  (x : Vec F S2x256x512 .f32) (wq : Vec F S512x256 .f32) (k v : Vec F S2x256x4x64 .f32) (wo : Vec F S256x512 .f32)

theorem part1 {Kt : _ → sProp 𝕄} :
    iprop((on0 c x ∗ on1 c wq ∗ on2 c k ∗ on3 c v) ∗ ∀ v3 v5 v8, ((on0 c x ∗ on1 c wq ∗ on2 c k ∗ on3 c v)
        -∗ Kt ⟨c, v3, v5, v8, k0_pay1, k0_pay2 x wq, k0_pay3 (head 0 0 v), k0_pay4 x wq (head 0 0 k), k0_pay5 x wq (head 0 0 k)⟩))
      ⊢ wp frame (wpE (defs₀ (F := F)) 𝒱₀ c none) Set.univ
        (k0_part1 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11) Kt := by
  rw [k0_part1_eq_skeleton]
  unfold k0_part1_skel
  simp only [Prog.lift, Prog.bind_op, Prog.bind_ret, Prog.pure_eq_ret, wp_deviceId]
  iintro ⟨⟨H0, H1, H2, H3⟩, Hk⟩
  iapply (wp_load 𝒱₀ (c : Thread nD τ) none Set.univ (m := g0) (Finset.subset_univ _)) $$ H0; iintro H0
  iapply (wp_load 𝒱₀ (c : Thread nD τ) none Set.univ (m := g1) (Finset.subset_univ _)) $$ H1; iintro H1
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  rw [load0, load1, load2_00, load3_00, wp_ret]; imodintro
  iapply Hk
  isplitl [H0]; · iexact H0
  isplitl [H1]; · iexact H1
  isplitl [H2] <;> iassumption

theorem part2 (v16 : FVec F S256x256 .f32) (v22 : FVec F S512x256 .f32) (v27 : FVec F S256x64 .f32) (v32 : FVec F S256x256 .f32) (v33 : FVec F S256 .f32) {Kt : _ → sProp 𝕄} :
    iprop((on2 c k ∗ on3 c v) ∗ ((on2 c k ∗ on3 c v)
        -∗ Kt ⟨k0_pay6 v27 v32 v33, k0_pay7 v16 v22 (head 0 1 k) (head 0 1 v), k0_pay8 v16 v22 (head 0 2 k) (head 0 2 v), k0_pay9 v22⟩))
      ⊢ wp frame (wpE (defs₀ (F := F)) 𝒱₀ c none) Set.univ
        (k0_part2 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 v16 v22 v27 v32 v33) Kt := by
  rw [k0_part2_eq_skeleton]
  unfold k0_part2_skel
  simp only [Prog.lift, Prog.bind_op, Prog.bind_ret, Prog.pure_eq_ret, wp_deviceId]
  iintro ⟨⟨H2, H3⟩, Hk⟩
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  rw [load2_01, load3_01, load2_02, load3_02, wp_ret]; imodintro
  iapply Hk
  isplitl [H2] <;> iassumption

theorem part3 (v16 : FVec F S256x256 .f32) (v22 : FVec F S512x256 .f32) (v37 v52 v67 v68 : FVec F S256x64 .f32) {Kt : _ → sProp 𝕄} :
    iprop((on2 c k ∗ on3 c v) ∗ ((on2 c k ∗ on3 c v)
        -∗ Kt ⟨k0_pay10 v16 v37 v52 v67 v68 (head 0 3 k) (head 0 3 v), k0_pay11 v16 v22 (head 1 0 k) (head 1 0 v), k0_pay12 v22, head 1 1 k⟩))
      ⊢ wp frame (wpE (defs₀ (F := F)) 𝒱₀ c none) Set.univ
        (k0_part3 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 v16 v22 v37 v52 v67 v68) Kt := by
  rw [k0_part3_eq_skeleton]
  unfold k0_part3_skel
  simp only [Prog.lift, Prog.bind_op, Prog.bind_ret, Prog.pure_eq_ret, wp_deviceId]
  iintro ⟨⟨H2, H3⟩, Hk⟩
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  iapply (wp_load 𝒱₀ (c : Thread nD τ) none Set.univ (m := g2) (Finset.subset_univ _)) $$ H2; iintro H2
  rw [load2_03, load3_03, load2_10, load3_10, load2_11, wp_ret]; imodintro
  iapply Hk
  isplitl [H2] <;> iassumption

theorem part4 (v16 : FVec F S256x256 .f32) (v22 : FVec F S512x256 .f32) (v99 : FVec F S256x64 .f32) (v100 : Vec F S1x256x1x64 .f32) {Kt : _ → sProp 𝕄} :
    iprop((on2 c k ∗ on3 c v) ∗ ((on2 c k ∗ on3 c v)
        -∗ Kt ⟨k0_pay13 v16 v99 v100 (head 1 1 v), k0_pay14 v16 v22 (head 1 2 k) (head 1 2 v), k0_pay15 v22, k0_pay16 (head 1 3 k), head 1 3 v⟩))
      ⊢ wp frame (wpE (defs₀ (F := F)) 𝒱₀ c none) Set.univ
        (k0_part4 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 v16 v22 v99 v100) Kt := by
  rw [k0_part4_eq_skeleton]
  unfold k0_part4_skel
  simp only [Prog.lift, Prog.bind_op, Prog.bind_ret, Prog.pure_eq_ret, wp_deviceId]
  iintro ⟨⟨H2, H3⟩, Hk⟩
  iapply (wp_load 𝒱₀ (c : Thread nD τ) none Set.univ (m := g3) (Finset.subset_univ _)) $$ H3; iintro H3
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  iapply (wp_load 𝒱₀ (c : Thread nD τ) none Set.univ (m := g2) (Finset.subset_univ _)) $$ H2; iintro H2
  iapply (wp_load 𝒱₀ (c : Thread nD τ) none Set.univ (m := g3) (Finset.subset_univ _)) $$ H3; iintro H3
  rw [load3_11, load2_12, load3_12, load2_13, load3_13, wp_ret]; imodintro
  iapply Hk
  isplitl [H2] <;> iassumption

theorem part5 (v3 v5 v8 : BitVec 32) (v16 : FVec F S256x256 .f32) (v83 : FVec F S256x256 .f32) (v98 v113 v128 v129 v131 : FVec F S256x64 .f32) (v132 : Vec F S1x256x1x64 .f32)
    (f6 : Vec F S512x512 .f32) (f7 : Vec F S512x512 .bf16) {Kt : _ → sProp 𝕄} :
    iprop((on4 c wo ∗ at6 c f6 ∗ at7 c Finset.univ fullShare f7) ∗ ∀ v153 v154 v156 v169,
        ((on4 c wo ∗ at6 c (k0_pay17 v16 v83 v98 v113 v128 v129 v131 v132 wo) ∗ at7 c Finset.univ fullShare (k0_pay18 (k0_pay17 v16 v83 v98 v113 v128 v129 v131 v132 wo)))
        -∗ Kt ⟨v153, v154, v156, SemArray.scalar (sig.barrier 0 rfl), v169⟩))
      ⊢ wp frame (wpE (defs₀ (F := F)) 𝒱₀ c none) Set.univ
        (k0_part5 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 v3 v5 v8 v16 v83 v98 v113 v128 v129 v131 v132) Kt := by
  rw [k0_part5_eq_skeleton]
  unfold k0_part5_skel
  simp only [Prog.lift, Prog.bind_op, Prog.bind_ret, Prog.pure_eq_ret, wp_deviceId]
  iintro ⟨⟨H4, H6, H7⟩, Hk⟩
  iapply (wp_load 𝒱₀ (c : Thread nD τ) none Set.univ (m := g4) (Finset.subset_univ _)) $$ H4; iintro H4
  iapply (wp_load 𝒱₀ (c : Thread nD τ) none Set.univ (m := m6) (Finset.subset_univ _)) $$ H6; iintro H6
  iapply (wp_store 𝒱₀ (c : Thread nD τ) none Set.univ (m := m6) (r := Rect.unit (s := S512x512) ![0, 0] S512x512.size inb_S512x512_S512x512_0_0) (Mk := Finset.univ) (Finset.subset_univ _)) $$ H6; iintro H6
  rw [load4, store6]
  iapply (wp_load 𝒱₀ (c : Thread nD τ) none Set.univ (m := m6) (Finset.subset_univ _)) $$ H6; iintro H6
  iapply (wp_load 𝒱₀ (c : Thread nD τ) none Set.univ (m := m7) (Finset.subset_univ _)) $$ H7; iintro H7
  iapply (wp_store 𝒱₀ (c : Thread nD τ) none Set.univ (m := m7) (r := Rect.unit (s := S512x512) ![0, 0] S512x512.size inb_S512x512_S512x512_0_0) (Mk := Finset.univ) (Finset.subset_univ _)) $$ H7; iintro H7
  rw [load6, store7, wp_ret]; imodintro
  iapply Hk
  isplitl [H4]; · iexact H4
  isplitl [H6] <;> iassumption

end

end Cert.KernelIdeal

end

end
-- ==== Proof.Access.lean ====
/- Reading and storing rows of the working arrays and of the result. -/
module

public import proofs.«01_k».proof.Proof.Load

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- Block `v` of `g` rows of an array's contents. -/
def rowsOf {β : Type} (g v : ℕ) (f : S512x512.Idx → β) : (⟨2, ![g, 512]⟩ : Shape).Idx → β := fun x => f (i512 (g * v + (x 0).val) (x 1))

section
variable {α : Type}

theorem emb_at (g v : ℕ) {o : Fin 2 → ℕ} (ho : o = ![g * v, 0]) (hlt : g * v + g ≤ 512) (inb) (x : (⟨2, ![g, 512]⟩ : Shape).Idx) :
    (Rect.unit (s := S512x512) o ![g, 512] inb).emb x = i512 (g * v + (x 0).val) (x 1) := by
  subst ho
  have hx : (x 0).val < g := (x 0).isLt
  exact emb_rows 512 g v (by decide) inb x (by omega)

theorem set_at (g v : ℕ) (hg : 0 < g) {o : Fin 2 → ℕ} (ho : o = ![g * v, 0]) (inb) :
    (Rect.unit (s := S512x512) o ![g, 512] inb).set = rows 512 g v := by
  subst ho; exact set_rows 512 g v hg inb

theorem load_rows7 {Q : α → sProp 𝕄} (g v : ℕ) (hg : 0 < g) (hlt : g * v + g ≤ 512) {o : Fin 2 → ℕ} (ho : o = ![g * v, 0]) {inb}
    {S : Finset S512x512.Idx} (hS : rows 512 g v ⊆ S) {q : PosShare TreeShare} {f : Vec F S512x512 .bf16} {hl}
    {kt : Vec F ⟨2, ![g, 512]⟩ .bf16 → Prog (TpuEff nD τ sig (Elt F) Λ₀ .tc) α} :
    (at7 c S q f : sProp 𝕄)
      ⊢ iprop((at7 c S q f -∗ wp frame (wpE (defs₀ (F := F)) 𝒱₀ c none) Set.univ (kt (rowsOf g v f)) Q)
        -∗ wp frame (wpE (defs₀ (F := F)) 𝒱₀ c none) Set.univ (.op (.load m7 (Rect.unit (s := S512x512) o ![g, 512] inb).toLoadRect hl) kt) Q) := by
  have e : (m7.access (Rect.unit (s := S512x512) o ![g, 512] inb)).read (Elt F) f = rowsOf g v f :=
    funext fun x => congrArg f (emb_at g v ho hlt inb x)
  iintro H Hk
  iapply (wp_load_rect 𝒱₀ (c : Thread nD τ) none Set.univ (m := m7) (r := Rect.unit (s := S512x512) o ![g, 512] inb) (hl := hl) (S := S) (f := f) (q := q) (k := kt) (by rw [show (m7.access (Rect.unit (s := S512x512) o ![g, 512] inb)).set = rows 512 g v from (View.set_slice_whole _ _).trans (set_at g v hg ho inb)]; exact hS)) $$ H
  iintro H
  rw [e]
  iapply Hk; iexact H

theorem load_rows6 {Q : α → sProp 𝕄} (g v : ℕ) (hlt : g * v + g ≤ 512) {o : Fin 2 → ℕ} (ho : o = ![g * v, 0]) {inb}
    {f : Vec F S512x512 .f32} {hl}
    {kt : Vec F ⟨2, ![g, 512]⟩ .f32 → Prog (TpuEff nD τ sig (Elt F) Λ₀ .tc) α} :
    (at6 c f : sProp 𝕄)
      ⊢ iprop((at6 c f -∗ wp frame (wpE (defs₀ (F := F)) 𝒱₀ c none) Set.univ (kt (rowsOf g v f)) Q)
        -∗ wp frame (wpE (defs₀ (F := F)) 𝒱₀ c none) Set.univ (.op (.load m6 (Rect.unit (s := S512x512) o ![g, 512] inb).toLoadRect hl) kt) Q) := by
  have e : (m6.access (Rect.unit (s := S512x512) o ![g, 512] inb)).read (Elt F) f = rowsOf g v f :=
    funext fun x => congrArg f (emb_at g v ho hlt inb x)
  iintro H Hk
  iapply (wp_load_rect 𝒱₀ (c : Thread nD τ) none Set.univ (m := m6) (r := Rect.unit (s := S512x512) o ![g, 512] inb) (hl := hl) (f := f) (k := kt) (Finset.subset_univ _)) $$ H
  iintro H
  rw [e]
  iapply Hk; iexact H

theorem store_rows7 {Q : α → sProp 𝕄} (g v : ℕ) (hg : 0 < g) (hlt : g * v + g ≤ 512) {o : Fin 2 → ℕ} (ho : o = ![g * v, 0]) {inb}
    {f : Vec F S512x512 .bf16} (f' : Vec F S512x512 .bf16) {w : Vec F ⟨2, ![g, 512]⟩ .bf16} {hx hm}
    (hw : ∀ x, w x = rowsOf g v f' x)
    {kt : PUnit → Prog (TpuEff nD τ sig (Elt F) Λ₀ .tc) α} :
    (at7 c (rows 512 g v) fullShare f : sProp 𝕄)
      ⊢ iprop((at7 c (rows 512 g v) fullShare f' -∗ wp frame (wpE (defs₀ (F := F)) 𝒱₀ c none) Set.univ (kt ⟨⟩) Q)
        -∗ wp frame (wpE (defs₀ (F := F)) 𝒱₀ c none) Set.univ (.op (.store m7 (Rect.unit (s := S512x512) o ![g, 512] inb) w Finset.univ hx hm) kt) Q) := by
  have hs : (m7.access (Rect.unit (s := S512x512) o ![g, 512] inb)).set = rows 512 g v := by
    exact (View.set_slice_whole _ _).trans (set_at g v hg ho inb)
  have e : (at7 c (rows 512 g v) fullShare ((m7.access (Rect.unit (s := S512x512) o ![g, 512] inb)).write (Elt F) f w Finset.univ) : sProp 𝕄)
      = at7 c (rows 512 g v) fullShare f' := by
    refine pointsTo_congr fun i hi => ?_
    refine write_eq_on (Val := Elt F) (m7.access (Rect.unit (s := S512x512) o ![g, 512] inb)) f f' w (fun x => ?_) i (by rw [hs]; exact hi)
    rw [hw]
    exact congrArg f' (emb_at g v ho hlt inb x).symm
  rw [← e]
  exact wp_store 𝒱₀ (c : Thread nD τ) none Set.univ (m := m7) (hx := hx) (hm := hm) (Mk := Finset.univ) (by rw [View.setOn_univ, hs])

theorem store_rows6 {Q : α → sProp 𝕄} (g v : ℕ) (hlt : g * v + g ≤ 512) {o : Fin 2 → ℕ} (ho : o = ![g * v, 0]) {inb}
    {f : Vec F S512x512 .f32} {w : Vec F ⟨2, ![g, 512]⟩ .f32} {hx hm}
    {kt : PUnit → Prog (TpuEff nD τ sig (Elt F) Λ₀ .tc) α} :
    (at6 c f : sProp 𝕄)
      ⊢ iprop((iprop(∃ f', at6 c f' ∗ ⌜∀ x : (⟨2, ![g, 512]⟩ : Shape).Idx, rowsOf g v f' x = w x⌝) -∗ wp frame (wpE (defs₀ (F := F)) 𝒱₀ c none) Set.univ (kt ⟨⟩) Q)
        -∗ wp frame (wpE (defs₀ (F := F)) 𝒱₀ c none) Set.univ (.op (.store m6 (Rect.unit (s := S512x512) o ![g, 512] inb) w Finset.univ hx hm) kt) Q) := by
  have hw : ∀ x : (⟨2, ![g, 512]⟩ : Shape).Idx, (m6.access (Rect.unit (s := S512x512) o ![g, 512] inb)).write (Elt F) f w Finset.univ (i512 (g * v + (x 0).val) (x 1)) = w x := by
    intro x
    rw [show i512 (g * v + (x 0).val) (x 1) = _ from (emb_at g v ho hlt inb x).symm]
    exact View.write_emb_of_mem (v := m6.access (Rect.unit (s := S512x512) o ![g, 512] inb)) (Val := Elt F) f w (Finset.mem_univ x)
  iintro H Hk
  iapply (wp_store 𝒱₀ (c : Thread nD τ) none Set.univ (m := m6) (r := Rect.unit (s := S512x512) o ![g, 512] inb) (hx := hx) (hm := hm) (Mk := Finset.univ) (Finset.subset_univ _)) $$ H
  iintro H
  iapply Hk
  iexists _
  isplitl [H]; · iexact H
  ipureintro; exact hw

end

/-! ## The two batches of the result -/

theorem emb_out (b : Fin 2) (inb) (x : S1x256x512.Idx) :
    (Rect.unit (s := S2x256x512) ![b.val, 0, 0] S1x256x512.size inb).emb x = ValueIdx.ix3 b (x 1) (x 2) := by
  have h0 : (x 0).val < 1 := (x 0).isLt
  funext a
  apply Fin.ext
  fin_cases a
  · show b.val + 1 * (x 0).val = b.val; omega
  · show 0 + 1 * (x 1).val = (x 1).val; omega
  · show 0 + 1 * (x 2).val = (x 2).val; omega

/-- The result, of the two batches. -/
def both (w0 w1 : Vec F S1x256x512 .f32) : Vec F S2x256x512 .f32 :=
  fun i => if (i 0).val = 0 then w0 (ValueIdx.ix3 0 (i 1) (i 2)) else w1 (ValueIdx.ix3 0 (i 1) (i 2))

theorem store_out (inb inb') (f : Vec F S2x256x512 .f32) (w0 w1 : Vec F S1x256x512 .f32) :
    (g5.access (Rect.unit (s := S2x256x512) ![1, 0, 0] S1x256x512.size inb')).write (Elt F)
      ((g5.access (Rect.unit (s := S2x256x512) ![0, 0, 0] S1x256x512.size inb)).write (Elt F) f w0 Finset.univ) w1 Finset.univ = both w0 w1 := by
  have hix (x : S1x256x512.Idx) : (ValueIdx.ix3 0 (x 1) (x 2) : S1x256x512.Idx) = x := by
    have h0 : (x 0).val < 1 := (x 0).isLt
    funext a
    apply Fin.ext
    fin_cases a
    · show 0 = (x 0).val; omega
    · rfl
    · rfl
  have e0 (b : Fin 2) (inb) (x : S1x256x512.Idx) : ((g5.access (Rect.unit (s := S2x256x512) ![b.val, 0, 0] S1x256x512.size inb)).emb x : S2x256x512.Idx) = ValueIdx.ix3 b (x 1) (x 2) :=
    emb_out b inb x
  have hm (b : Fin 2) (inb) (i : S2x256x512.Idx) (hi : (i 0).val = b.val) : i ∈ (g5.access (Rect.unit (s := S2x256x512) ![b.val, 0, 0] S1x256x512.size inb)).set := by
    refine Finset.mem_map.mpr ⟨(ValueIdx.ix3 0 (i 1) (i 2) : S1x256x512.Idx), Finset.mem_univ _, (e0 b inb _).trans ?_⟩
    funext a
    apply Fin.ext
    fin_cases a
    · exact hi.symm
    · rfl
    · rfl
  have hn (i : S2x256x512.Idx) (hi : (i 0).val = 0) : i ∉ (g5.access (Rect.unit (s := S2x256x512) ![1, 0, 0] S1x256x512.size inb')).setOn Finset.univ := by
    intro h
    obtain ⟨x, -, hx⟩ := Finset.mem_map.mp h
    have h1 := congrArg (fun j : S2x256x512.Idx => (j 0).val) ((e0 1 inb' x).symm.trans hx)
    have h2 : (1 : ℕ) = (i 0).val := h1
    omega
  funext i
  by_cases hi : (i 0).val = 0
  · rw [View.write_of_not_mem _ _ _ (hn i hi)]
    refine write_eq_on (Val := Elt F) (g5.access (Rect.unit (s := S2x256x512) ![0, 0, 0] S1x256x512.size inb)) f (both w0 w1) w0 (fun x => ?_) i (hm 0 inb i hi)
    refine Eq.trans ?_ (congrArg (both w0 w1) (e0 0 inb x)).symm
    exact (congrArg w0 (hix x)).symm
  · have h0 : (i 0).val < 2 := (i 0).isLt
    refine write_eq_on (Val := Elt F) (g5.access (Rect.unit (s := S2x256x512) ![1, 0, 0] S1x256x512.size inb')) _ (both w0 w1) w1 (fun x => ?_) i (hm 1 inb' i (show (i 0).val = 1 by omega))
    refine Eq.trans ?_ (congrArg (both w0 w1) (e0 1 inb' x)).symm
    exact (congrArg w1 (hix x)).symm

end Cert.KernelIdeal

end

end
-- ==== Proof.Parts.lean ====
/- The parts of the body that only copy and wait. -/
module

public import proofs.«01_k».proof.Proof.State

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

variable (arg0 : Memref sig .tc .vmem S2x256x512 .f32) (h0 : arg0.IsWhole) (arg1 : Memref sig .tc .vmem S512x256 .f32) (h1 : arg1.IsWhole)
  (arg2 : Memref sig .tc .vmem S2x256x4x64 .f32) (h2 : arg2.IsWhole) (arg3 : Memref sig .tc .vmem S2x256x4x64 .f32) (h3 : arg3.IsWhole)
  (arg4 : Memref sig .tc .vmem S256x512 .f32) (h4 : arg4.IsWhole) (arg5 : Memref sig .tc .vmem S2x256x512 .f32) (h5 : arg5.IsWhole)
  (h6 : m6.IsWhole) (h7 : m7.IsWhole) (h8 : m8.IsWhole) (h9 : m9.IsWhole)

theorem part10 (v3 : BitVec 32) (v153 : BitVec 32) (v293 : BitVec 32) {Kt : _ → sProp 𝕄} :
    iprop(St A K c 1 7 0 0 0 ∗ ∀ r, (St A K c 3 7 0 0 0 -∗ Kt r))
      ⊢ wp frame (wpE (defs₀ (F := F)) 𝒱₀ c none) Set.univ
        (k0_part10 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 v293) Kt := by
  rw [k0_part10_eq_skeleton]
  unfold k0_part10_skel
  simp only [Prog.lift, Prog.bind_op, Prog.bind_ret, Prog.pure_eq_ret]
  iintro ⟨H, Hk⟩
  iapply (st_A A K c 1 (by decide) 7 0 0 (by decide) (dev12_eq c) (off1_eq1 c) rfl rfl rfl) $$ H
  iintro H
  iapply (st_A A K c 2 (by decide) 7 0 0 (by decide) (dev13_eq c) (off1_eq2 c) rfl rfl rfl) $$ H
  iintro H
  rw [wp_ret]; imodintro
  iapply Hk; iexact H

theorem part11 (v3 : BitVec 32) (v153 : BitVec 32) (v321 : BitVec 32) (v327 : BitVec 32) {Kt : _ → sProp 𝕄} :
    iprop(St A K c 3 7 0 0 0 ∗ ∀ r, (St A K c 5 7 0 0 0 -∗ Kt r))
      ⊢ wp frame (wpE (defs₀ (F := F)) 𝒱₀ c none) Set.univ
        (k0_part11 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 v321 v327) Kt := by
  rw [k0_part11_eq_skeleton]
  unfold k0_part11_skel
  simp only [Prog.lift, Prog.bind_op, Prog.bind_ret, Prog.pure_eq_ret]
  iintro ⟨H, Hk⟩
  iapply (st_A A K c 3 (by decide) 7 0 0 (by decide) (dev14_eq c) (off1_eq3 c) rfl rfl rfl) $$ H
  iintro H
  iapply (st_A A K c 4 (by decide) 7 0 0 (by decide) (dev15_eq c) (off1_eq4 c) rfl rfl rfl) $$ H
  iintro H
  rw [wp_ret]; imodintro
  iapply Hk; iexact H

theorem part12 (v3 : BitVec 32) (v153 : BitVec 32) (v357 : BitVec 32) (v358 : BitVec 32) (v359 : BitVec 32) {Kt : _ → sProp 𝕄} :
    iprop(St A K c 5 7 0 0 0 ∗ ∀ r, (St A K c 7 7 0 0 0 -∗ Kt r))
      ⊢ wp frame (wpE (defs₀ (F := F)) 𝒱₀ c none) Set.univ
        (k0_part12 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 v357 v358 v359) Kt := by
  rw [k0_part12_eq_skeleton]
  unfold k0_part12_skel
  simp only [Prog.lift, Prog.bind_op, Prog.bind_ret, Prog.pure_eq_ret]
  iintro ⟨H, Hk⟩
  iapply (st_A A K c 5 (by decide) 7 0 0 (by decide) (dev16_eq c) (off1_eq5 c) rfl rfl rfl) $$ H
  iintro H
  iapply (st_A A K c 6 (by decide) 7 0 0 (by decide) (dev17_eq c) (off1_eq6 c) rfl rfl rfl) $$ H
  iintro H
  rw [wp_ret]; imodintro
  iapply Hk; iexact H

theorem part13 (v275 : BitVec 32) (v293 : BitVec 32) (v311 : BitVec 32) (v329 : BitVec 32) (v347 : BitVec 32) {Kt : _ → sProp 𝕄} :
    iprop(St A K c 7 7 0 0 0 ∗ ∀ r, (St A K c 7 7 0 4 0 -∗ Kt r))
      ⊢ wp frame (wpE (defs₀ (F := F)) 𝒱₀ c none) Set.univ
        (k0_part13 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v275 v293 v311 v329 v347) Kt := by
  rw [k0_part13_eq_skeleton]
  unfold k0_part13_skel
  simp only [Prog.lift, Prog.bind_op, Prog.bind_ret, Prog.pure_eq_ret]
  iintro ⟨H, Hk⟩
  iapply (wait_A A K c 0 (by decide) 7 7 0 (by decide) (by decide) rfl) $$ H
  iintro H
  iapply (wait_A A K c 1 (by decide) 7 7 0 (by decide) (by decide) rfl) $$ H
  iintro H
  iapply (wait_A A K c 2 (by decide) 7 7 0 (by decide) (by decide) rfl) $$ H
  iintro H
  iapply (wait_A A K c 3 (by decide) 7 7 0 (by decide) (by decide) rfl) $$ H
  iintro H
  rw [wp_ret]; imodintro
  iapply Hk; iexact H

theorem part16 (v3 : BitVec 32) (v5 : BitVec 32) (v8 : BitVec 32) (v154 : BitVec 32) (v457 : BitVec 32) (v475 : BitVec 32) {Kt : _ → sProp 𝕄} :
    iprop(St A K c 8 10 7 7 0 ∗ ∀ r, (St A K c 10 10 7 8 0 -∗ Kt r))
      ⊢ wp frame (wpE (defs₀ (F := F)) 𝒱₀ c none) Set.univ
        (k0_part16 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v5 v8 v154 v457 v475) Kt := by
  rw [k0_part16_eq_skeleton]
  unfold k0_part16_skel
  simp only [Prog.lift, Prog.bind_op, Prog.bind_ret, Prog.pure_eq_ret]
  iintro ⟨H, Hk⟩
  iapply (st_B A K c 8 (by decide) (by decide) 10 7 7 (by decide) (dev19_eq c) (off3_sk1 c) rfl rfl rfl) $$ H
  iintro H
  iapply (st_B A K c 9 (by decide) (by decide) 10 7 7 (by decide) (dev20_eq c) (off3_sk2 c) rfl rfl rfl) $$ H
  iintro H
  iapply (wait_B A K c 7 (by decide) (by decide) 10 10 7 (by decide) (by decide) rfl) $$ H
  iintro H
  rw [wp_ret]; imodintro
  iapply Hk; iexact H

theorem part18 (v3 : BitVec 32) (v5 : BitVec 32) (v8 : BitVec 32) (v541 : BitVec 32) {Kt : _ → sProp 𝕄} :
    iprop(St A K c 10 13 10 10 0 ∗ ∀ r, (St A K c 13 13 10 10 0 -∗ Kt r))
      ⊢ wp frame (wpE (defs₀ (F := F)) 𝒱₀ c none) Set.univ
        (k0_part18 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v5 v8 v541) Kt := by
  rw [k0_part18_eq_skeleton]
  unfold k0_part18_skel
  simp only [Prog.lift, Prog.bind_op, Prog.bind_ret, Prog.pure_eq_ret]
  iintro ⟨H, Hk⟩
  iapply (st_C A K c 10 (by decide) (by decide) 13 10 10 (by decide) (dev21_eq c) (off5_sk c) rfl rfl) $$ H
  iintro H
  iapply (st_C A K c 11 (by decide) (by decide) 13 10 10 (by decide) (dev22_eq c) (off5_sk c) rfl rfl) $$ H
  iintro H
  iapply (st_C A K c 12 (by decide) (by decide) 13 10 10 (by decide) (dev23_eq c) (off5_sk c) rfl rfl) $$ H
  iintro H
  rw [wp_ret]; imodintro
  iapply Hk; iexact H

theorem part19 (v3 : BitVec 32) (v153 : BitVec 32) (v556 : BitVec 32) (v571 : BitVec 32) (v580 : BitVec 32) {Kt : _ → sProp 𝕄} :
    iprop(St A K c 13 13 10 10 0 ∗ ∀ r, (St A K c 13 13 10 13 0 -∗ Kt r))
      ⊢ wp frame (wpE (defs₀ (F := F)) 𝒱₀ c none) Set.univ
        (k0_part19 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 v556 v571 v580) Kt := by
  rw [k0_part19_eq_skeleton]
  unfold k0_part19_skel
  simp only [Prog.lift, Prog.bind_op, Prog.bind_ret, Prog.pure_eq_ret]
  iintro ⟨H, Hk⟩
  iapply (wait_C A K c 10 (by decide) (by decide) 13 13 10 (by decide) (by decide) rfl) $$ H
  iintro H
  iapply (wait_C A K c 11 (by decide) (by decide) 13 13 10 (by decide) (by decide) rfl) $$ H
  iintro H
  iapply (wait_C A K c 12 (by decide) (by decide) 13 13 10 (by decide) (by decide) rfl) $$ H
  iintro H
  rw [wp_ret]; imodintro
  iapply Hk; iexact H

theorem part20 (v3 : BitVec 32) (v153 : BitVec 32) {Kt : _ → sProp 𝕄} :
    iprop(St A K c 13 20 13 13 0 ∗ ∀ r, (St A K c 15 20 13 13 0 -∗ Kt r))
      ⊢ wp frame (wpE (defs₀ (F := F)) 𝒱₀ c none) Set.univ
        (k0_part20 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153) Kt := by
  rw [k0_part20_eq_skeleton]
  unfold k0_part20_skel
  simp only [Prog.lift, Prog.bind_op, Prog.bind_ret, Prog.pure_eq_ret]
  iintro ⟨H, Hk⟩
  iapply (st_D A K c 13 (by decide) (by decide) 20 13 13 (by decide) (dev24_eq c) (off6_eq c) rfl rfl) $$ H
  iintro H
  iapply (st_D A K c 14 (by decide) (by decide) 20 13 13 (by decide) (dev25_eq c) (off6_eq c) rfl rfl) $$ H
  iintro H
  rw [wp_ret]; imodintro
  iapply Hk; iexact H

theorem part21 (v3 : BitVec 32) (v153 : BitVec 32) {Kt : _ → sProp 𝕄} :
    iprop(St A K c 15 20 13 13 0 ∗ ∀ r, (St A K c 17 20 13 13 0 -∗ Kt r))
      ⊢ wp frame (wpE (defs₀ (F := F)) 𝒱₀ c none) Set.univ
        (k0_part21 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153) Kt := by
  rw [k0_part21_eq_skeleton]
  unfold k0_part21_skel
  simp only [Prog.lift, Prog.bind_op, Prog.bind_ret, Prog.pure_eq_ret]
  iintro ⟨H, Hk⟩
  iapply (st_D A K c 15 (by decide) (by decide) 20 13 13 (by decide) (dev26_eq c) (off6_eq c) rfl rfl) $$ H
  iintro H
  iapply (st_D A K c 16 (by decide) (by decide) 20 13 13 (by decide) (dev27_eq c) (off6_eq c) rfl rfl) $$ H
  iintro H
  rw [wp_ret]; imodintro
  iapply Hk; iexact H

theorem part22 (v3 : BitVec 32) (v153 : BitVec 32) {Kt : _ → sProp 𝕄} :
    iprop(St A K c 17 20 13 13 0 ∗ ∀ r, (St A K c 19 20 13 13 0 -∗ Kt r))
      ⊢ wp frame (wpE (defs₀ (F := F)) 𝒱₀ c none) Set.univ
        (k0_part22 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153) Kt := by
  rw [k0_part22_eq_skeleton]
  unfold k0_part22_skel
  simp only [Prog.lift, Prog.bind_op, Prog.bind_ret, Prog.pure_eq_ret]
  iintro ⟨H, Hk⟩
  iapply (st_D A K c 17 (by decide) (by decide) 20 13 13 (by decide) (dev28_eq c) (off6_eq c) rfl rfl) $$ H
  iintro H
  iapply (st_D A K c 18 (by decide) (by decide) 20 13 13 (by decide) (dev29_eq c) (off6_eq c) rfl rfl) $$ H
  iintro H
  rw [wp_ret]; imodintro
  iapply Hk; iexact H

theorem part23 (v606 : BitVec 32) (v623 : BitVec 32) (v640 : BitVec 32) (v657 : BitVec 32) {Kt : _ → sProp 𝕄} :
    iprop(St A K c 19 20 13 13 0 ∗ ∀ r, (St A K c 20 20 13 17 0 -∗ Kt r))
      ⊢ wp frame (wpE (defs₀ (F := F)) 𝒱₀ c none) Set.univ
        (k0_part23 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v606 v623 v640 v657) Kt := by
  rw [k0_part23_eq_skeleton]
  unfold k0_part23_skel
  simp only [Prog.lift, Prog.bind_op, Prog.bind_ret, Prog.pure_eq_ret]
  iintro ⟨H, Hk⟩
  iapply (st_D A K c 19 (by decide) (by decide) 20 13 13 (by decide) (dev30_eq c) (off6_eq c) rfl rfl) $$ H
  iintro H
  iapply (wait_D A K c 13 (by decide) (by decide) 20 20 13 (by decide) (by decide) rfl) $$ H
  iintro H
  iapply (wait_D A K c 14 (by decide) (by decide) 20 20 13 (by decide) (by decide) rfl) $$ H
  iintro H
  iapply (wait_D A K c 15 (by decide) (by decide) 20 20 13 (by decide) (by decide) rfl) $$ H
  iintro H
  iapply (wait_D A K c 16 (by decide) (by decide) 20 20 13 (by decide) (by decide) rfl) $$ H
  iintro H
  rw [wp_ret]; imodintro
  iapply Hk; iexact H

theorem part25 {Kt : _ → sProp 𝕄} :
    iprop(St A K c 20 20 20 20 0 ∗ ∀ r, (St A K c 20 20 20 20 5 -∗ Kt r))
      ⊢ wp frame (wpE (defs₀ (F := F)) 𝒱₀ c none) Set.univ
        (k0_part25 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c ) Kt := by
  rw [k0_part25_eq_skeleton]
  unfold k0_part25_skel
  simp only [Prog.lift, Prog.bind_op, Prog.bind_ret, Prog.pure_eq_ret]
  iintro ⟨H, Hk⟩
  iapply (back_A A K c 0 (by decide) 20 20 20 rfl) $$ H
  iintro H
  iapply (back_A A K c 1 (by decide) 20 20 20 rfl) $$ H
  iintro H
  iapply (back_A A K c 2 (by decide) 20 20 20 rfl) $$ H
  iintro H
  iapply (back_A A K c 3 (by decide) 20 20 20 rfl) $$ H
  iintro H
  iapply (back_A A K c 4 (by decide) 20 20 20 rfl) $$ H
  iintro H
  rw [wp_ret]; imodintro
  iapply Hk; iexact H

theorem part26 {Kt : _ → sProp 𝕄} :
    iprop(St A K c 20 20 20 20 5 ∗ ∀ r, (St A K c 20 20 20 20 11 -∗ Kt r))
      ⊢ wp frame (wpE (defs₀ (F := F)) 𝒱₀ c none) Set.univ
        (k0_part26 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c ) Kt := by
  rw [k0_part26_eq_skeleton]
  unfold k0_part26_skel
  simp only [Prog.lift, Prog.bind_op, Prog.bind_ret, Prog.pure_eq_ret]
  iintro ⟨H, Hk⟩
  iapply (back_A A K c 5 (by decide) 20 20 20 rfl) $$ H
  iintro H
  iapply (back_A A K c 6 (by decide) 20 20 20 rfl) $$ H
  iintro H
  iapply (back_B A K c 7 (by decide) (by decide) 20 20 20 rfl) $$ H
  iintro H
  iapply (back_B A K c 8 (by decide) (by decide) 20 20 20 rfl) $$ H
  iintro H
  iapply (back_B A K c 9 (by decide) (by decide) 20 20 20 rfl) $$ H
  iintro H
  iapply (back_C A K c 10 (by decide) (by decide) 20 20 20 rfl) $$ H
  iintro H
  rw [wp_ret]; imodintro
  iapply Hk; iexact H

theorem part27 {Kt : _ → sProp 𝕄} :
    iprop(St A K c 20 20 20 20 11 ∗ ∀ r, (St A K c 20 20 20 20 17 -∗ Kt r))
      ⊢ wp frame (wpE (defs₀ (F := F)) 𝒱₀ c none) Set.univ
        (k0_part27 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c ) Kt := by
  rw [k0_part27_eq_skeleton]
  unfold k0_part27_skel
  simp only [Prog.lift, Prog.bind_op, Prog.bind_ret, Prog.pure_eq_ret]
  iintro ⟨H, Hk⟩
  iapply (back_C A K c 11 (by decide) (by decide) 20 20 20 rfl) $$ H
  iintro H
  iapply (back_C A K c 12 (by decide) (by decide) 20 20 20 rfl) $$ H
  iintro H
  iapply (back_D A K c 13 (by decide) (by decide) 20 20 20 rfl) $$ H
  iintro H
  iapply (back_D A K c 14 (by decide) (by decide) 20 20 20 rfl) $$ H
  iintro H
  iapply (back_D A K c 15 (by decide) (by decide) 20 20 20 rfl) $$ H
  iintro H
  iapply (back_D A K c 16 (by decide) (by decide) 20 20 20 rfl) $$ H
  iintro H
  rw [wp_ret]; imodintro
  iapply Hk; iexact H

end Cert.KernelIdeal

end

end
-- ==== Proof.Rearrange.lean ====
/- The working buffers taken apart and put together: by rows, into the device's own chunk and the group's, a chunk into
   pieces, the receive buffers into slots; and by shares, what stays and what is lent to each gather. -/
module

public import proofs.«01_k».proof.Proof.Schedule
public import Idealize.SL.BI.BigOpNat

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD)

theorem bi_eq {P Q : sProp 𝕄} (h : P ⊣⊢ Q) : P = Q := Entails.antisymm h.1 h.2

/-- Numbered from `a`. -/
theorem ico_fin (a n : ℕ) (P : ℕ → sProp 𝕄) : bigSep Finset.univ (fun j : Fin n => P (a + j.val)) = bigSep (Finset.Ico a (a + n)) P := by
  have h : Finset.Ico a (a + n) = (Finset.univ : Finset (Fin n)).map ⟨fun j => a + j.val, fun i j h => Fin.ext (Nat.add_left_cancel h)⟩ := by
    ext x
    simp only [Finset.mem_Ico, Finset.mem_map, Finset.mem_univ, true_and, Function.Embedding.coeFn_mk]
    constructor
    · rintro ⟨h, h'⟩
      exact ⟨⟨x - a, by omega⟩, show a + (x - a) = x by omega⟩
    · rintro ⟨j, hj⟩
      have hj : a + j.val = x := hj
      have := j.isLt
      exact ⟨by omega, by omega⟩
  rw [h, bigSep_map]; rfl

theorem own_disjoint_chunks : Disjoint (rows 512 64 (qd c)) ((Finset.univ : Finset (Fin 7)).biUnion fun j => rows 512 64 (qd (peer (dir j.val) c))) :=
  (Finset.disjoint_biUnion_right _ _ _).mpr fun j _ => rows_disjoint (qd_peer_ne c j).symm
theorem own_disjoint_pieces : Disjoint (rows 512 16 (sk c)) ((Finset.univ : Finset (Fin 3)).biUnion fun j => rows 512 16 (sk (peer (dir (7 + j.val)) c))) :=
  (Finset.disjoint_biUnion_right _ _ _).mpr fun j _ => rows_disjoint (sk_peer_ne c j).symm

section
variable (q : PosShare TreeShare) (f : Vec F S512x512 .bf16)

/-- The working array by chunks. -/
theorem by_chunks : (at7 c Finset.univ q f : sProp 𝕄)
    = iprop(at7 c (rows 512 64 (qd c)) q f ∗ bigSep (Finset.Ico 0 7) fun k => at7 c (rows 512 64 (qd (peer (dir k) c))) q f) := by
  have h := ico_fin (F := F) 0 7 fun k => at7 c (rows 512 64 (qd (peer (dir k) c))) q f
  simp only [Nat.zero_add] at h
  rw [← h, ← pointsTo_biUnion]
  · exact (congrArg (fun S => at7 c S q f) (chunks_univ c)).trans (bi_eq (pointsTo_union (own_disjoint_chunks c)))
  · exact fun j _ j' _ h => rows_disjoint (qd_peer_inj c j j' h)

/-- The own chunk by pieces. -/
theorem by_pieces : (at7 c (rows 512 64 (qd c)) q f : sProp 𝕄)
    = iprop(at7 c (rows 512 16 (sk c)) q f ∗ bigSep (Finset.Ico 7 10) fun k => at7 c (rows 512 16 (sk (peer (dir k) c))) q f) := by
  have h := ico_fin (F := F) 7 3 fun k => at7 c (rows 512 16 (sk (peer (dir k) c))) q f
  rw [← h, ← pointsTo_biUnion]
  · exact (congrArg (fun S => at7 c S q f) (pieces_chunk c)).trans (bi_eq (pointsTo_union (own_disjoint_pieces c)))
  · exact fun j _ j' _ h => rows_disjoint (sk_peer_inj c j j' h)

theorem dir_C (k : ℕ) (h : 10 ≤ k) (h' : k < 13) : kdir k = dir (k - 3) := by
  unfold kdir; rw [if_neg (by omega), if_pos h']
theorem dir_D (k : ℕ) (h : 13 ≤ k) : kdir k = dir (k - 13) := by
  unfold kdir; rw [if_neg (by omega), if_neg (by omega)]

/-- The chunks, numbered as the chunk gathers are. -/
theorem by_chunksD : (at7 c Finset.univ q f : sProp 𝕄)
    = iprop(at7 c (rows 512 64 (qd c)) q f ∗ bigSep (Finset.Ico 13 20) fun k => at7 c (rows 512 64 (qd (peer (kdir k) c))) q f) := by
  rw [by_chunks, ← ico_fin 0 7, ← ico_fin 13 7]
  congr 2; funext j
  rw [dir_D _ (by omega), Nat.add_sub_cancel_left, Nat.zero_add]

/-- The pieces, numbered as the piece gathers are. -/
theorem by_piecesC : (at7 c (rows 512 64 (qd c)) q f : sProp 𝕄)
    = iprop(at7 c (rows 512 16 (sk c)) q f ∗ bigSep (Finset.Ico 10 13) fun k => at7 c (rows 512 16 (sk (peer (kdir k) c))) q f) := by
  rw [by_pieces, ← ico_fin 7 3, ← ico_fin 10 3]
  congr 2; funext j
  rw [dir_C _ (by omega) (by omega), show 10 + j.val - 3 = 7 + j.val by omega]

/-- What stays beside what is lent to the piece gathers. -/
theorem by_tokC (S : Finset S512x512.Idx) : (at7 c S fullShare f : sProp 𝕄)
    = iprop(at7 c S keepC f ∗ bigSep (Finset.Ico 10 13) fun k => at7 c S (tokC k) f) := by
  rw [← ico_fin 10 3]
  refine (bi_eq (Transfers.pointsTo_toks_range fullShare 3)).trans ?_
  have h := ico_fin (F := F) 0 3 fun k => at7 c S (Transfers.shareTokN fullShare k) f
  rw [← Finset.range_eq_Ico] at h
  rw [← h]
  congr 2; funext j
  unfold tokC
  rw [Nat.add_sub_cancel_left, Nat.zero_add]

/-- What stays beside what is lent to the chunk gathers. -/
theorem by_tokD (S : Finset S512x512.Idx) : (at7 c S keepC f : sProp 𝕄)
    = iprop(at7 c S keepD f ∗ bigSep (Finset.Ico 13 20) fun k => at7 c S (tokD k) f) := by
  rw [← ico_fin 13 7]
  refine (bi_eq (Transfers.pointsTo_toks_range keepC 7)).trans ?_
  have h := ico_fin (F := F) 0 7 fun k => at7 c S (Transfers.shareTokN keepC k) f
  rw [← Finset.range_eq_Ico] at h
  rw [← h]
  congr 2; funext j
  unfold tokD
  rw [Nat.add_sub_cancel_left, Nat.zero_add]

end

/-- The receive buffers by slots. -/
theorem by_slots (f : Vec F S448x512 .bf16) : (at8 c Finset.univ f : sProp 𝕄) = bigSep (Finset.Ico 0 7) fun k => at8 c (rows 448 64 k) f := by
  have h := ico_fin (F := F) 0 7 fun k => at8 c (rows 448 64 k) f
  simp only [Nat.zero_add] at h
  rw [← h, ← pointsTo_biUnion]
  · exact congrArg (fun S => at8 c S f) slots_univ
  · exact fun j _ j' _ h => rows_disjoint (fun e => h (Fin.ext e))
theorem by_zslots (f : Vec F S48x512 .bf16) : (at9 c Finset.univ f : sProp 𝕄) = bigSep (Finset.Ico 7 10) fun k => at9 c (rows 48 16 (k - 7)) f := by
  rw [← ico_fin 7 3]
  simp only [Nat.add_sub_cancel_left]
  rw [← pointsTo_biUnion]
  · exact congrArg (fun S => at9 c S f) zslots_univ
  · exact fun j _ j' _ h => rows_disjoint (fun e => h (Fin.ext e))

end Cert.KernelIdeal

end

end
-- ==== Proof.Entry.lean ====
/- The entry handshake: a device gives its slots to the ten peers that write them, waits for theirs, and sends its first chunk. -/
module

public import proofs.«01_k».proof.Proof.Parts
public import proofs.«01_k».proof.Proof.Rearrange

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

theorem ico_append (a b n : ℕ) (h : a ≤ b) (h' : b ≤ n) (P : ℕ → sProp 𝕄) :
    bigSep (Finset.Ico a n) P = iprop(bigSep (Finset.Ico a b) P ∗ bigSep (Finset.Ico b n) P) := by
  rw [← Finset.Ico_union_Ico_eq_Ico h h', bigSep_union (Finset.Ico_disjoint_Ico_consecutive a b n)]
  rfl

theorem ico_shift (a b n : ℕ) (P : ℕ → sProp 𝕄) :
    bigSep (Finset.Ico (a + b) (a + (b + n))) P = bigSep (Finset.Ico b (b + n)) fun k => P (a + k) := by
  rw [← ico_fin b n, show a + (b + n) = a + b + n by omega, ← ico_fin (a + b) n]
  congr 1; funext j; rw [Nat.add_assoc]

theorem ico_congr {a b : ℕ} {P Q : ℕ → sProp 𝕄} (h : ∀ k, a ≤ k → k < b → P k = Q k) : bigSep (Finset.Ico a b) P = bigSep (Finset.Ico a b) Q :=
  bigSep_congr fun k hk => h k (Finset.mem_Ico.mp hk).1 (Finset.mem_Ico.mp hk).2

theorem ico_mono {a b : ℕ} {P Q : ℕ → sProp 𝕄} (h : ∀ k, a ≤ k → k < b → P k ⊢ Q k) : bigSep (Finset.Ico a b) P ⊢ bigSep (Finset.Ico a b) Q :=
  bigSep_mono fun k hk => h k (Finset.mem_Ico.mp hk).1 (Finset.mem_Ico.mp hk).2

theorem ico_sep (a b : ℕ) (P Q : ℕ → sProp 𝕄) :
    bigSep (Finset.Ico a b) (fun k => iprop(P k ∗ Q k)) = iprop(bigSep (Finset.Ico a b) P ∗ bigSep (Finset.Ico a b) Q) := bigSep_sep' _ _ _

theorem dir_A (k : ℕ) (h : k < 10) : kdir k = dir k := by unfold kdir; rw [if_pos h]
theorem dir_val (k : ℕ) (h : k < 10) : (dir k).val = k := Nat.mod_eq_of_lt h

/-- A peer's slot, which this device's exchange `k` writes. -/
abbrev slotA (k : ℕ) : sProp 𝕄 := iprop(∃ f, at8 (peer (kdir k) c) (rows 448 64 k) f)
abbrev slotB (k : ℕ) : sProp 𝕄 := iprop(∃ f, at9 (peer (kdir k) c) (rows 48 16 (k - 7)) f)
/-- That the cell transfer `k` pays is open. -/
abbrev opened (k : ℕ) : sProp 𝕄 := reached ER (recvCell k (peer (kdir k) c)) 0

theorem bar_A (k : ℕ) (h : k < 7) : (barPay (dir k) c : sProp 𝕄) = iprop(slotA c k ∗ opened c k ∗ opened c (13 + k)) := by
  unfold barPay
  rw [dir_val k (by omega), if_pos h]
  unfold slotA opened
  rw [dir_A k (by omega), dir_D (13 + k) (by omega), Nat.add_sub_cancel_left]
theorem bar_B (k : ℕ) (h : 7 ≤ k) (h' : k < 10) : (barPay (dir k) c : sProp 𝕄) = iprop(slotB c k ∗ opened c k ∗ opened c (3 + k)) := by
  unfold barPay
  rw [dir_val k (by omega), if_neg (by omega)]
  unfold slotB opened
  rw [dir_A k (by omega), dir_C (3 + k) (by omega) (by omega), Nat.add_sub_cancel_left]

/-- All that the ten entry signals bring. -/
theorem bar_all : (bigSep Finset.univ fun j => barPay j c : sProp 𝕄)
    = iprop((bigSep (Finset.Ico 0 7) (slotA c) ∗ bigSep (Finset.Ico 0 7) (opened c) ∗ bigSep (Finset.Ico 13 20) (opened c))
      ∗ bigSep (Finset.Ico 7 10) (slotB c) ∗ bigSep (Finset.Ico 7 10) (opened c) ∗ bigSep (Finset.Ico 10 13) (opened c)) := by
  have h := ico_fin (F := F) 0 10 fun k => barPay (dir k) c
  have e : (fun j : Fin 10 => (barPay (dir (0 + j.val)) c : sProp 𝕄)) = fun j => barPay j c := by
    funext j; congr 1; apply Fin.ext; rw [Nat.zero_add]; exact dir_val _ j.isLt
  rw [e] at h
  rw [h, Nat.zero_add, ico_append 0 7 10 (by decide) (by decide), ico_congr (a := 0) (b := 7) (fun k _ hk => bar_A (F := F) c k hk),
    ico_congr (a := 7) (b := 10) (fun k hk hk' => bar_B (F := F) c k hk hk'), ico_sep, ico_sep, ico_sep, ico_sep,
    ← ico_shift 13 0 7, ← ico_shift 3 7 3]

/-- The bookkeeping a device starts with. -/
def book : sProp 𝕄 :=
  iprop((bigSep (Finset.Ico 0 20) fun k => reached ER (sendCell k c) 0) ∗ (bigSep (Finset.Ico 0 20) (duty2 c))
    ∗ (bigSep (Finset.Ico 0 20) fun k => atPos ER (sendCell k c) 0 ∅ 0) ∗ bigSep (Finset.Ico 0 20) (wait2 c))

theorem entered : iprop(recs A K ∗ levAts L lv ∗ book c ∗ (∃ W, owes (c : Thread nD τ) (owe 10 c) W) ∗ (bigSep Finset.univ fun j => barPay j c)
      ∗ at7 c Finset.univ fullShare (p16 A c))
    ⊢ iprop(St A K c 0 7 0 0 0 ∗ at7 c (rows 512 64 (qd c)) fullShare (p16 A c) ∗ bigSep (Finset.Ico 7 10) (slotB c)) := by
  rw [bar_all, by_chunks]
  have hg : bigSep (Finset.Ico 0 7) (give A c) = iprop((bigSep (Finset.Ico 0 7) fun k => at7 c (rows 512 64 (qd (peer (dir k) c))) fullShare (p16 A c))
      ∗ bigSep (Finset.Ico 0 7) (slotA c)) := by
    rw [← ico_sep]
    refine ico_congr fun k _ hk => ?_
    rw [give_A A c k hk]
    unfold giveA slotA
    rw [dir_A k (by omega)]
  have ho : (bigSep (Finset.Ico 0 20) fun k => reached ER (recvCell k (peer (kdir k) c)) 0 : sProp 𝕄)
      = iprop(bigSep (Finset.Ico 0 7) (opened c) ∗ bigSep (Finset.Ico 7 10) (opened c) ∗ bigSep (Finset.Ico 10 13) (opened c) ∗ bigSep (Finset.Ico 13 20) (opened c)) := by
    rw [ico_append 0 7 20 (by decide) (by decide), ico_append 7 10 20 (by decide) (by decide), ico_append 10 13 20 (by decide) (by decide)]
  unfold St amb net book
  rw [hg, ho]
  simp only [Finset.Ico_self, bigSep_empty]
  iintro ⟨#HI, #Hlev, ⟨#HrS, Hd, HaS, Hw⟩, HO, ⟨⟨HsA, #Ho1, #Ho4⟩, HsB, #Ho2, #Ho3⟩, Hown, Hch⟩
  isplitl [Hd HaS Hw HO HsA Hch]
  · isplitr
    · isplitr; · iexact HI
      isplitr; · iexact Hlev
      isplitr; · iexact HrS
      isplitr; · iexact Ho1
      isplitr; · iexact Ho2
      isplitr; · iexact Ho3
      iexact Ho4
    isplitl [Hd HaS Hw HO]
    · isplitl [Hd]; · iexact Hd
      isplitr; · iempintro
      isplitl [HaS]; · iexact HaS
      isplitr; · iempintro
      isplitl [Hw]; · iexact Hw
      isplitr; · iempintro
      iexact HO
    isplitl [HsA Hch]
    · isplitl [Hch] <;> iassumption
    isplitr <;> iempintro
  isplitl [Hown] <;> iassumption

/-- A device's own slots and cells, given to the ten peers that write and pay them. -/
theorem own_slots : iprop((∃ f, at8 c Finset.univ f) ∗ (∃ f, at9 c Finset.univ f) ∗ bigSep (Finset.Ico 0 20) fun k => reached ER (recvCell k c) 0)
    ⊢ (bigSep (Finset.Ico 0 10) fun j => barPay (dir j) (peer (dir j) c) : sProp 𝕄) := by
  have hA : ∀ k, 0 ≤ k → k < 7 → (barPay (dir k) (peer (dir k) c) : sProp 𝕄)
      = iprop((∃ f, at8 c (rows 448 64 k) f) ∗ reached ER (recvCell k c) 0 ∗ reached ER (recvCell (13 + k) c) 0) := by
    intro k _ hk
    unfold barPay
    rw [dir_val k (by omega), if_pos hk, peer_peer]
  have hB : ∀ k, 7 ≤ k → k < 10 → (barPay (dir k) (peer (dir k) c) : sProp 𝕄)
      = iprop((∃ f, at9 c (rows 48 16 (k - 7)) f) ∗ reached ER (recvCell k c) 0 ∗ reached ER (recvCell (3 + k) c) 0) := by
    intro k hk hk'
    unfold barPay
    rw [dir_val k (by omega), if_neg (by omega), peer_peer]
  have h8 : iprop(∃ f, at8 c Finset.univ f) ⊢ (bigSep (Finset.Ico 0 7) fun k => iprop(∃ f, at8 c (rows 448 64 k) f) : sProp 𝕄) := by
    have hf : ∀ f, at8 c Finset.univ f ⊢ (bigSep (Finset.Ico 0 7) fun k => iprop(∃ f, at8 c (rows 448 64 k) f) : sProp 𝕄) := by
      intro f
      rw [by_slots]
      exact ico_mono fun k _ _ => by iintro H; iexists f; iexact H
    iintro ⟨%f, H⟩
    iapply (hf f); iexact H
  have h9 : iprop(∃ f, at9 c Finset.univ f) ⊢ (bigSep (Finset.Ico 7 10) fun k => iprop(∃ f, at9 c (rows 48 16 (k - 7)) f) : sProp 𝕄) := by
    have hf : ∀ f, at9 c Finset.univ f ⊢ (bigSep (Finset.Ico 7 10) fun k => iprop(∃ f, at9 c (rows 48 16 (k - 7)) f) : sProp 𝕄) := by
      intro f
      rw [by_zslots]
      exact ico_mono fun k _ _ => by iintro H; iexists f; iexact H
    iintro ⟨%f, H⟩
    iapply (hf f); iexact H
  rw [ico_append 0 7 10 (by decide) (by decide), ico_congr hA, ico_congr hB, ico_sep, ico_sep, ico_sep, ico_sep,
    ico_append 0 7 20 (by decide) (by decide), ico_append 7 10 20 (by decide) (by decide), ico_append 10 13 20 (by decide) (by decide),
    ← ico_shift 13 0 7 (fun k => reached ER (recvCell k c) 0), ← ico_shift 3 7 3 (fun k => reached ER (recvCell k c) 0)]
  iintro ⟨H8, H9, H1, H2, H3, H4⟩
  isplitl [H8 H1 H4]
  · isplitl [H8]; · iapply h8; iexact H8
    isplitl [H1] <;> iassumption
  isplitl [H9]; · iapply h9; iexact H9
  isplitl [H2] <;> iassumption

/-- With `i` entry signals sent. -/
def entry (i : ℕ) : sProp 𝕄 :=
  iprop(recs A K ∗ (bigSep Finset.univ fun d : Dev nD => reached ER (barCell d) 0)
    ∗ (bigSep (Finset.Ico i 10) fun j => iprop(dutyTok ER (barCell (peer (dir j) c)) 0 (dir j) ∗ barPay (dir j) (peer (dir j) c)))
    ∗ ∃ W, owes (c : Thread nD τ) (owe i c) W)

section
variable {α : Type} {kt : PUnit → Prog (TpuEff nD τ sig (Elt F) Λ₀ .tc) α}

theorem entry_step {Q : α → sProp 𝕄} (i : ℕ) (hi : i < 10) {d : Dev nD} (hd : d = peer (dir i) c) {sem : Sem sig} (hsem : sem = barS) :
    entry A K c i
      ⊢ iprop((entry A K c (i + 1) -∗ wp frame (wpE (defs₀ (F := F)) 𝒱₀ c none) Set.univ (kt ⟨⟩) Q)
        -∗ wp frame (wpE (defs₀ (F := F)) 𝒱₀ c none) Set.univ (.op (.semSignal (d : Thread nD τ) sem 1) kt) Q) := by
  unfold entry
  rw [bigSep_Ico_succ_bot hi]
  iintro ⟨#HI, #Hr, ⟨⟨Ht, Hp⟩, Hs⟩, HO⟩ Hk
  iapply (step_signal A K c i hi hd hsem) $$ [Ht Hp HO]
  · isplitr; · iexact HI
    isplitr; · iexact Hr
    isplitl [Ht]; · iexact Ht
    isplitl [Hp] <;> iassumption
  iintro HO
  iapply Hk
  isplitr; · iexact HI
  isplitr; · iexact Hr
  isplitl [Hs] <;> iassumption

end

section
variable (arg0 : Memref sig .tc .vmem S2x256x512 .f32) (h0 : arg0.IsWhole) (arg1 : Memref sig .tc .vmem S512x256 .f32) (h1 : arg1.IsWhole)
  (arg2 : Memref sig .tc .vmem S2x256x4x64 .f32) (h2 : arg2.IsWhole) (arg3 : Memref sig .tc .vmem S2x256x4x64 .f32) (h3 : arg3.IsWhole)
  (arg4 : Memref sig .tc .vmem S256x512 .f32) (h4 : arg4.IsWhole) (arg5 : Memref sig .tc .vmem S2x256x512 .f32) (h5 : arg5.IsWhole)
  (h6 : m6.IsWhole) (h7 : m7.IsWhole) (h8 : m8.IsWhole) (h9 : m9.IsWhole)

theorem part6 (v3 v153 v169 : BitVec 32) {Kt : _ → sProp 𝕄} :
    iprop(entry A K c 0 ∗ ∀ r, (entry A K c 3 -∗ Kt r))
      ⊢ wp frame (wpE (defs₀ (F := F)) 𝒱₀ c none) Set.univ
        (k0_part6 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 (SemArray.scalar (sig.barrier 0 rfl)) v169) Kt := by
  rw [k0_part6_eq_skeleton]
  unfold k0_part6_skel
  simp only [semSignalWord, semWaitWord, Prog.lift, Prog.bind_op, Prog.bind_ret, Prog.pure_eq_ret]
  iintro ⟨H, Hk⟩
  iapply (entry_step A K c 0 (by decide) (dev1_eq c) rfl) $$ H; iintro H
  iapply (entry_step A K c 1 (by decide) (dev2_eq c) rfl) $$ H; iintro H
  iapply (entry_step A K c 2 (by decide) (dev3_eq c) rfl) $$ H; iintro H
  rw [wp_ret]; imodintro
  iapply Hk; iexact H

theorem part7 (v3 v153 v197 v198 v199 c1 : BitVec 32) {Kt : _ → sProp 𝕄} :
    iprop(entry A K c 3 ∗ ∀ r, (entry A K c 6 -∗ Kt r))
      ⊢ wp frame (wpE (defs₀ (F := F)) 𝒱₀ c none) Set.univ
        (k0_part7 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 (SemArray.scalar (sig.barrier 0 rfl)) v197 v198 v199 c1) Kt := by
  rw [k0_part7_eq_skeleton]
  unfold k0_part7_skel
  simp only [semSignalWord, semWaitWord, Prog.lift, Prog.bind_op, Prog.bind_ret, Prog.pure_eq_ret]
  iintro ⟨H, Hk⟩
  iapply (entry_step A K c 3 (by decide) (dev4_eq c) rfl) $$ H; iintro H
  iapply (entry_step A K c 4 (by decide) (dev5_eq c) rfl) $$ H; iintro H
  iapply (entry_step A K c 5 (by decide) (dev6_eq c) rfl) $$ H; iintro H
  rw [wp_ret]; imodintro
  iapply Hk; iexact H

theorem part8 (v3 v5 v8 v230 v231 : BitVec 32) {Kt : _ → sProp 𝕄} :
    iprop(entry A K c 6 ∗ ∀ r, (entry A K c 9 -∗ Kt r))
      ⊢ wp frame (wpE (defs₀ (F := F)) 𝒱₀ c none) Set.univ
        (k0_part8 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v5 v8 (SemArray.scalar (sig.barrier 0 rfl)) v230 v231) Kt := by
  rw [k0_part8_eq_skeleton]
  unfold k0_part8_skel
  simp only [semSignalWord, semWaitWord, Prog.lift, Prog.bind_op, Prog.bind_ret, Prog.pure_eq_ret]
  iintro ⟨H, Hk⟩
  iapply (entry_step A K c 6 (by decide) (dev7_eq c) rfl) $$ H; iintro H
  iapply (entry_step A K c 7 (by decide) (dev8_eq c) rfl) $$ H; iintro H
  iapply (entry_step A K c 8 (by decide) (dev9_eq c) rfl) $$ H; iintro H
  rw [wp_ret]; imodintro
  iapply Hk; iexact H

theorem part9 (v3 v153 v264 : BitVec 32) {Kt : _ → sProp 𝕄} :
    iprop((entry A K c 9 ∗ (levAts L lv ∗ cred (tallyAt (barCell c) () 10) ∗ atPos ER (barCell c) 0 ∅ 0) ∗ book c ∗ at7 c Finset.univ fullShare (p16 A c))
      ∗ ∀ r, ((St A K c 1 7 0 0 0 ∗ atPos ER (barCell c) 1 ∅ 0 ∗ at7 c (rows 512 64 (qd c)) fullShare (p16 A c) ∗ bigSep (Finset.Ico 7 10) (slotB c)) -∗ Kt r))
      ⊢ wp frame (wpE (defs₀ (F := F)) 𝒱₀ c none) Set.univ
        (k0_part9 (F := F) arg0 h0 arg1 h1 arg2 h2 arg3 h3 arg4 h4 arg5 h5 m6 h6 m7 h7 m8 h8 m9 h9
          cc0_scratch4 cc0_scratch5 cc0_scratch6 cc0_scratch7 cc0_scratch8 cc0_scratch9 cc0_scratch10 cc0_scratch11 c v3 v153 (SemArray.scalar (sig.barrier 0 rfl)) v264) Kt := by
  rw [k0_part9_eq_skeleton]
  unfold k0_part9_skel
  simp only [semSignalWord, semWaitWord, Prog.lift, Prog.bind_op, Prog.bind_ret, Prog.pure_eq_ret]
  iintro ⟨⟨H, ⟨#Hlev, Hc, Ha⟩, Hb, H7⟩, Hk⟩
  iapply (entry_step A K c 9 (by decide) (dev10_eq c) rfl) $$ H; iintro H
  unfold entry
  icases H with ⟨#HI, -, -, HO⟩
  iapply (step_enter A K c rfl) $$ [Hc Ha HO]
  · isplitr; · iexact HI
    isplitr; · iexact Hlev
    isplitl [Hc]; · iexact Hc
    isplitl [Ha] <;> iassumption
  iintro ⟨HO, Ha, Hp⟩
  ihave H := (entered A K c) $$ [HO Hp Hb H7]
  · isplitr; · iexact HI
    isplitr; · iexact Hlev
    isplitl [Hb]; · iexact Hb
    isplitl [HO]; · iexact HO
    isplitl [Hp] <;> iassumption
  icases H with ⟨H, H7, Hs⟩
  iapply (st_A A K c 0 (by decide) 7 0 0 (by decide) (dev11_eq c) (off1_eq0 c) rfl rfl rfl) $$ H; iintro H
  rw [wp_ret]; imodintro
  iapply Hk
  isplitl [H]; · iexact H
  isplitl [Ha]; · iexact Ha
  isplitl [H7] <;> iassumption

end

end Cert.KernelIdeal

end

end
-- ==== Proof.Phases.lean ====
/- Between the phases of the exchange: what arrived is joined, and what the next phase sends is set apart. -/
module

public import proofs.«01_k».proof.Proof.Access
public import proofs.«01_k».proof.Proof.Entry

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

/-! ## What the stores write, by rows -/

theorem own_rows : rowsOf 64 (qd c) (A c) = own A c := rfl

theorem mid_rows (x : S64x512.Idx) : s1h A c x = rowsOf 64 (qd c) (mid A c) x := by
  have hx : (x 0).val < 64 := (x 0).isLt
  have hq := qd_lt c
  have h : (i512 (64 * qd c + (x 0).val) (x 1) 0).val = 64 * qd c + (x 0).val := Nat.mod_eq_of_lt (by omega)
  show _ = s1h A c (i64 (i512 (64 * qd c + (x 0).val) (x 1) 0).val (x 1))
  rw [h]
  refine congrArg (s1h A c) ((ix_eta 64 (by decide) x).symm.trans ?_)
  unfold ix
  exact congrArg₂ _ (Fin.ext (show (x 0).val % 64 = (64 * qd c + (x 0).val) % 64 by omega)) rfl

theorem s1_rows (f : Vec F S512x512 .f32) (hf : ∀ x, rowsOf 64 (qd c) f x = s1 A c x) :
    rowsOf 16 (sk c) f = fun i => s1 A c (i64 (16 * zd c + (i 0).val) (i 1)) := by
  funext x
  have hx : (x 0).val < 16 := (x 0).isLt
  have hz := zd_lt c
  rw [← hf]
  have h : (i64 (16 * zd c + (x 0).val) (x 1) 0).val = 16 * zd c + (x 0).val := Nat.mod_eq_of_lt (by omega)
  show f (i512 (16 * sk c + (x 0).val) (x 1)) = f (i512 (64 * qd c + (i64 (16 * zd c + (x 0).val) (x 1) 0).val) (x 1))
  rw [h, show 16 * sk c + (x 0).val = 64 * qd c + (16 * zd c + (x 0).val) by unfold sk; omega]

theorem fin_rows (x : S16x512.Idx) : s2 A c x = rowsOf 16 (sk c) (fin A) x := by
  have hx : (x 0).val < 16 := (x 0).isLt
  have hz := zd_lt c
  have hq := qd_lt c
  have h : (i512 (16 * sk c + (x 0).val) (x 1) 0).val = 16 * sk c + (x 0).val := Nat.mod_eq_of_lt (by unfold sk; omega)
  show _ = s2 A (devAt ((i512 (16 * sk c + (x 0).val) (x 1) 0).val / 64) ((i512 (16 * sk c + (x 0).val) (x 1) 0).val % 64 / 16))
    (i16 (i512 (16 * sk c + (x 0).val) (x 1) 0).val (x 1))
  rw [h, show (16 * sk c + (x 0).val) / 64 = qd c by unfold sk; omega, show (16 * sk c + (x 0).val) % 64 / 16 = zd c by unfold sk; omega, devAt_qz]
  refine congrArg (s2 A c) ((ix_eta 16 (by decide) x).symm.trans ?_)
  unfold ix
  exact congrArg₂ _ (Fin.ext (show (x 0).val % 16 = (16 * sk c + (x 0).val) % 16 by omega)) rfl

/-- What every device returns. -/
def result : Vec F S2x256x512 .f32 := both (k0_pay24 (rowsOf 256 0 (fin A))) (k0_pay25 (rowsOf 256 1 (fin A)))

/-! ## Between the phases -/

/-- The rows at the peer that a gather writes. -/
abbrev dstA (k : ℕ) : sProp 𝕄 := iprop(∃ f, at7 (peer (kdir k) c) (rows 512 64 (qd c)) fullShare f)
abbrev dstB (k : ℕ) : sProp 𝕄 := iprop(∃ f, at7 (peer (kdir k) c) (rows 512 16 (sk c)) fullShare f)

theorem st_take (s S r₀ r w : ℕ) : St A K c s S r₀ r w ⊢ iprop(St A K c s S r r w ∗ bigSep (Finset.Ico r₀ r) fun k => recvPay A k c) := by
  unfold St
  rw [Finset.Ico_self r, bigSep_empty]
  iintro ⟨#Ha, Hn, Hg, Hr, Hb⟩
  isplitr [Hr]
  · isplitr; · iexact Ha
    isplitl [Hn]; · iexact Hn
    isplitl [Hg]; · iexact Hg
    isplitr; · iempintro
    iexact Hb
  iexact Hr

theorem st_fill (s S r₀ r w : ℕ) : iprop(St A K c s s r₀ r w ∗ bigSep (Finset.Ico s S) (give A c)) ⊢ St A K c s S r₀ r w := by
  unfold St
  rw [Finset.Ico_self s, bigSep_empty]
  iintro ⟨⟨#Ha, Hn, -, Hr, Hb⟩, Hg⟩
  isplitr; · iexact Ha
  isplitl [Hn]; · iexact Hn
  isplitl [Hg]; · iexact Hg
  isplitl [Hr] <;> iassumption

theorem took_A : (bigSep (Finset.Ico 0 7) fun k => recvPay A k c) = iprop(at8 c Finset.univ (rb A c) ∗ bigSep (Finset.Ico 0 7) (dstA c)) := by
  rw [by_slots, ← ico_sep]
  refine ico_congr fun k _ hk => ?_
  unfold recvPay; rw [if_pos hk]

theorem took_B : (bigSep (Finset.Ico 7 10) fun k => recvPay A k c) = iprop(at9 c Finset.univ (zb A c) ∗ bigSep (Finset.Ico 7 10) (dstB c)) := by
  rw [by_zslots, ← ico_sep]
  refine ico_congr fun k hk hk' => ?_
  unfold recvPay; rw [if_neg (by omega), if_pos hk']

theorem took_C : (bigSep (Finset.Ico 10 13) fun k => recvPay A k c) = bigSep (Finset.Ico 10 13) fun k => at7 c (rows 512 16 (sk (peer (kdir k) c))) fullShare (fin A) :=
  ico_congr fun k hk hk' => by unfold recvPay; rw [if_neg (by omega), if_neg (by omega), if_pos hk']
theorem took_D : (bigSep (Finset.Ico 13 20) fun k => recvPay A k c) = bigSep (Finset.Ico 13 20) fun k => at7 c (rows 512 64 (qd (peer (kdir k) c))) fullShare (fin A) :=
  ico_congr fun k hk hk' => by unfold recvPay; rw [if_neg (by omega), if_neg (by omega), if_neg (by omega)]

theorem fill_B : iprop(at7 c (rows 512 64 (qd c)) fullShare (mid A c) ∗ bigSep (Finset.Ico 7 10) (slotB c))
    ⊢ iprop(bigSep (Finset.Ico 7 10) (give A c) ∗ at7 c (rows 512 16 (sk c)) fullShare (mid A c)) := by
  have hg : bigSep (Finset.Ico 7 10) (give A c) = iprop((bigSep (Finset.Ico 7 10) fun k => at7 c (rows 512 16 (sk (peer (dir k) c))) fullShare (mid A c))
      ∗ bigSep (Finset.Ico 7 10) (slotB c)) := by
    rw [← ico_sep]
    refine ico_congr fun k hk hk' => ?_
    rw [give_B A c k hk hk']
    unfold giveB slotB
    rw [dir_A k hk']
  rw [hg, by_pieces]
  iintro ⟨⟨Ho, Hp⟩, Hs⟩
  isplitr [Ho]
  · isplitl [Hp] <;> iassumption
  iexact Ho

theorem kdir_C (k : ℕ) (h : 7 ≤ k) (h' : k < 10) : kdir (3 + k) = kdir k := by
  rw [dir_C _ (by omega) (by omega), dir_A k h', Nat.add_sub_cancel_left]
theorem kdir_D (k : ℕ) (h : k < 7) : kdir (13 + k) = kdir k := by
  rw [dir_D _ (by omega), dir_A k (by omega), Nat.add_sub_cancel_left]

theorem dst_C : bigSep (Finset.Ico 7 10) (dstB (F := F) c) = bigSep (Finset.Ico 10 13) (dstB c) := by
  rw [ico_shift 3 7 3]
  exact ico_congr fun k hk hk' => by unfold dstB; rw [kdir_C k hk hk']
theorem dst_D : bigSep (Finset.Ico 0 7) (dstA (F := F) c) = bigSep (Finset.Ico 13 20) (dstA c) := by
  rw [ico_shift 13 0 7]
  exact ico_congr fun k hk hk' => by unfold dstA; rw [kdir_D k hk']

theorem fill_C : iprop(at7 c (rows 512 16 (sk c)) fullShare (fin A) ∗ bigSep (Finset.Ico 7 10) (dstB c))
    ⊢ iprop(bigSep (Finset.Ico 10 13) (give A c) ∗ at7 c (rows 512 16 (sk c)) keepC (fin A)) := by
  have hg : bigSep (Finset.Ico 10 13) (give A c) = iprop((bigSep (Finset.Ico 10 13) fun k => at7 c (rows 512 16 (sk c)) (tokC k) (fin A))
      ∗ bigSep (Finset.Ico 10 13) (dstB c)) := by
    rw [← ico_sep]
    refine ico_congr fun k hk hk' => ?_
    rw [give_C A c k hk hk']
  rw [hg, by_tokC, dst_C]
  iintro ⟨⟨Ho, Hp⟩, Hs⟩
  isplitr [Ho]
  · isplitl [Hp] <;> iassumption
  iexact Ho

/-- What stays lent out of other layers' pieces and of other chunks: what would be lent to gathers if they went there. -/
def leftC : sProp 𝕄 :=
  bigSep (Finset.Ico 10 13) fun k => bigSep (Finset.Ico 10 13) fun j => at7 c (rows 512 16 (sk (peer (kdir k) c))) (tokC j) (fin A)
def leftD : sProp 𝕄 :=
  bigSep (Finset.Ico 13 20) fun k => iprop((bigSep (Finset.Ico 13 20) fun j => at7 c (rows 512 64 (qd (peer (kdir k) c))) (tokD j) (fin A))
    ∗ bigSep (Finset.Ico 10 13) fun j => at7 c (rows 512 64 (qd (peer (kdir k) c))) (tokC j) (fin A))

theorem own_C : iprop(at7 c (rows 512 64 (qd c)) keepC (fin A) ∗ leftC A c)
    = iprop(at7 c (rows 512 16 (sk c)) keepC (fin A) ∗ bigSep (Finset.Ico 10 13) fun k => at7 c (rows 512 16 (sk (peer (kdir k) c))) fullShare (fin A)) := by
  unfold leftC
  rw [by_piecesC, bi_eq sep_assoc, ← ico_sep]
  congr 1
  exact ico_congr fun k _ _ => by rw [by_tokC]

theorem all_D : iprop(at7 c Finset.univ keepD (fin A) ∗ leftD A c)
    = iprop(at7 c (rows 512 64 (qd c)) keepD (fin A) ∗ bigSep (Finset.Ico 13 20) fun k => at7 c (rows 512 64 (qd (peer (kdir k) c))) fullShare (fin A)) := by
  unfold leftD
  rw [by_chunksD, bi_eq sep_assoc, ← ico_sep]
  congr 1
  exact ico_congr fun k _ _ => by rw [by_tokC, by_tokD c (fin A), bi_eq sep_assoc]

theorem fill_D : iprop(at7 c (rows 512 16 (sk c)) keepC (fin A) ∗ (bigSep (Finset.Ico 10 13) fun k => recvPay A k c) ∗ bigSep (Finset.Ico 0 7) (dstA c))
    ⊢ iprop(bigSep (Finset.Ico 13 20) (give A c) ∗ at7 c (rows 512 64 (qd c)) keepD (fin A) ∗ leftC A c) := by
  have hg : bigSep (Finset.Ico 13 20) (give A c) = iprop((bigSep (Finset.Ico 13 20) fun k => at7 c (rows 512 64 (qd c)) (tokD k) (fin A))
      ∗ bigSep (Finset.Ico 13 20) (dstA c)) := by
    rw [← ico_sep]
    refine ico_congr fun k hk hk' => ?_
    rw [give_D A c k hk]
  have h : iprop(at7 c (rows 512 16 (sk c)) keepC (fin A) ∗ (bigSep (Finset.Ico 10 13) fun k => at7 c (rows 512 16 (sk (peer (kdir k) c))) fullShare (fin A)))
      ⊢ iprop(at7 c (rows 512 64 (qd c)) keepC (fin A) ∗ leftC A c) := by rw [own_C]
  rw [hg, took_C, dst_D]
  iintro ⟨Ho, Hr, Hd⟩
  ihave H := h $$ [Ho Hr]
  · isplitl [Ho] <;> iassumption
  rw [by_tokD]
  icases H with ⟨⟨Ho, Ht⟩, Hl⟩
  isplitl [Ht Hd]
  · isplitl [Ht] <;> iassumption
  isplitl [Ho] <;> iassumption

theorem full_D : iprop(at7 c (rows 512 64 (qd c)) keepD (fin A) ∗ bigSep (Finset.Ico 13 20) fun k => recvPay A k c)
    ⊢ iprop(at7 c Finset.univ keepD (fin A) ∗ leftD A c) := by rw [all_D, took_D]

/-- Everything lent comes back. -/
theorem whole_again : iprop((at7 c Finset.univ keepD (fin A) ∗ leftD A c) ∗ leftC A c ∗ bigSep (Finset.Ico 0 20) fun k => sendPay A k c)
    ⊢ at7 c Finset.univ fullShare (fin A) := by
  have hC : (bigSep (Finset.Ico 10 13) fun k => sendPay A k c) = bigSep (Finset.Ico 10 13) fun k => at7 c (rows 512 16 (sk c)) (tokC k) (fin A) :=
    ico_congr fun k hk hk' => by unfold sendPay; rw [if_neg (by omega), if_pos hk']
  have hD : (bigSep (Finset.Ico 13 20) fun k => sendPay A k c) = bigSep (Finset.Ico 13 20) fun k => at7 c (rows 512 64 (qd c)) (tokD k) (fin A) :=
    ico_congr fun k hk hk' => by unfold sendPay; rw [if_neg (by omega), if_neg (by omega)]
  have h1 : iprop(at7 c (rows 512 64 (qd c)) keepD (fin A) ∗ bigSep (Finset.Ico 13 20) fun k => at7 c (rows 512 64 (qd c)) (tokD k) (fin A))
      ⊢ at7 c (rows 512 64 (qd c)) keepC (fin A) := by rw [by_tokD c (fin A) (rows 512 64 (qd c))]
  have h2 : iprop(at7 c (rows 512 64 (qd c)) keepC (fin A) ∗ leftC A c)
      ⊢ iprop(at7 c (rows 512 16 (sk c)) keepC (fin A) ∗ bigSep (Finset.Ico 10 13) fun k => at7 c (rows 512 16 (sk (peer (kdir k) c))) fullShare (fin A)) := by rw [own_C]
  have h3 : iprop((at7 c (rows 512 16 (sk c)) keepC (fin A) ∗ bigSep (Finset.Ico 10 13) fun k => at7 c (rows 512 16 (sk c)) (tokC k) (fin A))
        ∗ bigSep (Finset.Ico 10 13) fun k => at7 c (rows 512 16 (sk (peer (kdir k) c))) fullShare (fin A))
      ⊢ at7 c (rows 512 64 (qd c)) fullShare (fin A) := by rw [by_piecesC c fullShare, by_tokC c (fin A) (rows 512 16 (sk c))]
  have h4 : iprop(at7 c (rows 512 64 (qd c)) fullShare (fin A) ∗ bigSep (Finset.Ico 13 20) fun k => at7 c (rows 512 64 (qd (peer (kdir k) c))) fullShare (fin A))
      ⊢ at7 c Finset.univ fullShare (fin A) := by rw [by_chunksD c fullShare]
  rw [all_D, ico_append 0 10 20 (by decide) (by decide), ico_append 10 13 20 (by decide) (by decide), hC, hD]
  iintro ⟨⟨Ho, Hc⟩, Hl, -, HtC, HtD⟩
  ihave Ho := h1 $$ [Ho HtD]
  · isplitl [Ho] <;> iassumption
  ihave Ho := h2 $$ [Ho Hl]
  · isplitl [Ho] <;> iassumption
  icases Ho with ⟨Ho, Hp⟩
  ihave Ho := h3 $$ [Ho HtC Hp]
  · isplitr [Hp]
    · isplitl [Ho] <;> iassumption
    iexact Hp
  iapply h4
  isplitl [Ho] <;> iassumption

end Cert.KernelIdeal

end

end
-- ==== Proof.Middle.lean ====
/- The parts of the body that add what arrived, and the part that stores the result. -/
module

public import proofs.«01_k».proof.Proof.Phases

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

variable (h0 : (g0 : Memref sig .tc .vmem S2x256x512 .f32).IsWhole) (h1 : (g1 : Memref sig .tc .vmem S512x256 .f32).IsWhole)
  (h2 : (g2 : Memref sig .tc .vmem S2x256x4x64 .f32).IsWhole) (h3 : (g3 : Memref sig .tc .vmem S2x256x4x64 .f32).IsWhole)
  (h4 : (g4 : Memref sig .tc .vmem S256x512 .f32).IsWhole) (h5 : (g5 : Memref sig .tc .vmem S2x256x512 .f32).IsWhole)
  (h6 : m6.IsWhole) (h7 : m7.IsWhole) (h8 : m8.IsWhole) (h9 : m9.IsWhole)

/-- Contents of the computed array that hold the chunk's sum on the own chunk. -/
def summed : sProp 𝕄 := iprop(∃ f, at6 c f ∗ ⌜∀ x, rowsOf 64 (qd c) f x = s1 A c x⌝)

theorem part14 (v154 v365 v383 v417 : BitVec 32) {Kt : _ → sProp 𝕄} :
    iprop((St A K c 7 7 0 4 0 ∗ at6 c (A c) ∗ at7 c (rows 512 64 (qd c)) fullShare (p16 A c))
      ∗ ((St A K c 7 7 7 7 0 ∗ summed A c ∗ at7 c (rows 512 64 (qd c)) fullShare (p16 A c) ∗ at8 c Finset.univ (rb A c) ∗ bigSep (Finset.Ico 0 7) (dstA c))
        -∗ Kt (k0_pay21 (own A c) (rb A c))))
      ⊢ wp frame (wpE (defs₀ (F := F)) 𝒱₀ c none) Set.univ
        (k0_part14 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 c v154 v365 v383 v417) Kt := by
  rw [k0_part14_eq_skeleton]
  unfold k0_part14_skel
  simp only [Prog.lift, Prog.bind_op, Prog.bind_ret, Prog.pure_eq_ret]
  iintro ⟨⟨H, H6, H7⟩, Hk⟩
  iapply (wait_A A K c 4 (by decide) 7 7 0 (by decide) (by decide) rfl) $$ H; iintro H
  iapply (wait_A A K c 5 (by decide) 7 7 0 (by decide) (by decide) rfl) $$ H; iintro H
  iapply (wait_A A K c 6 (by decide) 7 7 0 (by decide) (by decide) rfl) $$ H; iintro H
  ihave H := (st_take A K c 7 7 0 7 0) $$ H
  rw [took_A]
  icases H with ⟨H, H8, Hd⟩
  have hq := qd_lt c
  iapply (load_rows6 c 64 (qd c) (by omega) (off2_eq c)) $$ H6; iintro H6
  iapply (wp_load 𝒱₀ (c : Thread nD τ) none Set.univ (m := m8) (Finset.subset_univ _)) $$ H8; iintro H8
  rw [load8, own_rows]
  iapply (load_rows6 c 64 (qd c) (by omega) (off2_eq c)) $$ H6; iintro H6
  iapply (store_rows6 c 64 (qd c) (by omega) (off2_eq c)) $$ H6; iintro H6
  iapply (load_rows7 c 64 (qd c) (by decide) (by omega) (off2_eq c) (Finset.Subset.refl _)) $$ H7; iintro H7
  rw [wp_ret]; imodintro
  iapply Hk
  isplitl [H]; · iexact H
  isplitl [H6]; · unfold summed; iexact H6
  isplitl [H7]; · iexact H7
  isplitl [H8] <;> iassumption

theorem part15 (v3 v5 v8 v154 : BitVec 32) {Kt : _ → sProp 𝕄} :
    iprop((St A K c 7 7 7 7 0 ∗ at7 c (rows 512 64 (qd c)) fullShare (p16 A c) ∗ bigSep (Finset.Ico 7 10) (slotB c))
      ∗ ∀ r, ((St A K c 8 10 7 7 0 ∗ at7 c (rows 512 16 (sk c)) fullShare (mid A c)) -∗ Kt r))
      ⊢ wp frame (wpE (defs₀ (F := F)) 𝒱₀ c none) Set.univ
        (k0_part15 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 c v3 v5 v8 v154 (k0_pay21 (own A c) (rb A c))) Kt := by
  rw [k0_part15_eq_skeleton]
  unfold k0_part15_skel
  simp only [Prog.lift, Prog.bind_op, Prog.bind_ret, Prog.pure_eq_ret]
  iintro ⟨⟨H, H7, Hs⟩, Hk⟩
  have hq := qd_lt c
  iapply (store_rows7 c 64 (qd c) (by decide) (by omega) (off2_eq c) (mid A c) (w := k0_pay22 (k0_pay21 (own A c) (rb A c))) (mid_rows A c)) $$ H7; iintro H7
  ihave H7 := (fill_B A c) $$ [H7 Hs]
  · isplitl [H7] <;> iassumption
  icases H7 with ⟨Hg, H7⟩
  ihave H := (st_fill A K c 7 10 7 7 0) $$ [H Hg]
  · isplitl [H] <;> iassumption
  iapply (st_B A K c 7 (by decide) (by decide) 10 7 7 (by decide) (dev18_eq c) (off3_sk0 c) rfl rfl rfl) $$ H; iintro H
  rw [wp_ret]; imodintro
  iapply Hk
  isplitl [H] <;> iassumption

theorem part17 (v3 v5 v8 v156 v493 : BitVec 32) {Kt : _ → sProp 𝕄} :
    iprop((St A K c 10 10 7 8 0 ∗ summed A c ∗ at7 c (rows 512 16 (sk c)) fullShare (mid A c))
      ∗ ∀ r, ((St A K c 10 13 10 10 0 ∗ (∃ f, at6 c f) ∗ at7 c (rows 512 16 (sk c)) keepC (fin A) ∗ at9 c Finset.univ (zb A c)) -∗ Kt r))
      ⊢ wp frame (wpE (defs₀ (F := F)) 𝒱₀ c none) Set.univ
        (k0_part17 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 c v3 v5 v8 v156 v493) Kt := by
  rw [k0_part17_eq_skeleton]
  unfold k0_part17_skel
  simp only [Prog.lift, Prog.bind_op, Prog.bind_ret, Prog.pure_eq_ret]
  iintro ⟨⟨H, H6, H7⟩, Hk⟩
  iapply (wait_B A K c 8 (by decide) (by decide) 10 10 7 (by decide) (by decide) rfl) $$ H; iintro H
  iapply (wait_B A K c 9 (by decide) (by decide) 10 10 7 (by decide) (by decide) rfl) $$ H; iintro H
  ihave H := (st_take A K c 10 10 7 10 0) $$ H
  rw [took_B]
  icases H with ⟨H, H9, Hd⟩
  unfold summed
  icases H6 with ⟨%f, H6, %hf⟩
  have hq := qd_lt c
  have hz := zd_lt c
  have hk : 16 * sk c + 16 ≤ 512 := by unfold sk; omega
  iapply (load_rows6 c 16 (sk c) hk (off4_sk c)) $$ H6; iintro H6
  iapply (wp_load 𝒱₀ (c : Thread nD τ) none Set.univ (m := m9) (Finset.subset_univ _)) $$ H9; iintro H9
  rw [load9, s1_rows A c f hf]
  iapply (load_rows7 c 16 (sk c) (by decide) hk (off4_sk c) (Finset.Subset.refl _)) $$ H7; iintro H7
  iapply (store_rows7 c 16 (sk c) (by decide) hk (off4_sk c) (fin A) (fin_rows A c)) $$ H7; iintro H7
  ihave H7 := (fill_C A c) $$ [H7 Hd]
  · isplitl [H7] <;> iassumption
  icases H7 with ⟨Hg, H7⟩
  ihave H := (st_fill A K c 10 13 10 10 0) $$ [H Hg]
  · isplitl [H] <;> iassumption
  rw [wp_ret]; imodintro
  iapply Hk
  isplitl [H]; · iexact H
  isplitl [H6]; · iexists f; iexact H6
  isplitl [H7] <;> iassumption

/-- Before the chunk gathers: the pieces that arrived complete the own chunk. -/
theorem to_D : iprop(St A K c 13 13 10 13 0 ∗ at7 c (rows 512 16 (sk c)) keepC (fin A) ∗ bigSep (Finset.Ico 0 7) (dstA c))
    ⊢ iprop(St A K c 13 20 13 13 0 ∗ at7 c (rows 512 64 (qd c)) keepD (fin A) ∗ leftC A c) := by
  iintro ⟨H, H7, Hd⟩
  ihave H := (st_take A K c 13 13 10 13 0) $$ H
  icases H with ⟨H, Hr⟩
  ihave H7 := (fill_D A c) $$ [H7 Hr Hd]
  · isplitl [H7]; · iexact H7
    isplitl [Hr] <;> iassumption
  icases H7 with ⟨Hg, H7⟩
  ihave H := (st_fill A K c 13 20 13 13 0) $$ [H Hg]
  · isplitl [H] <;> iassumption
  isplitl [H] <;> iassumption

theorem part24 (v674 v691 v708 c1 : BitVec 32) (f5 : Vec F S2x256x512 .f32) {Kt : _ → sProp 𝕄} :
    iprop((St A K c 20 20 13 17 0 ∗ at7 c (rows 512 64 (qd c)) keepD (fin A) ∗ on5 c f5)
      ∗ ∀ r, ((St A K c 20 20 20 20 0 ∗ (at7 c Finset.univ keepD (fin A) ∗ leftD A c) ∗ on5 c (result A)) -∗ Kt r))
      ⊢ wp frame (wpE (defs₀ (F := F)) 𝒱₀ c none) Set.univ
        (k0_part24 (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11 c v674 v691 v708 c1) Kt := by
  rw [k0_part24_eq_skeleton]
  unfold k0_part24_skel
  simp only [Prog.lift, Prog.bind_op, Prog.bind_ret, Prog.pure_eq_ret]
  iintro ⟨⟨H, H7, H5⟩, Hk⟩
  iapply (wait_D A K c 17 (by decide) (by decide) 20 20 13 (by decide) (by decide) rfl) $$ H; iintro H
  iapply (wait_D A K c 18 (by decide) (by decide) 20 20 13 (by decide) (by decide) rfl) $$ H; iintro H
  iapply (wait_D A K c 19 (by decide) (by decide) 20 20 13 (by decide) (by decide) rfl) $$ H; iintro H
  ihave H := (st_take A K c 20 20 13 20 0) $$ H
  icases H with ⟨H, Hr⟩
  ihave H7 := (full_D A c) $$ [H7 Hr]
  · isplitl [H7] <;> iassumption
  icases H7 with ⟨H7, Hl⟩
  iapply (load_rows7 c 256 0 (by decide) (by decide) (o := ![0, 0]) rfl (Finset.subset_univ _)) $$ H7; iintro H7
  iapply (wp_load 𝒱₀ (c : Thread nD τ) none Set.univ (m := g5) (Finset.subset_univ _)) $$ H5; iintro H5
  iapply (wp_store 𝒱₀ (c : Thread nD τ) none Set.univ (m := g5) (r := Rect.unit (s := S2x256x512) ![0, 0, 0] S1x256x512.size inb_S2x256x512_S1x256x512_0_0_0)
    (Mk := Finset.univ) (Finset.subset_univ _)) $$ H5; iintro H5
  iapply (load_rows7 c 256 1 (by decide) (by decide) (o := ![256, 0]) rfl (Finset.subset_univ _)) $$ H7; iintro H7
  iapply (wp_load 𝒱₀ (c : Thread nD τ) none Set.univ (m := g5) (Finset.subset_univ _)) $$ H5; iintro H5
  iapply (wp_store 𝒱₀ (c : Thread nD τ) none Set.univ (m := g5) (r := Rect.unit (s := S2x256x512) ![1, 0, 0] S1x256x512.size inb_S2x256x512_S1x256x512_1_0_0)
    (Mk := Finset.univ) (Finset.subset_univ _)) $$ H5; iintro H5
  rw [wp_ret]; imodintro
  iapply Hk
  isplitl [H]; · iexact H
  isplitl [H7 Hl]; · isplitl [H7] <;> iassumption
  unfold result
  rw [← store_out inb_S2x256x512_S1x256x512_0_0_0 inb_S2x256x512_S1x256x512_1_0_0 f5]
  iexact H5

end Cert.KernelIdeal

end

end
-- ==== Proof.Body.lean ====
/- The whole body of one device: from what it brings to the exchange to the result in place and its cells closed. -/
module

public import proofs.«01_k».proof.Proof.Middle
public import Idealize.ShloMosaic.Lib.Rounds.Family

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x512 .f32) (K : GSem nD τ sig → ℕ) (c : Dev nD)

variable (h0 : (g0 : Memref sig .tc .vmem S2x256x512 .f32).IsWhole) (h1 : (g1 : Memref sig .tc .vmem S512x256 .f32).IsWhole)
  (h2 : (g2 : Memref sig .tc .vmem S2x256x4x64 .f32).IsWhole) (h3 : (g3 : Memref sig .tc .vmem S2x256x4x64 .f32).IsWhole)
  (h4 : (g4 : Memref sig .tc .vmem S256x512 .f32).IsWhole) (h5 : (g5 : Memref sig .tc .vmem S2x256x512 .f32).IsWhole)
  (h6 : m6.IsWhole) (h7 : m7.IsWhole) (h8 : m8.IsWhole) (h9 : m9.IsWhole)
  (x : Vec F S2x256x512 .f32) (wq : Vec F S512x256 .f32) (k v : Vec F S2x256x4x64 .f32) (wo : Vec F S256x512 .f32)

/-- The operands as staged. -/
def ins : sProp 𝕄 := iprop(on0 c x ∗ on1 c wq ∗ on2 c k ∗ on3 c v ∗ on4 c wo)
/-- The working arrays, holding anything. -/
def scratch : sProp 𝕄 := iprop((∃ f, at6 c f) ∗ (∃ f, at7 c Finset.univ fullShare f) ∗ (∃ f, at8 c Finset.univ f) ∗ ∃ f, at9 c Finset.univ f)
/-- What a device brings to the exchange. -/
def bring : sProp 𝕄 :=
  iprop(recs A K ∗ levAts L lv ∗ (bigSep Finset.univ fun d : Dev nD => reached ER (barCell d) 0)
    ∗ (bigSep (Finset.Ico 0 10) fun j => dutyTok ER (barCell (peer (dir j) c)) 0 (dir j))
    ∗ (cred (tallyAt (barCell c) () 10) ∗ atPos ER (barCell c) 0 ∅ 0)
    ∗ book c ∗ (bigSep (Finset.Ico 0 20) fun k => reached ER (recvCell k c) 0)
    ∗ ∃ W, owes (c : Thread nD τ) (owe 0 c) W)
/-- What it has after it. -/
def after : sProp 𝕄 :=
  iprop((bigSep (Finset.Ico 0 20) fun k => semVal (sendCell k c) 0) ∗ (bigSep (Finset.Ico 0 20) fun k => semVal (recvCell k c) 0)
    ∗ semVal (barCell c) 0 ∗ ∃ W, owes (c : Thread nD τ) 0 W)

theorem start_entry : iprop(bring A K c ∗ (∃ f, at8 c Finset.univ f) ∗ ∃ f, at9 c Finset.univ f)
    ⊢ iprop(entry A K c 0 ∗ (levAts L lv ∗ cred (tallyAt (barCell c) () 10) ∗ atPos ER (barCell c) 0 ∅ 0) ∗ book c) := by
  unfold bring entry
  rw [ico_sep]
  iintro ⟨⟨#HI, #Hlev, #Hr, Ht, Hb, Hbk, Hrr, HO⟩, H8, H9⟩
  isplitl [Ht H8 H9 Hrr HO]
  · isplitr; · iexact HI
    isplitr; · iexact Hr
    isplitr [HO]
    · isplitl [Ht]; · iexact Ht
      iapply (own_slots c)
      isplitl [H8]; · iexact H8
      isplitl [H9] <;> iassumption
    iexact HO
  isplitl [Hb]
  · isplitr; · iexact Hlev
    iexact Hb
  iexact Hbk

/-- All cells of the exchange close. -/
theorem st_end : iprop(St A K c 20 20 20 20 20 ∗ atPos ER (barCell c) 1 ∅ 0)
    ⊢ (|={Set.univ}=> iprop(after c ∗ bigSep (Finset.Ico 0 20) fun k => sendPay A k c) : sProp 𝕄) := by
  have hI : recs A K ⊢ iprop((bigSep (Finset.Ico 0 20) fun k => cellInv ER (Rd A) (K (sendCell k c)) (sendCell k c))
      ∗ bigSep (Finset.Ico 0 20) fun k => cellInv ER (Rd A) (K (recvCell k c)) (recvCell k c)) := by
    rw [← ico_sep]
    unfold recs
    exact (of_dev _ c).trans sep_elim_right
  have hS : iprop((bigSep (Finset.Ico 0 20) fun k => cellInv ER (Rd A) (K (sendCell k c)) (sendCell k c)) ∗ bigSep (Finset.Ico 0 20) fun k => atPos ER (sendCell k c) (0 + 1) ∅ 0)
      ⊢ (|={Set.univ}=> bigSep (Finset.Ico 0 20) fun k => semVal (sendCell k c) 0 : sProp 𝕄) := by
    rw [← ico_sep]
    exact cells_close ER (Rd A) (Finset.Ico 0 20) (fun k => sendCell k c) (fun k => K (sendCell k c)) (fun _ _ => Set.mem_univ _) (fun _ _ => id) (fun _ => 0 + 1)
      (fun k _ => duties_later A (sendCell k c))
  have hR : iprop((bigSep (Finset.Ico 0 20) fun k => cellInv ER (Rd A) (K (recvCell k c)) (recvCell k c)) ∗ bigSep (Finset.Ico 0 20) fun k => atPos ER (recvCell k c) (0 + 1) ∅ 0)
      ⊢ (|={Set.univ}=> bigSep (Finset.Ico 0 20) fun k => semVal (recvCell k c) 0 : sProp 𝕄) := by
    rw [← ico_sep]
    exact cells_close ER (Rd A) (Finset.Ico 0 20) (fun k => recvCell k c) (fun k => K (recvCell k c)) (fun _ _ => Set.mem_univ _) (fun _ _ => id) (fun _ => 0 + 1)
      (fun k _ => duties_later A (recvCell k c))
  unfold St amb net after
  rw [show 10 + 20 = 30 from rfl, owe_end]
  iintro ⟨⟨⟨#HI, -⟩, ⟨-, -, -, HS, -, HR, HO⟩, -, -, Hb⟩, Ha⟩
  ihave #HJ := hI $$ HI
  icases HJ with ⟨#HJS, #HJR⟩
  imod hS $$ [HS] with HS
  · isplitr; · iexact HJS
    iexact HS
  imod hR $$ [HR] with HR
  · isplitr; · iexact HJR
    iexact HR
  imod (cell_close ER (Rd A) (g := barCell c) (Set.mem_univ (K (barCell c))) id (duties_later A (barCell c))) $$ [Ha] with Ha
  · isplitr; · iapply (recs_bar A K c); iexact HI
    iexact Ha
  imodintro
  isplitr [Hb]
  · isplitl [HS]; · iexact HS
    isplitl [HR]; · iexact HR
    isplitl [Ha] <;> iassumption
  iexact Hb

set_option maxHeartbeats 1000000 in
theorem body_run (hA : A c = comp x wq k v wo) (f5 : Vec F S2x256x512 .f32) {Q : PUnit → sProp 𝕄} :
    iprop((bring A K c ∗ ins c x wq k v wo ∗ on5 c f5 ∗ scratch c)
      ∗ ((after c ∗ ins c x wq k v wo ∗ on5 c (result A) ∗ scratch c) -∗ Q ⟨⟩))
      ⊢ wp frame (wpE (defs₀ (F := F)) 𝒱₀ c none) Set.univ
        (cc0_body (F := F) g0 h0 g1 h1 g2 h2 g3 h3 g4 h4 g5 h5 m6 h6 m7 h7 m8 h8 m9 h9
          cc0_scratch4 cc0_scratch5 cc0_scratch6 cc0_scratch7 cc0_scratch8 cc0_scratch9 cc0_scratch10 cc0_scratch11) Q := by
  rw [cc0_body_eq_skeleton]
  unfold cc0_body_skel ins scratch
  iintro ⟨⟨Hbr, ⟨H0, H1, H2, H3, H4⟩, H5, ⟨%f6, H6⟩, ⟨%f7, H7⟩, H8, H9⟩, Hk⟩
  rw [wp_bind]
  iapply (part1 c h0 h1 h2 h3 h4 h5 h6 h7 h8 h9 x wq k v)
  isplitl [H0 H1 H2 H3]
  · isplitl [H0]; · iexact H0
    isplitl [H1]; · iexact H1
    isplitl [H2] <;> iassumption
  iintro %v3 %v5 %v8 ⟨H0, H1, H2, H3⟩
  rw [wp_bind]
  iapply (part2 c h0 h1 h2 h3 h4 h5 h6 h7 h8 h9 k v)
  isplitl [H2 H3]; · isplitl [H2] <;> iassumption
  iintro ⟨H2, H3⟩
  rw [wp_bind]
  iapply (part3 c h0 h1 h2 h3 h4 h5 h6 h7 h8 h9 k v)
  isplitl [H2 H3]; · isplitl [H2] <;> iassumption
  iintro ⟨H2, H3⟩
  rw [wp_bind]
  iapply (part4 c h0 h1 h2 h3 h4 h5 h6 h7 h8 h9 k v)
  isplitl [H2 H3]; · isplitl [H2] <;> iassumption
  iintro ⟨H2, H3⟩
  rw [wp_bind]
  iapply (part5 c h0 h1 h2 h3 h4 h5 h6 h7 h8 h9 wo)
  isplitl [H4 H6 H7]
  · isplitl [H4]; · iexact H4
    isplitl [H6] <;> iassumption
  iintro %v153 %v154 %v156 %v169 ⟨H4, H6, H7⟩
  have hA' := hA
  unfold comp at hA'
  rw [← hA', show k0_pay18 (A c) = p16 A c from rfl]
  ihave He := (start_entry A K c) $$ [Hbr H8 H9]
  · isplitl [Hbr]; · iexact Hbr
    isplitl [H8] <;> iassumption
  icases He with ⟨H, Hbar, Hbook⟩
  rw [wp_bind]
  iapply (part6 A K c g0 h0 g1 h1 g2 h2 g3 h3 g4 h4 g5 h5 h6 h7 h8 h9)
  isplitl [H]; · iexact H
  iintro %r6 H
  rw [wp_bind]
  iapply (part7 A K c g0 h0 g1 h1 g2 h2 g3 h3 g4 h4 g5 h5 h6 h7 h8 h9)
  isplitl [H]; · iexact H
  iintro %r7 H
  rw [wp_bind]
  iapply (part8 A K c g0 h0 g1 h1 g2 h2 g3 h3 g4 h4 g5 h5 h6 h7 h8 h9)
  isplitl [H]; · iexact H
  iintro %r8 H
  rw [wp_bind]
  iapply (part9 A K c g0 h0 g1 h1 g2 h2 g3 h3 g4 h4 g5 h5 h6 h7 h8 h9)
  isplitl [H Hbar Hbook H7]
  · isplitl [H]; · iexact H
    isplitl [Hbar]; · iexact Hbar
    isplitl [Hbook] <;> iassumption
  iintro %r9 ⟨H, Ha, H7, Hs⟩
  rw [wp_bind]
  iapply (part10 A K c g0 h0 g1 h1 g2 h2 g3 h3 g4 h4 g5 h5 h6 h7 h8 h9)
  isplitl [H]; · iexact H
  iintro %r10 H
  rw [wp_bind]
  iapply (part11 A K c g0 h0 g1 h1 g2 h2 g3 h3 g4 h4 g5 h5 h6 h7 h8 h9)
  isplitl [H]; · iexact H
  iintro %r11 H
  rw [wp_bind]
  iapply (part12 A K c g0 h0 g1 h1 g2 h2 g3 h3 g4 h4 g5 h5 h6 h7 h8 h9)
  isplitl [H]; · iexact H
  iintro %r12 H
  rw [wp_bind]
  iapply (part13 A K c g0 h0 g1 h1 g2 h2 g3 h3 g4 h4 g5 h5 h6 h7 h8 h9)
  isplitl [H]; · iexact H
  iintro %r13 H
  rw [wp_bind]
  iapply (part14 A K c h0 h1 h2 h3 h4 h5 h6 h7 h8 h9)
  isplitl [H H6 H7]
  · isplitl [H]; · iexact H
    isplitl [H6] <;> iassumption
  iintro ⟨H, H6, H7, H8, Hd⟩
  rw [wp_bind]
  iapply (part15 A K c h0 h1 h2 h3 h4 h5 h6 h7 h8 h9)
  isplitl [H H7 Hs]
  · isplitl [H]; · iexact H
    isplitl [H7] <;> iassumption
  iintro %r15 ⟨H, H7⟩
  rw [wp_bind]
  iapply (part16 A K c g0 h0 g1 h1 g2 h2 g3 h3 g4 h4 g5 h5 h6 h7 h8 h9)
  isplitl [H]; · iexact H
  iintro %r16 H
  rw [wp_bind]
  iapply (part17 A K c h0 h1 h2 h3 h4 h5 h6 h7 h8 h9)
  isplitl [H H6 H7]
  · isplitl [H]; · iexact H
    isplitl [H6] <;> iassumption
  iintro %r17 ⟨H, H6, H7, H9⟩
  rw [wp_bind]
  iapply (part18 A K c g0 h0 g1 h1 g2 h2 g3 h3 g4 h4 g5 h5 h6 h7 h8 h9)
  isplitl [H]; · iexact H
  iintro %r18 H
  rw [wp_bind]
  iapply (part19 A K c g0 h0 g1 h1 g2 h2 g3 h3 g4 h4 g5 h5 h6 h7 h8 h9)
  isplitl [H]; · iexact H
  iintro %r19 H
  ihave H := (to_D A K c) $$ [H H7 Hd]
  · isplitl [H]; · iexact H
    isplitl [H7] <;> iassumption
  icases H with ⟨H, H7, Hl⟩
  rw [wp_bind]
  iapply (part20 A K c g0 h0 g1 h1 g2 h2 g3 h3 g4 h4 g5 h5 h6 h7 h8 h9)
  isplitl [H]; · iexact H
  iintro %r20 H
  rw [wp_bind]
  iapply (part21 A K c g0 h0 g1 h1 g2 h2 g3 h3 g4 h4 g5 h5 h6 h7 h8 h9)
  isplitl [H]; · iexact H
  iintro %r21 H
  rw [wp_bind]
  iapply (part22 A K c g0 h0 g1 h1 g2 h2 g3 h3 g4 h4 g5 h5 h6 h7 h8 h9)
  isplitl [H]; · iexact H
  iintro %r22 H
  rw [wp_bind]
  iapply (part23 A K c g0 h0 g1 h1 g2 h2 g3 h3 g4 h4 g5 h5 h6 h7 h8 h9)
  isplitl [H]; · iexact H
  iintro %r23 H
  rw [wp_bind]
  iapply (part24 A K c h0 h1 h2 h3 h4 h5 h6 h7 h8 h9 _ _ _ _ f5)
  isplitl [H H7 H5]
  · isplitl [H]; · iexact H
    isplitl [H7] <;> iassumption
  iintro %r24 ⟨H, H7, H5⟩
  rw [wp_bind]
  iapply (part25 A K c g0 h0 g1 h1 g2 h2 g3 h3 g4 h4 g5 h5 h6 h7 h8 h9)
  isplitl [H]; · iexact H
  iintro %r25 H
  rw [wp_bind]
  iapply (part26 A K c g0 h0 g1 h1 g2 h2 g3 h3 g4 h4 g5 h5 h6 h7 h8 h9)
  isplitl [H]; · iexact H
  iintro %r26 H
  rw [wp_bind]
  iapply (part27 A K c g0 h0 g1 h1 g2 h2 g3 h3 g4 h4 g5 h5 h6 h7 h8 h9)
  isplitl [H]; · iexact H
  iintro %r27 H
  simp only [Prog.lift, Prog.bind_op, Prog.bind_ret, Prog.pure_eq_ret]
  iapply (back_D A K c 17 (by decide) (by decide) 20 20 20 rfl) $$ H; iintro H
  iapply (back_D A K c 18 (by decide) (by decide) 20 20 20 rfl) $$ H; iintro H
  iapply (back_D A K c 19 (by decide) (by decide) 20 20 20 rfl) $$ H; iintro H
  rw [wp_ret]
  imod (st_end A K c) $$ [H Ha] with ⟨Haf, Hb⟩
  · isplitl [H] <;> iassumption
  ihave H7 := (whole_again A c) $$ [H7 Hl Hb]
  · isplitl [H7]; · iexact H7
    isplitl [Hl] <;> iassumption
  imodintro
  iapply Hk
  isplitl [Haf]; · iexact Haf
  isplitl [H0 H1 H2 H3 H4]
  · isplitl [H0]; · iexact H0
    isplitl [H1]; · iexact H1
    isplitl [H2]; · iexact H2
    isplitl [H3] <;> iassumption
  isplitl [H5]; · iexact H5
  isplitl [H6]; · iexact H6
  isplitl [H7]; · iexists _; iexact H7
  isplitl [H8]; · iexists _; iexact H8
  iexists _; iexact H9

end Cert.KernelIdeal

end

end
-- ==== Proof.Region.lean ====
/- What the pipelined call holds before and after its one point, and the body obligation it raises. -/
module

public import proofs.«01_k».proof.Proof.Body
public import proofs.«01_k».proof.Proof.Gen.KernelIdeal.Regions
public import proofs.«01_k».proof.Proof.Gen.KernelIdeal.Points
public import Idealize.ShloMosaic.Lib.Pipeline.Value
public import Idealize.ShloMosaic.Lib.Rounds.Family

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the call's windows hold -/

variable (m : (ℓ : Loc nD τ sig) → Buf (Elt F) ℓ)

/-- Device `c`'s unscoped buffers when the call starts. -/
abbrev V (c : Dev nD) : Valuation τ sig (Elt F) := V1 m c

/-- What device `c` computes before any transfer. -/
def mine (c : Dev nD) : Vec F S512x512 .f32 :=
  comp (V m c main_arg0) (V m c main_v9) (V m c main_arg2) (V m c main_arg3) (V m c main_v14)

/-- The contents after the call: the result array is written, everything else is as before. -/
def outs : Outs (F := F) := fun _ r c => Function.update (V m c) (Proc.devRef .tc main_v15) (result (mine m)) (Proc.devRef .tc r)

theorem outs_result (c : Dev nD) : outs m 2 main_v15 c = result (mine m) := Function.update_self ..

/-- The staged windows after the body. -/
def left (c : Dev nD) : (w : Fin cfg0.W) → (cfg0.win w).block.Idx → Elt F (cfg0.win w).elt
  | ⟨0, _⟩ => V m c main_arg0
  | ⟨1, _⟩ => V m c main_v9
  | ⟨2, _⟩ => V m c main_arg2
  | ⟨3, _⟩ => V m c main_arg3
  | ⟨4, _⟩ => V m c main_v14
  | ⟨5, _⟩ => result (mine m)
  | ⟨_ + 6, h⟩ => absurd h (Nat.not_lt.2 (Nat.le_add_left _ _))

/-- What enters the body besides the staged windows and the working buffers; what the body hands on. -/
def X0 (c : Dev nD) : sProp 𝕄 :=
  iprop(∃ K, recs (mine m) K ∗ levAts L lv ∗ (bigSep Finset.univ fun d : Dev nD => reached ER (barCell d) 0)
    ∗ (bigSep (Finset.Ico 0 10) fun j => dutyTok ER (barCell (peer (dir j) c)) 0 (dir j))
    ∗ (cred (tallyAt (barCell c) () 10) ∗ atPos ER (barCell c) 0 ∅ 0)
    ∗ book c ∗ bigSep (Finset.Ico 0 20) fun k => reached ER (recvCell k c) 0)
def Y0 (c : Dev nD) : sProp 𝕄 :=
  iprop((bigSep (Finset.Ico 0 20) fun k => semVal (sendCell k c) 0) ∗ (bigSep (Finset.Ico 0 20) fun k => semVal (recvCell k c) 0) ∗ semVal (barCell c) 0)

def dat0 (c : Dev nD) : Pipeline.Dat τ (Elt F) Unit ℕ UU ℕ cfg0 c where
  A w := V m c (Proc.devRef .tc (Pipeline.arrRef spec0 w))
  after w _ := left m c w
  Φ t := if t.val = 0 then iprop(X0 m c ∗ scratch c ∗ ∃ r, prngReg c r) else iprop(Y0 c ∗ scratch c ∗ ∃ r, prngReg c r)
  q _ := fullShare
  owed t := if t.val = 0 then owe 0 c else 0

theorem found_0 (c : Dev nD) (d) : (dat0 m c).before 0 t0_0 d = V m c main_arg0 := by
  rw [(dat0 m c).before_fetched 0 t0_0 (fetch0_0 _), show (dat0 m c).fetched 0 t0_0 d = ((cfg0.win 0).blk t0_0).view.read (Elt F) (V m c main_arg0) from rfl]
  exact View.ld_unit_zero (Val := Elt F) (off := fun a => win0_0.index t0_0 a * win0_0.size a) (by funext a; revert a; decide) _ (V m c main_arg0)
theorem found_1 (c : Dev nD) (d) : (dat0 m c).before 1 t0_0 d = V m c main_v9 := by
  rw [(dat0 m c).before_fetched 1 t0_0 (fetch0_1 _), show (dat0 m c).fetched 1 t0_0 d = ((cfg0.win 1).blk t0_0).view.read (Elt F) (V m c main_v9) from rfl]
  exact View.ld_unit_zero (Val := Elt F) (off := fun a => win0_1.index t0_0 a * win0_1.size a) (by funext a; revert a; decide) _ (V m c main_v9)
theorem found_2 (c : Dev nD) (d) : (dat0 m c).before 2 t0_0 d = V m c main_arg2 := by
  rw [(dat0 m c).before_fetched 2 t0_0 (fetch0_2 _), show (dat0 m c).fetched 2 t0_0 d = ((cfg0.win 2).blk t0_0).view.read (Elt F) (V m c main_arg2) from rfl]
  exact View.ld_unit_zero (Val := Elt F) (off := fun a => win0_2.index t0_0 a * win0_2.size a) (by funext a; revert a; decide) _ (V m c main_arg2)
theorem found_3 (c : Dev nD) (d) : (dat0 m c).before 3 t0_0 d = V m c main_arg3 := by
  rw [(dat0 m c).before_fetched 3 t0_0 (fetch0_3 _), show (dat0 m c).fetched 3 t0_0 d = ((cfg0.win 3).blk t0_0).view.read (Elt F) (V m c main_arg3) from rfl]
  exact View.ld_unit_zero (Val := Elt F) (off := fun a => win0_3.index t0_0 a * win0_3.size a) (by funext a; revert a; decide) _ (V m c main_arg3)
theorem found_4 (c : Dev nD) (d) : (dat0 m c).before 4 t0_0 d = V m c main_v14 := by
  rw [(dat0 m c).before_fetched 4 t0_0 (fetch0_4 _), show (dat0 m c).fetched 4 t0_0 d = ((cfg0.win 4).blk t0_0).view.read (Elt F) (V m c main_v14) from rfl]
  exact View.ld_unit_zero (Val := Elt F) (off := fun a => win0_4.index t0_0 a * win0_4.size a) (by funext a; revert a; decide) _ (V m c main_v14)

/-- The result array after the call. -/
theorem final_result (c : Dev nD) : (dat0 m c).arrAt 5 cfg0.N = result (mine m) := by
  have hr : ∀ f : (⟨S2x256x512, .f32⟩ : BufTy).Contents (Elt F), ((cfg0.win 5).blk t0_0).view.read (Elt F) f = f := fun f =>
    View.ld_unit_zero (Val := Elt F) (off := fun a => win0_5.index t0_0 a * win0_5.size a) (by funext a; revert a; decide) _ f
  refine (dat0 m c).arrAt_eq_of_cover 5 (result (mine m)) (fun t _ => ?_) (fun i => ⟨t0_0, flush0_5 _, ?_⟩)
  · obtain rfl := fin_N0 t
    rw [hr]
    rfl
  · show i ∈ ((View.whole main_v15).slice (win0_5.rect t0_0)).set
    rw [View.set_slice_whole, Rect.mem_set_unit]
    intro a
    have h0 : win0_5.index t0_0 a * win0_5.size a = 0 := by revert a; decide
    have h1 : win0_5.xsize (grid0.coords t0_0) a = S2x256x512.size a := by revert a; decide
    show win0_5.index t0_0 a * win0_5.size a ≤ (i a : ℕ) ∧ (i a : ℕ) < win0_5.index t0_0 a * win0_5.size a + win0_5.xsize (grid0.coords t0_0) a
    rw [h0, h1, Nat.zero_add]
    exact ⟨Nat.zero_le _, (i a).isLt⟩

def pdats : (p : Fin 1) → (c : Dev nD) → Pipeline.Dat τ (Elt F) Unit ℕ UU ℕ (Pipeline.pin (pcfgs (F := F)) adm p) c
  | 0 => dat0 m
  | ⟨_ + 1, h⟩ => absurd h (Nat.not_lt.2 (Nat.le_add_left _ _))

theorem owed_first (c : Dev nD) : (pdats (F := F) m 0 c).owed 0 = owe 0 c := by
  show (if ((0 : Fin (cfg0.N + 1)).val = 0) then owe 0 c else 0) = owe 0 c
  exact if_pos rfl
theorem owed_start (c : Dev nD) : (dat0 (F := F) m c).owed t0_0.castSucc = owe 0 c := by
  show (if (t0_0.castSucc : Fin (cfg0.N + 1)).val = 0 then owe 0 c else 0) = owe 0 c
  exact if_pos rfl
theorem owed_done (c : Dev nD) : (dat0 (F := F) m c).owed t0_0.succ = 0 := by
  show (if (t0_0.succ : Fin (cfg0.N + 1)).val = 0 then owe 0 c else 0) = 0
  exact if_neg (by decide)
theorem owed_last (c : Dev nD) : (pdats (F := F) m 0 c).owed (Fin.last _) = 0 := by
  show (if (Fin.last cfg0.N).val = 0 then owe 0 c else 0) = 0
  rw [Fin.val_last, if_neg (by rw [show cfg0.N = 1 from N_0]; decide)]

theorem owes_in (c : Dev nD) (t : Fin (cfg0.N + 1)) {O : CellTallies nD τ sig Unit} (h : (dat0 (F := F) m c).owed t = O) :
    (dat0 m c).owesAt () t ⊢ (iprop(∃ W, owes (c : Thread nD τ) O W) : sProp 𝕄) := by
  unfold Pipeline.Dat.owesAt Pipeline.owesWithin
  rw [h]
  iintro ⟨%W, -, H⟩
  iexists W; iexact H
theorem owes_out (c : Dev nD) (t : Fin (cfg0.N + 1)) {O : CellTallies nD τ sig Unit} (h : (dat0 (F := F) m c).owed t = O) :
    iprop(∃ W, owes (c : Thread nD τ) O W) ⊢ ((dat0 m c).owesAt () t : sProp 𝕄) := by
  unfold Pipeline.Dat.owesAt Pipeline.owesWithin Pipeline.Dat.bound
  rw [h, show (dat0 (F := F) m c).recorded t = Set.univ from rfl]
  iintro ⟨%W, H⟩
  iexists W
  isplitr
  · ipureintro; exact fun _ _ => Or.inl trivial
  iexact H

set_option maxHeartbeats 1000000 in
/-- The body's obligation: the staged windows opened, `body_run`, the windows handed back. -/
theorem body_ob (c : Dev nD) : Pipeline.BodyObligation (dat0 (F := F) m c) (defs₀ (F := F)) 𝒱₀ () Set.univ := fun t => by
  obtain rfl := fin_N0 t
  rw [bigSep_W0, bigSep_W0]
  rw [show (dat0 m c).Φ t0_0.castSucc = iprop(X0 m c ∗ scratch c ∗ ∃ r, prngReg c r) from rfl,
    show (dat0 m c).Φ t0_0.succ = iprop(Y0 c ∗ scratch c ∗ ∃ r, prngReg c r) from rfl]
  simp only [found_0, found_1, found_2, found_3, found_4]
  unfold X0
  iintro ⟨⟨⟨%K, #HI, #Hl, #Hr, Ht, Hb, Hbk, Hrr⟩, Hs, Hp⟩, HO, ⟨%d0, H0⟩, ⟨%d1, H1⟩, ⟨%d2, H2⟩, ⟨%d3, H3⟩, ⟨%d4, H4⟩, ⟨%d5, H5⟩⟩
  ihave HO := (owes_in m c _ (owed_start m c)) $$ HO
  iapply (body_run (mine m) K c _ _ _ _ _ _ _ _ _ _ (V m c main_arg0) (V m c main_v9) (V m c main_arg2) (V m c main_arg3) (V m c main_v14) rfl ((dat0 m c).before 5 t0_0 d5))
  isplitr [Hp]
  · unfold bring ins
    isplitl [Ht Hb Hbk Hrr HO]
    · isplitr; · iexact HI
      isplitr; · iexact Hl
      isplitr; · iexact Hr
      isplitl [Ht]; · iexact Ht
      isplitl [Hb]; · iexact Hb
      isplitl [Hbk]; · iexact Hbk
      isplitl [Hrr] <;> iassumption
    isplitl [H0 H1 H2 H3 H4]
    · isplitl [H0]; · iapply (Entails.of_eq (owns_whole (c : Thread nD τ) cc0_stg0_0 fullShare (V m c main_arg0))) $$ H0
      isplitl [H1]; · iapply (Entails.of_eq (owns_whole (c : Thread nD τ) cc0_stg1_0 fullShare (V m c main_v9))) $$ H1
      isplitl [H2]; · iapply (Entails.of_eq (owns_whole (c : Thread nD τ) cc0_stg2_0 fullShare (V m c main_arg2))) $$ H2
      isplitl [H3]; · iapply (Entails.of_eq (owns_whole (c : Thread nD τ) cc0_stg3_0 fullShare (V m c main_arg3))) $$ H3
      iapply (Entails.of_eq (owns_whole (c : Thread nD τ) cc0_stg4_0 fullShare (V m c main_v14))) $$ H4
    isplitl [H5]; · iapply (Entails.of_eq (owns_whole (c : Thread nD τ) cc0_stg5_0 fullShare ((dat0 m c).before 5 t0_0 d5))) $$ H5
    iexact Hs
  unfold after ins
  iintro ⟨⟨HS, HR, HB, HO⟩, ⟨H0, H1, H2, H3, H4⟩, H5, Hs⟩
  isplitl [HS HR HB Hs Hp]
  · unfold Y0
    isplitl [HS HR HB]
    · isplitl [HS]; · iexact HS
      isplitl [HR] <;> iassumption
    isplitl [Hs] <;> iassumption
  isplitl [HO]; · iapply (owes_out m c _ (owed_done m c)) $$ HO
  isplitl [H0]; · iapply (Entails.of_eq (owns_whole (c : Thread nD τ) cc0_stg0_0 fullShare (V m c main_arg0)).symm) $$ H0
  isplitl [H1]; · iapply (Entails.of_eq (owns_whole (c : Thread nD τ) cc0_stg1_0 fullShare (V m c main_v9)).symm) $$ H1
  isplitl [H2]; · iapply (Entails.of_eq (owns_whole (c : Thread nD τ) cc0_stg2_0 fullShare (V m c main_arg2)).symm) $$ H2
  isplitl [H3]; · iapply (Entails.of_eq (owns_whole (c : Thread nD τ) cc0_stg3_0 fullShare (V m c main_arg3)).symm) $$ H3
  isplitl [H4]; · iapply (Entails.of_eq (owns_whole (c : Thread nD τ) cc0_stg4_0 fullShare (V m c main_v14)).symm) $$ H4
  iapply (Entails.of_eq (owns_whole (c : Thread nD τ) cc0_stg5_0 fullShare (result (mine m))).symm) $$ H5

end Cert.KernelIdeal

end

end
-- ==== Proof.Segment.lean ====
/- The transfers' semaphores, and the call as one segment of the program: its cells opened on entry and closed on leaving. -/
module

public import proofs.«01_k».proof.Proof.Region

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "ℝ𝕊" => Pipeline.RegionSeg (pcfgs (F := F)) adm (pdats m) () defs₀ 𝒱₀ L lv

/-! ## The transfer semaphores, listed -/

/-- The transfers' semaphores are the forty after the staged windows'. -/
abbrev osem (i : Fin 40) : SemLoc sig := .dma ⟨6 + i.val, by have := i.isLt; show 6 + i.val < 46; omega⟩

theorem osem_inj : Function.Injective osem := by decide

theorem osem_image : (Finset.univ.image osem : Finset (SemLoc sig))
    = (Finset.Ico 0 20).image (fun k => (.dma (semOf (sendNum k)) : SemLoc sig)) ∪ (Finset.Ico 0 20).image fun k => (.dma (semOf (recvNum k)) : SemLoc sig) := by
  decide +kernel

theorem inj20 {β : Type} [DecidableEq β] (f : ℕ → β) (h : ∀ a b : Fin 20, f a.val = f b.val → a = b) :
    Set.InjOn f ((Finset.Ico 0 20 : Finset ℕ) : Set ℕ) := fun a ha b hb e => by
  have ha := (Finset.mem_Ico.mp (Finset.mem_coe.mp ha)).2
  have hb := (Finset.mem_Ico.mp (Finset.mem_coe.mp hb)).2
  exact congrArg Fin.val (h ⟨a, ha⟩ ⟨b, hb⟩ e)

theorem by_sems {M : Type} [URA M] (Φ : SemLoc sig → sProp M) :
    (bigSep Finset.univ fun i : Fin 40 => Φ (osem i))
      = iprop((bigSep (Finset.Ico 0 20) fun k => Φ (.dma (semOf (sendNum k)))) ∗ bigSep (Finset.Ico 0 20) fun k => Φ (.dma (semOf (recvNum k)))) := by
  have h0 := bigSep_image_of_injOn (s := (Finset.univ : Finset (Fin 40))) (f := osem) osem_inj.injOn Φ
  rw [← h0, osem_image, bigSep_union (by decide +kernel : Disjoint ((Finset.Ico 0 20).image (fun k => (.dma (semOf (sendNum k)) : SemLoc sig)))
    ((Finset.Ico 0 20).image fun k => (.dma (semOf (recvNum k)) : SemLoc sig))),
    bigSep_image_of_injOn (inj20 (fun k => (.dma (semOf (sendNum k)) : SemLoc sig)) (by decide +kernel)),
    bigSep_image_of_injOn (inj20 (fun k => (.dma (semOf (recvNum k)) : SemLoc sig)) (by decide +kernel))]
  rfl

theorem own_sems (c : Dev nD) : (Pipeline.ownSems0 osem c : sProp 𝕄)
    = iprop((bigSep (Finset.Ico 0 20) fun k => semVal (sendCell k c) 0) ∗ bigSep (Finset.Ico 0 20) fun k => semVal (recvCell k c) 0) :=
  by_sems (fun s => (semVal ((c : Thread nD τ), s) 0 : sProp 𝕄))

/-! ## The call as a segment -/

/-- What a device brings to the call: the records, the entry payments, its rights to open its transfer cells, the
    payments and the credits of the transfers. -/
def T0 (c : Dev nD) : sProp 𝕄 :=
  iprop(∃ K, recs (mine m) K ∗ (bigSep Finset.univ fun d : Dev nD => reached ER (barCell d) 0)
    ∗ (bigSep (Finset.Ico 0 10) fun j => dutyTok ER (barCell (peer (dir j) c)) 0 (dir j))
    ∗ (cred (tallyAt (barCell c) () 10) ∗ atPos ER (barCell c) 0 ∅ 0)
    ∗ ((bigSep (Finset.Ico 0 20) fun k => openTok ER (sendCell k c)) ∗ bigSep (Finset.Ico 0 20) fun k => openTok ER (recvCell k c))
    ∗ (bigSep (Finset.Ico 0 20) (duty2 c))
    ∗ bigSep (Finset.Ico 0 20) fun k => cred (tallyAt (recvCell k c) () (amt k)))
def T1 (c : Dev nD) : sProp 𝕄 := semVal (barCell c) 0

/-- The transfer cells open when the call starts. -/
theorem opens (c : Dev nD) : iprop(T0 m c ∗ Pipeline.ownSems0 osem c ∗ levAts L lv) ⊢ (|={Set.univ}=> X0 m c : sProp 𝕄) := by
  have hI (K) : recs (mine m) K ⊢ iprop((bigSep (Finset.Ico 0 20) fun k => cellInv ER (Rd (mine m)) (K (sendCell k c)) (sendCell k c))
      ∗ bigSep (Finset.Ico 0 20) fun k => cellInv ER (Rd (mine m)) (K (recvCell k c)) (recvCell k c)) := by
    rw [← ico_sep]
    unfold recs
    exact (of_dev _ c).trans sep_elim_right
  have hS (K : GSem nD τ sig → ℕ) : iprop(((bigSep (Finset.Ico 0 20) fun k => cellInv ER (Rd (mine m)) (K (sendCell k c)) (sendCell k c)) ∗ bigSep (Finset.Ico 0 20) fun k => openTok ER (sendCell k c))
        ∗ bigSep (Finset.Ico 0 20) fun k => semVal (sendCell k c) 0)
      ⊢ (|={Set.univ}=> iprop((bigSep (Finset.Ico 0 20) fun k => atPos ER (sendCell k c) 0 ∅ 0) ∗ bigSep (Finset.Ico 0 20) fun k => reached ER (sendCell k c) 0) : sProp 𝕄) := by
    have h := cells_open ER (Rd (mine m)) (Finset.Ico 0 20) (fun k => sendCell k c) (fun k => K (sendCell k c)) (fun _ _ => Set.mem_univ _) (Es := Set.univ)
    rw [ico_sep, ico_sep] at h
    exact h
  have hR (K : GSem nD τ sig → ℕ) : iprop(((bigSep (Finset.Ico 0 20) fun k => cellInv ER (Rd (mine m)) (K (recvCell k c)) (recvCell k c)) ∗ bigSep (Finset.Ico 0 20) fun k => openTok ER (recvCell k c))
        ∗ bigSep (Finset.Ico 0 20) fun k => semVal (recvCell k c) 0)
      ⊢ (|={Set.univ}=> iprop((bigSep (Finset.Ico 0 20) fun k => atPos ER (recvCell k c) 0 ∅ 0) ∗ bigSep (Finset.Ico 0 20) fun k => reached ER (recvCell k c) 0) : sProp 𝕄) := by
    have h := cells_open ER (Rd (mine m)) (Finset.Ico 0 20) (fun k => recvCell k c) (fun k => K (recvCell k c)) (fun _ _ => Set.mem_univ _) (Es := Set.univ)
    rw [ico_sep, ico_sep] at h
    exact h
  rw [own_sems]
  unfold T0 X0 book
  rw [ico_sep 0 20 (fun k => (cred (tallyAt (recvCell k c) () (amt k)) : sProp 𝕄)) (fun k => atPos ER (recvCell k c) 0 ∅ 0)]
  iintro ⟨⟨%K, #HI, #Hr, Ht, Hb, ⟨HoS, HoR⟩, Hd, Hc⟩, ⟨HvS, HvR⟩, #Hl⟩
  ihave #HJ := hI K $$ HI
  icases HJ with ⟨#HJS, #HJR⟩
  imod (hS K) $$ [HoS HvS] with ⟨HaS, HrS⟩
  · isplitr [HvS]
    · isplitr; · iexact HJS
      iexact HoS
    iexact HvS
  imod (hR K) $$ [HoR HvR] with ⟨HaR, HrR⟩
  · isplitr [HvR]
    · isplitr; · iexact HJR
      iexact HoR
    iexact HvR
  imodintro
  iexists K
  isplitr; · iexact HI
  isplitr; · iexact Hl
  isplitr; · iexact Hr
  isplitl [Ht]; · iexact Ht
  isplitl [Hb]; · iexact Hb
  isplitr [HrR]
  · isplitl [HrS]; · iexact HrS
    isplitl [Hd]; · iexact Hd
    isplitl [HaS]; · iexact HaS
    isplitl [Hc] <;> iassumption
  iexact HrR

theorem rest_eq (c : Dev nD) : (Pipeline.scopedRest (Ix := Unit) (Name := ℕ) (U := UU) (Lvl := ℕ) (Val := Elt F) (Pipeline.pin (pcfgs (F := F)) adm 0).spec c : sProp 𝕄) = scratch c :=
  (scopedRest0_eq c).trans rfl

theorem enters (c : Dev nD) : iprop(Pipeline.scopedRest (Pipeline.pin (pcfgs (F := F)) adm 0).spec c ∗ (∃ r, prngReg c r) ∗ StableHlo.held (c.tc : Thread nD τ) ∅ (V m c) ∗ X0 m c)
    ⊢ (pdats m 0 c).Φ 0 := by
  rw [show (pdats m 0 c).Φ 0 = iprop(X0 m c ∗ scratch c ∗ ∃ r, prngReg c r) from rfl, rest_eq]
  iintro ⟨Hs, Hp, -, HX⟩
  isplitl [HX]; · iexact HX
  isplitl [Hs] <;> iassumption

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ T1 c) := by
  rw [show (pdats m 0 c).Φ (Fin.last _) = iprop(Y0 c ∗ scratch c ∗ ∃ r, prngReg c r) from rfl, rest_eq, own_sems]
  unfold Y0 T1 StableHlo.held
  rw [bigSep_empty]
  iintro ⟨⟨HS, HR, HB⟩, Hs, Hp⟩
  isplitl [Hs]; · iexact Hs
  isplitl [Hp]; · iexact Hp
  isplitr; · iempintro
  isplitl [HS HR]; · isplitl [HS] <;> iassumption
  iexact HB

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then owe 0 c else 0 from rfl] at h
  split at h
  · obtain ⟨k, hk, rfl⟩ := owe_pos h
    refine ⟨by unfold L; rw [if_pos (payCell_tc k c)]; exact Finset.mem_singleton_self _, ?_⟩
    rw [show i = () from rfl, lv_payCell k (Finset.mem_Ico.mp hk).2]
    unfold payLv
    (repeat' split) <;> decide
  · exact absurd h (Nat.lt_irrefl 0)

/-- The unscoped buffers that are no window's array. -/
abbrev others : Finset (DevRef τ sig) := Pipeline.ucRefs τ sig \ Pipeline.arrRefs (τ := τ) spec0

theorem arr_first (c : Dev nD) (w) : (pdats (F := F) m 0 c).arrAt w 0 = V m c (Proc.devRef .tc (Pipeline.arrRef (Pipeline.pin (pcfgs (F := F)) adm 0).spec w)) := rfl

theorem arr_last (c : Dev nD) (w) : (pdats (F := F) m 0 c).arrAt w (Pipeline.pin (pcfgs (F := F)) adm 0).N
    = V2 m (outs m) c (Proc.devRef .tc (Pipeline.arrRef (Pipeline.pin (pcfgs (F := F)) adm 0).spec w)) := by
  match w with
  | ⟨0,_⟩ => exact ((dat0 m c).arrAt_in 0 rfl _).trans (V2_of m (outs m) c main_arg0 (by decide)).symm
  | ⟨1,_⟩ => exact ((dat0 m c).arrAt_in 1 rfl _).trans (V2_of m (outs m) c main_v9 (by decide)).symm
  | ⟨2,_⟩ => exact ((dat0 m c).arrAt_in 2 rfl _).trans (V2_of m (outs m) c main_arg2 (by decide)).symm
  | ⟨3,_⟩ => exact ((dat0 m c).arrAt_in 3 rfl _).trans (V2_of m (outs m) c main_arg3 (by decide)).symm
  | ⟨4,_⟩ => exact ((dat0 m c).arrAt_in 4 rfl _).trans (V2_of m (outs m) c main_v14 (by decide)).symm
  | ⟨5, _⟩ => exact (final_result m c).trans ((outs_result m c).symm.trans (show V2 m (outs m) c main_v15 = _ from Function.update_self ..).symm)

theorem staged_free (c : Dev nD) : ∀ w s, () ∈ L ((c : Thread nD τ), .dma ((spec0 w).sem s)) ∧ lv ((c : Thread nD τ), .dma ((spec0 w).sem s)) () ≤ 0 := fun w s =>
  ⟨by rw [L_tc]; exact Finset.mem_singleton_self _, by
    have h : ∀ w s, semLv ((spec0 w).sem s).val ≤ 0 := by decide
    exact h w s⟩

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_ob m c).loose)
    (fun _ => 0) (owe 0) (fun c => (owed_first m c).trans (zero_add _).symm) (owed_last m) (fun _ => rfl) (fun c w => by unfold Pipeline.Dat.share; split <;> rfl)
    (V m) (V2 m (outs m)) (fun c b hb => by
      refine Function.update_of_ne (fun e => ?_) _ _
      rw [e, Finset.sdiff_empty] at hb
      exact (Finset.mem_sdiff.mp hb).2 (by decide))
    (T0 m) T1 (X0 m) T1 (opens m) (enters m) (leaves m)
    (fun c => by iintro H; imodintro; iexact H)
    (fun _ => 0)
    ⟨fun c w s => (staged_free c w s).1, fun c w s => (staged_free c w s).2, fun c t g i h => cut m c t g i h⟩
    (fun _ => iprop(emp))
    (arr_first m) (arr_last m)

end Cert.KernelIdeal

end

end
-- ==== Proof.Cells.lean ====
/- The cells of the exchange, the payments dealt to whoever makes them, and the credit each device starts with. -/
module

public import proofs.«01_k».proof.Proof.Segment

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the payments made at launch -/

abbrev barEmb : Dev nD ↪ GSem nD τ sig := ⟨fun c => barCell c, fun _ _ h => congrArg (fun g : GSem nD τ sig => g.1.1) h⟩
abbrev moveEmb : Dev nD × Fin 40 ↪ GSem nD τ sig :=
  ⟨fun p => ((p.1 : Thread nD τ), osem p.2), fun _ _ h => Prod.ext (congrArg (fun g : GSem nD τ sig => g.1.1) h) (osem_inj (congrArg Prod.snd h))⟩
abbrev barTok : Dev nD × Fin 10 ↪ GSem nD τ sig × ℕ × Fin 10 :=
  ⟨fun p => (barCell p.1, 0, p.2), fun _ _ h =>
    Prod.ext (congrArg (fun t : GSem nD τ sig × ℕ × Fin 10 => t.1.1.1) h) (congrArg (fun t : GSem nD τ sig × ℕ × Fin 10 => t.2.2) h)⟩
abbrev moveTok : Dev nD × Fin 40 ↪ GSem nD τ sig × ℕ × Fin 10 :=
  ⟨fun p => (((p.1 : Thread nD τ), osem p.2), 0, 0), fun _ _ h =>
    Prod.ext (congrArg (fun t : GSem nD τ sig × ℕ × Fin 10 => t.1.1.1) h) (osem_inj (congrArg (fun t : GSem nD τ sig × ℕ × Fin 10 => t.1.2) h))⟩

def barCells : Finset (GSem nD τ sig) := Finset.univ.map barEmb
def moveCells : Finset (GSem nD τ sig) := Finset.univ.map moveEmb
def payToks : Finset (GSem nD τ sig × ℕ × Fin 10) := Finset.univ.map barTok ∪ Finset.univ.map moveTok

theorem cells_apart : Disjoint barCells moveCells := by
  rw [Finset.disjoint_left]
  intro g h₁ h₂
  obtain ⟨c, -, rfl⟩ := Finset.mem_map.mp h₁
  obtain ⟨p, -, h⟩ := Finset.mem_map.mp h₂
  cases congrArg Prod.snd h
theorem toks_apart : Disjoint (Finset.univ.map barTok : Finset (GSem nD τ sig × ℕ × Fin 10)) (Finset.univ.map moveTok) := by
  rw [Finset.disjoint_left]
  intro g h₁ h₂
  obtain ⟨c, -, rfl⟩ := Finset.mem_map.mp h₁
  obtain ⟨p, -, h⟩ := Finset.mem_map.mp h₂
  cases congrArg (fun t : GSem nD τ sig × ℕ × Fin 10 => t.1.2) h

/-- What the launch starts the two round books at. -/
def u₀ : UU :=
  (initOf (Pipeline.cells (Pipeline.pin (pcfgs (F := F)) adm) cellOf_inj) (Pipeline.launchToks (Pipeline.pin (pcfgs (F := F)) adm) cellOf_inj),
    launchOf barCells moveCells payToks)

/-- The exchange's whole start, kept by device 0 until it is dealt. -/
def start0 (c : Dev nD) : sProp 𝕄 := if c = 0 then BI.own (ER (launchOf barCells moveCells payToks)) else iprop(emp)
theorem start0_all : bigSep Finset.univ (start0 (F := F)) = BI.own (ER (launchOf barCells moveCells payToks)) := by
  rw [bigSep_univ_at _ (0 : Dev nD), bigSep_congr (s := Finset.univ.erase (0 : Dev nD)) (Ψ := fun _ => (BI.emp : sProp 𝕄))
    fun c hc => by unfold start0; rw [if_neg (Finset.ne_of_mem_erase hc)]; rfl, BI.bigSep_emp_const]
  unfold start0
  rw [if_pos rfl]
  exact BI.equiv_iff.mp sep_emp

/-! ## Dealing the payments: to whoever makes them -/

def swap (j : Fin 10) : Dev nD ≃ Dev nD := ⟨peer j, peer j, peer_peer j, peer_peer j⟩

theorem turned {J : Type} (s : Finset J) (Φ : J → Dev nD → sProp 𝕄) :
    (bigSep Finset.univ fun c : Dev nD => bigSep s fun k => Φ k c) = bigSep s fun k => bigSep Finset.univ fun c : Dev nD => Φ k c := by
  classical
  induction s using Finset.induction_on with
  | empty => exact BI.bigSep_emp_const Finset.univ
  | insert k s hk ih =>
    rw [bigSep_insert hk, ← ih]
    refine (bigSep_congr fun c _ => bigSep_insert hk).trans ?_
    exact bigSep_sep' Finset.univ (Φ k) (fun c => bigSep s fun k => Φ k c)

theorem around {J : Type} (s : Finset J) (d : J → Fin 10) (Φ : J → Dev nD → sProp 𝕄) :
    (bigSep Finset.univ fun c : Dev nD => bigSep s fun k => Φ k c) = bigSep Finset.univ fun c : Dev nD => bigSep s fun k => Φ k (peer (d k) c) := by
  rw [turned, turned s fun k c => Φ k (peer (d k) c)]
  exact bigSep_congr fun k _ => bigSep_univ_equiv (swap (d k)) (Φ k)

theorem by_dirs (Φ : Fin 10 → sProp 𝕄) : bigSep Finset.univ Φ = bigSep (Finset.Ico 0 10) fun j => Φ (dir j) := by
  have hi : Set.InjOn dir ((Finset.Ico 0 10 : Finset ℕ) : Set ℕ) := fun a ha b hb e => by
    have ha := (Finset.mem_Ico.mp (Finset.mem_coe.mp ha)).2
    have hb := (Finset.mem_Ico.mp (Finset.mem_coe.mp hb)).2
    rw [← dir_val a ha, e, dir_val b hb]
  rw [← bigSep_image_of_injOn hi Φ, show (Finset.Ico 0 10).image dir = Finset.univ by decide]

theorem bar_dealt : bigSep (Finset.univ.map barTok) (fun x => (dutyTok ER x.1 x.2.1 x.2.2 : sProp 𝕄))
    = bigSep Finset.univ fun c : Dev nD => bigSep (Finset.Ico 0 10) fun j => dutyTok ER (barCell (peer (dir j) c)) 0 (dir j) := by
  rw [bigSep_map, bigSep_univ_prod]
  exact (around Finset.univ (fun j => j) (fun j c => (dutyTok ER (barCell c) 0 j : sProp 𝕄))).trans (bigSep_congr fun c _ => by_dirs _)

theorem move_dealt : bigSep (Finset.univ.map moveTok) (fun x => (dutyTok ER x.1 x.2.1 x.2.2 : sProp 𝕄))
    = bigSep Finset.univ fun c : Dev nD => bigSep (Finset.Ico 0 20) (duty2 c) := by
  rw [bigSep_map, bigSep_univ_prod]
  have h : ∀ c : Dev nD, (bigSep Finset.univ fun i : Fin 40 => (dutyTok ER ((c : Thread nD τ), osem i) 0 0 : sProp 𝕄))
      = iprop((bigSep (Finset.Ico 0 20) fun k => dutyTok ER (sendCell k c) 0 0) ∗ bigSep (Finset.Ico 0 20) fun k => dutyTok ER (recvCell k c) 0 0) := fun c =>
    by_sems (fun s => (dutyTok ER ((c : Thread nD τ), s) 0 0 : sProp 𝕄))
  refine (bigSep_congr fun c _ => h c).trans ?_
  rw [bigSep_sep', around (Finset.Ico 0 20) kdir (fun k c => dutyTok ER (recvCell k c) 0 0), ← bigSep_sep']
  exact bigSep_congr fun c _ => (ico_sep 0 20 _ _).symm

theorem open_dealt : bigSep moveCells (fun g => (openTok ER g : sProp 𝕄))
    = bigSep Finset.univ fun c : Dev nD => iprop((bigSep (Finset.Ico 0 20) fun k => openTok ER (sendCell k c)) ∗ bigSep (Finset.Ico 0 20) fun k => openTok ER (recvCell k c)) := by
  unfold moveCells
  rw [bigSep_map, bigSep_univ_prod]
  exact bigSep_congr fun c _ => by_sems (fun s => (openTok ER ((c : Thread nD τ), s) : sProp 𝕄))

/-! ## The credit each device starts with -/

theorem sum_one {P : Dev nD → Prop} [DecidablePred P] (d₀ : Dev nD) (n : ℕ) (h : ∀ d, P d ↔ d = d₀) : (∑ d : Dev nD, if P d then n else 0) = n := by
  rw [Finset.sum_eq_single d₀ (fun d _ hd => if_neg fun hp => hd ((h d).mp hp)) (fun hd => absurd (Finset.mem_univ _) hd), if_pos ((h d₀).mpr rfl)]

theorem bar_inj {c d : Dev nD} : barCell c = barCell d ↔ c = d :=
  ⟨fun h => congrArg (fun g : GSem nD τ sig => g.1.1) h, fun h => h ▸ rfl⟩
theorem recv_inj {j k : ℕ} (hj : j < 20) (hk : k < 20) {c d : Dev nD} : recvCell j c = recvCell k d ↔ j = k ∧ c = d := by
  refine ⟨fun h => ⟨?_, congrArg (fun g : GSem nD τ sig => g.1.1) h⟩, fun ⟨h, h'⟩ => h ▸ h' ▸ rfl⟩
  have e : semOf (recvNum j) = semOf (recvNum k) := by
    have := congrArg Prod.snd h
    injection this
  have hd : ∀ a b : Fin 20, semOf (recvNum a.val) = semOf (recvNum b.val) → a = b := by decide +kernel
  exact congrArg Fin.val (hd ⟨j, hj⟩ ⟨k, hk⟩ e)
theorem peer_eq {j : Fin 10} {c d : Dev nD} : c = peer j d ↔ d = peer j c :=
  ⟨fun h => by rw [h, peer_peer], fun h => by rw [h, peer_peer]⟩

theorem owed_sum (g : GSem nD τ sig) : (∑ d : Dev nD, owe 0 d g ()) = ∑ i ∈ Finset.Ico 0 30, ∑ d : Dev nD, if g = payCell i d then payAmt i else 0 := by
  rw [Finset.sum_comm]
  refine Finset.sum_congr rfl fun d _ => ?_
  unfold owe
  rw [Finset.sum_apply, Finsupp.finset_sum_apply]
  refine Finset.sum_congr rfl fun i _ => ?_
  rw [tallyAt_apply]
  simp only [and_true]

theorem owed_bar (c : Dev nD) : (∑ d : Dev nD, owe 0 d (barCell c) ()) = 10 := by
  rw [owed_sum]
  have h : ∀ i ∈ Finset.Ico 0 30, (∑ d : Dev nD, if barCell c = payCell i d then payAmt i else 0) = if i < 10 then 1 else 0 := fun i _ => by
    by_cases hi : i < 10
    · rw [if_pos hi, ← show payAmt i = 1 from if_pos hi]
      exact sum_one (peer (dir i) c) _ fun d => by
        rw [show payCell i d = barCell (peer (dir i) d) from if_pos hi, bar_inj, peer_eq]
    · rw [if_neg hi]
      exact Finset.sum_eq_zero fun d _ => if_neg fun e => by
        rw [show payCell i d = recvCell (i - 10) (peer (kdir (i - 10)) d) from if_neg hi] at e
        cases congrArg Prod.snd e
  rw [Finset.sum_congr rfl h]
  decide

theorem owed_recv (c : Dev nD) (k : ℕ) (hk : k < 20) : (∑ d : Dev nD, owe 0 d (recvCell k c) ()) = amt k := by
  rw [owed_sum, Finset.sum_eq_single (10 + k)]
  · have hn : ¬ 10 + k < 10 := by omega
    have hs : 10 + k - 10 = k := by omega
    rw [show payAmt (10 + k) = amt k by unfold payAmt; rw [if_neg hn, hs]]
    exact sum_one (peer (kdir k) c) _ fun d => by
      rw [show payCell (10 + k) d = recvCell k (peer (kdir k) d) by unfold payCell; rw [if_neg hn, hs], recv_inj hk hk, peer_eq]
      simp only [true_and]
  · intro i hi hne
    have hi := (Finset.mem_Ico.mp hi).2
    refine Finset.sum_eq_zero fun d _ => if_neg fun e => ?_
    by_cases h10 : i < 10
    · rw [show payCell i d = barCell (peer (dir i) d) from if_pos h10] at e
      cases congrArg Prod.snd e
    · rw [show payCell i d = recvCell (i - 10) (peer (kdir (i - 10)) d) from if_neg h10, recv_inj hk (by omega)] at e
      omega
  · intro h
    exact absurd (Finset.mem_Ico.mpr ⟨Nat.zero_le _, by omega⟩) h

theorem credit_of (g : GSem nD τ sig) (n : ℕ) (h : (∑ d : Dev nD, owe 0 d g ()) = n) :
    tallyOn g (launchCredit (Pipeline.owing (owe 0)) 0 g) = (tallyAt g () n : CellTallies nD τ sig Unit) := by
  unfold tallyAt
  refine congrArg _ (Finsupp.ext fun u => ?_)
  cases u
  rw [Pipeline.launchCredit_owing, Finsupp.single_eq_same]
  exact h

theorem credits (c : Dev nD) : (Pipeline.launchCred (owe 0) c : sProp 𝕄)
    ⊢ iprop(cred (tallyAt (barCell c) () 10) ∗ bigSep (Finset.Ico 0 20) fun k => cred (tallyAt (recvCell k c) () (amt k))) := by
  unfold Pipeline.launchCred
  rw [bigSep_univ_at _ (SemLoc.reg barS), credit_of (barCell c) 10 (owed_bar c)]
  refine sep_mono_right ?_
  have hsub : (Finset.Ico 0 20).image (fun k => (.dma (semOf (recvNum k)) : SemLoc sig)) ⊆ Finset.univ.erase (SemLoc.reg barS) := fun s hs => by
    obtain ⟨k, -, rfl⟩ := Finset.mem_image.mp hs
    exact Finset.mem_erase.mpr ⟨fun e => (by cases e), Finset.mem_univ _⟩
  refine (bigSep_subset hsub).trans ?_
  rw [bigSep_image_of_injOn (inj20 (fun k => (.dma (semOf (recvNum k)) : SemLoc sig)) (by decide +kernel))]
  exact bigSep_mono fun k hk => Entails.of_eq (congrArg cred (credit_of (recvCell k c) (amt k) (owed_recv c k (Finset.mem_Ico.mp hk).2)))

attribute [irreducible] barCells moveCells payToks

end Cert.KernelIdeal

end

end
-- ==== Proof.Launch.lean ====
/- What the launch hands out to every device. -/
module

public import proofs.«01_k».proof.Proof.Cells

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The records every device may consult -/

variable (m : (ℓ : Loc nD τ sig) → Buf (Elt F) ℓ) (ρ : Dev nD → PrngReg)

def book0 (K : GSem nD τ sig → ℕ) : sProp 𝕄 :=
  iprop((bigSep (barCells ∪ moveCells) fun g => cellInv ER (Rd (mine m)) (K g) g) ∗ bigSep barCells fun g => reached ER g 0)
instance book0_persistent (K : GSem nD τ sig → ℕ) : BI.Persistent (book0 m K) := by unfold book0; infer_instance

theorem bar_in (c : Dev nD) : barCell c ∈ barCells ∪ moveCells := by
  unfold barCells
  exact Finset.mem_union_left _ (Finset.mem_map_of_mem barEmb (Finset.mem_univ c))
theorem send_in (c : Dev nD) (k : ℕ) (hk : k < 20) : sendCell k c ∈ barCells ∪ moveCells := by
  have h : ∀ k : Fin 20, ∃ i : Fin 40, osem i = .dma (semOf (sendNum k.val)) := by decide +kernel
  obtain ⟨i, hi⟩ := h ⟨k, hk⟩
  unfold moveCells
  exact Finset.mem_union_right _ (Finset.mem_map.mpr ⟨(c, i), Finset.mem_univ _, congrArg (Prod.mk (c : Thread nD τ)) hi⟩)
theorem recv_in (c : Dev nD) (k : ℕ) (hk : k < 20) : recvCell k c ∈ barCells ∪ moveCells := by
  have h : ∀ k : Fin 20, ∃ i : Fin 40, osem i = .dma (semOf (recvNum k.val)) := by decide +kernel
  obtain ⟨i, hi⟩ := h ⟨k, hk⟩
  unfold moveCells
  exact Finset.mem_union_right _ (Finset.mem_map.mpr ⟨(c, i), Finset.mem_univ _, congrArg (Prod.mk (c : Thread nD τ)) hi⟩)

theorem inv_of (K : GSem nD τ sig → ℕ) {g : GSem nD τ sig} (hg : g ∈ barCells ∪ moveCells) :
    (bigSep (barCells ∪ moveCells) fun g => (cellInv ER (Rd (mine m)) (K g) g : sProp 𝕄)) ⊢ cellInv ER (Rd (mine m)) (K g) g :=
  bigSep_elim hg

theorem recs_of (K : GSem nD τ sig → ℕ) : book0 m K ⊢ recs (mine m) K := by
  unfold book0 recs
  refine sep_elim_left.trans (bigSep_intro_persistent fun d _ => ?_)
  have hs : (bigSep (barCells ∪ moveCells) fun g => (cellInv ER (Rd (mine m)) (K g) g : sProp 𝕄))
      ⊢ bigSep (Finset.Ico 0 20) fun k => iprop(cellInv ER (Rd (mine m)) (K (sendCell k d)) (sendCell k d) ∗ cellInv ER (Rd (mine m)) (K (recvCell k d)) (recvCell k d)) :=
    bigSep_intro_persistent fun k hk => by
      iintro #H
      isplitr
      · iapply (inv_of m K (send_in d k (Finset.mem_Ico.mp hk).2)) $$ H
      · iapply (inv_of m K (recv_in d k (Finset.mem_Ico.mp hk).2)) $$ H
  iintro #H
  isplitr
  · iapply (inv_of m K (bar_in d)) $$ H
  · iapply hs $$ H

theorem reach_of (K : GSem nD τ sig → ℕ) : book0 m K ⊢ bigSep Finset.univ fun d : Dev nD => (reached ER (barCell d) 0 : sProp 𝕄) := by
  unfold book0
  refine sep_elim_right.trans (Entails.of_eq ?_)
  unfold barCells
  exact bigSep_map (s := Finset.univ) barEmb (Φ := fun g : GSem nD τ sig => (reached ER g 0 : sProp 𝕄))

/-! ## What each device starts with -/

/-- A device's own share of the exchange, before the records are added. -/
def share (c : Dev nD) : sProp 𝕄 :=
  iprop((bigSep (Finset.Ico 0 10) fun j => dutyTok ER (barCell (peer (dir j) c)) 0 (dir j))
    ∗ atPos ER (barCell c) 0 ∅ 0
    ∗ ((bigSep (Finset.Ico 0 20) fun k => openTok ER (sendCell k c)) ∗ bigSep (Finset.Ico 0 20) fun k => openTok ER (recvCell k c))
    ∗ bigSep (Finset.Ico 0 20) (duty2 c))

/-- What the machine gives a device outright. -/
def given (c : Dev nD) : sProp 𝕄 :=
  iprop(StableHlo.held (c : Thread nD τ) (Pipeline.ucRefs τ sig) (V0 m c)
    ∗ (cred (tallyAt (barCell c) () 10) ∗ bigSep (Finset.Ico 0 20) fun k => cred (tallyAt (recvCell k c) () (amt k)))
    ∗ (∃ W, owes (c : Thread nD τ) (owe 0 c) W) ∗ ∃ r, prngReg c r)

/-- What rides past the operations before the kernel. -/
def E0 (c : Dev nD) : sProp 𝕄 := iprop(T0 m c ∗ (∃ W, owes (c : Thread nD τ) (owe 0 c) W) ∗ ∃ r, prngReg c r)

theorem start_of (K : GSem nD τ sig → ℕ) (c : Dev nD) :
    iprop(book0 m K ∗ (share c ∗ given m c)) ⊢ iprop(StableHlo.held (c : Thread nD τ) (Pipeline.ucRefs τ sig) (V0 m c) ∗ E0 m c) := by
  unfold share given E0 T0
  iintro ⟨#HB, ⟨Hd, Hat, Ho, Hp⟩, Hh, ⟨Hc, Hr⟩, HO, Hg⟩
  isplitl [Hh]; · iexact Hh
  isplitr [HO Hg]
  · iexists K
    isplitr; · iapply (recs_of m K) $$ HB
    isplitr; · iapply (reach_of m K) $$ HB
    isplitl [Hd]; · iexact Hd
    isplitl [Hc Hat]
    · isplitl [Hc]; · iexact Hc
      iexact Hat
    isplitl [Ho]; · iexact Ho
    isplitl [Hp]; · iexact Hp
    iexact Hr
  isplitl [HO]; · iexact HO
  iexact Hg

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem machine (c : Dev nD) : iprop(unscopedBufs c (fun b => m ((c : Thread nD τ).loc b)) ∗ unscopedSems0 c
        ∗ owes (c : Thread nD τ) (owe 0 c) ∅ ∗ Pipeline.launchCred (owe 0) c ∗ prngReg c (ρ c) ∗ start0 c)
      ⊢ (iprop(given m c ∗ (semVal (barCell c) 0 ∗ start0 c)) : sProp 𝕄) := by
  rw [show unscopedBufs c (fun b => m ((c : Thread nD τ).loc b)) = StableHlo.held (c : Thread nD τ) (Pipeline.ucRefs τ sig) (V0 m c) from
    Pipeline.unscopedBufs_held c (V0 m c), sems_eq]
  unfold given
  iintro ⟨Hh, Hus, HO, Hcr, Hp, HG⟩
  isplitr [Hus HG]
  · isplitl [Hh]; · iexact Hh
    isplitl [Hcr]; · iapply (credits (F := F) c) $$ Hcr
    isplitl [HO]; · iexists ∅; iexact HO
    iexists (ρ c); iexact Hp
  isplitl [Hus]; · iexact Hus
  iexact HG

theorem toks_dealt : bigSep payToks (fun x => (dutyTok ER x.1 x.2.1 x.2.2 : sProp 𝕄))
    = iprop((bigSep Finset.univ fun c : Dev nD => bigSep (Finset.Ico 0 10) fun j => dutyTok ER (barCell (peer (dir j) c)) 0 (dir j))
      ∗ bigSep Finset.univ fun c : Dev nD => bigSep (Finset.Ico 0 20) (duty2 c)) := by
  unfold payToks
  rw [bigSep_union toks_apart, bar_dealt, move_dealt]
  rfl

/-- What the launch gives the whole machine, before anything is exchanged. -/
def opening (c : Dev nD) : sProp 𝕄 :=
  iprop(unscopedBufs c (fun b => m ((c : Thread nD τ).loc b)) ∗ unscopedSems0 c
    ∗ owes (c : Thread nD τ) (owe 0 c) ∅ ∗ Pipeline.launchCred (owe 0) c ∗ prngReg c (ρ c) ∗ start0 c)

theorem bars_map (Φ : GSem nD τ sig → sProp 𝕄) : bigSep barCells Φ = bigSep Finset.univ fun c : Dev nD => Φ (barCell c) := by
  unfold barCells
  exact bigSep_map (s := Finset.univ) barEmb (Φ := Φ)

theorem unpacked : bigSep Finset.univ (opening m ρ)
      ⊢ (iprop(bigSep Finset.univ (given m) ∗ (bigSep barCells fun g => semVal g 0) ∗ BI.own (ER (launchOf barCells moveCells payToks))) : sProp 𝕄) := by
  refine (bigSep_mono fun c _ => machine m ρ c).trans ?_
  rw [bigSep_sep', bigSep_sep', start0_all, bars_map]
  exact BI.Entails.refl _

theorem shared : iprop(bigSep barCells (fun g => (atPos ER g 0 ∅ 0 : sProp 𝕄)) ∗ bigSep moveCells (fun g => (openTok ER g : sProp 𝕄))
        ∗ bigSep payToks (fun x => (dutyTok ER x.1 x.2.1 x.2.2 : sProp 𝕄))) ⊢ (bigSep Finset.univ (share (F := F)) : sProp 𝕄) := by
  rw [bars_map, open_dealt, toks_dealt]
  unfold share
  rw [bigSep_sep' Finset.univ (fun c : Dev nD => bigSep (Finset.Ico 0 10) fun j => (dutyTok ER (barCell (peer (dir j) c)) 0 (dir j) : sProp 𝕄)),
    bigSep_sep' Finset.univ (fun c : Dev nD => (atPos ER (barCell c) 0 ∅ 0 : sProp 𝕄)),
    bigSep_sep' Finset.univ (fun c : Dev nD => (iprop((bigSep (Finset.Ico 0 20) fun k => openTok ER (sendCell k c)) ∗ bigSep (Finset.Ico 0 20) fun k => openTok ER (recvCell k c)) : sProp 𝕄))]
  iintro ⟨H1, H2, H3, H4⟩
  isplitl [H3]; · iexact H3
  isplitl [H1]; · iexact H1
  isplitl [H2]; · iexact H2
  iexact H4

theorem funded : iprop((bigSep barCells fun g => semVal g 0) ∗ BI.own (ER (launchOf barCells moveCells payToks)))
    ⊢ (|={Set.univ}=> iprop(∃ K : GSem nD τ sig → ℕ, book0 m K ∗ bigSep Finset.univ (share (F := F))) : sProp 𝕄) := by
  iintro ⟨Hv, Hu⟩
  imod (Rounds.fund_launch ER (Rd (mine m)) cells_apart (fun g _ h => h) payToks) $$ [Hv Hu] with ⟨%K, -, #Hinv, #Hr, Hat, Hopen, Htok⟩
  · isplitl [Hv]; · iexact Hv
    iexact Hu
  imodintro
  iexists K
  isplitr
  · unfold book0
    isplitr; · iexact Hinv
    iexact Hr
  iapply (shared (F := F))
  isplitl [Hat]; · iexact Hat
  isplitl [Hopen]; · iexact Hopen
  iexact Htok

theorem init : iprop(bigSep Finset.univ (opening m ρ) ∗ levAts L lv)
      ⊢ (|={Set.univ}=> bigSep Finset.univ fun c : Dev nD => iprop(StableHlo.held (c : Thread nD τ) (Pipeline.ucRefs τ sig) (V0 m c) ∗ E0 m c) : sProp 𝕄) := by
  iintro ⟨H, -⟩
  ihave H' := (unpacked m ρ) $$ H
  icases H' with ⟨HB, Hvu⟩
  imod (funded m) $$ Hvu with ⟨%K, #Hb, Hs⟩
  imodintro
  iapply (bigSep_with_persistent (R := book0 m K) (Φ := fun c => iprop(share c ∗ given m c)) fun c _ => start_of m K c)
  isplitr; · iexact Hb
  rw [bigSep_sep']
  isplitl [Hs]; · iexact Hs
  iexact HB

end Cert.KernelIdeal

end

end
-- ==== Proof.Run.lean ====
/- The run of the whole machine, over any float values. -/
module

public import proofs.«01_k».proof.Proof.Launch

@[expose] public section

noncomputable section

namespace Cert.KernelIdeal

open Idealize.ShloMosaic Idealize.ShloMosaic.TcCoe Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem arr_sub : Pipeline.arrRefs spec0 ⊆ Pipeline.ucRefs τ sig := by decide

theorem parted (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) others V) :=
  StableHlo.held_sub_split (c : Thread nD τ) arr_sub V

/-- What rides past each segment of the program. -/
def ride : Fin 2 → Dev nD → sProp 𝕄
  | 0 => E0 m
  | 1 => fun c => iprop(semVal (barCell c) 0 ∗ ∃ W, owes (c : Thread nD τ) (0 : CellTallies nD τ sig Unit) W)

set_option backward.isDefEq.respectTransparency.types false in
theorem goes_in (c : Dev nD) : iprop(StableHlo.held (c : Thread nD τ) (Pipeline.ucRefs τ sig) (V1 m c) ∗ ride m 0 c) ⊢ (reg0 m).pre c := by
  show _ ⊢ iprop(StableHlo.held (c : Thread nD τ) (Pipeline.arrRefs spec0) (V1 m c) ∗ (∃ r, prngReg c r)
    ∗ (StableHlo.held (c : Thread nD τ) others (V1 m c) ∗ emp) ∗ T0 m c ∗ ∃ Wd, owes (c : Thread nD τ) (0 + owe 0 c) Wd)
  rw [parted, zero_add]
  show iprop(_ ∗ E0 m c) ⊢ _
  unfold E0
  iintro ⟨⟨Ha, Ho⟩, HT, HO, Hp⟩
  isplitl [Ha]; · iexact Ha
  isplitl [Hp]; · iexact Hp
  isplitl [Ho]
  · isplitl [Ho]; · iexact Ho
    iempintro
  isplitl [HT]; · iexact HT
  iexact HO

set_option backward.isDefEq.respectTransparency.types false in
theorem comes_out (c : Dev nD) : (reg0 m).post c ⊢ iprop(StableHlo.held (c : Thread nD τ) (Pipeline.ucRefs τ sig) (V2 m (outs m) c) ∗ ride m 1 c) := by
  show iprop(StableHlo.held (c : Thread nD τ) (Pipeline.arrRefs spec0) (V2 m (outs m) c) ∗ (∃ r, prngReg c r)
    ∗ (StableHlo.held (c : Thread nD τ) others (V2 m (outs m) c) ∗ emp) ∗ T1 c ∗ ∃ Wd, owes (c : Thread nD τ) (0 : CellTallies nD τ sig Unit) Wd) ⊢ _
  rw [parted]
  show _ ⊢ iprop(_ ∗ (semVal (barCell c) 0 ∗ ∃ W, owes (c : Thread nD τ) (0 : CellTallies nD τ sig Unit) W))
  unfold T1
  iintro ⟨Ha, -, ⟨Ho, -⟩, HT, HO⟩
  isplitl [Ha Ho]
  · isplitl [Ha]; · iexact Ha
    iexact Ho
  isplitl [HT]; · iexact HT
  iexact HO

theorem bar_only : ∀ sm : SemLoc sig, sm.isScoped .tc = false → sm = .reg barS := by decide

theorem booked : (ownU (u₀ (F := F)) : sProp 𝕄)
    ⊢ (|={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (start0 (F := F))) : sProp 𝕄) := by
  rw [start0_all]
  unfold u₀
  iintro Hu
  ihave H := (ownU_pair _ _) $$ Hu
  icases H with ⟨HP, HX⟩
  imodintro
  isplitl [HP]; · iexact HP
  iexact HX

/-- What is read off at the end: the arguments as they were, the result, and the barrier counter at zero. -/
def Kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v15) = result (mine m))
  ∧ s.sem (barCell c) = 0

set_option backward.isDefEq.respectTransparency.types false in
theorem read_off (c : Dev nD) (s' : Phys nD τ sig (Elt F)) :
    iprop((StableHlo.held (c : Thread nD τ) (Pipeline.ucRefs τ sig) (V2 m (outs m) c) ∗ semVal (barCell c) 0) ∗ SI s')
      ⊢ (|={Set.univ}=> iprop(⌜Kept m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have at_ (b : Ref sig .tc) (hb : ¬ (Proc.tc.devRef b : DevRef τ sig).isScoped = true) := h (Proc.devRef .tc b) (Finset.mem_filter.mpr ⟨StableHlo.devRef_mem_tcRefs b, hb⟩)
    exact ⟨⟨(at_ main_arg0 (by decide)).trans (V2_main_arg0 m (outs m) c),
      (at_ main_arg1 (by decide)).trans (V2_main_arg1 m (outs m) c),
      (at_ main_arg2 (by decide)).trans (V2_main_arg2 m (outs m) c),
      (at_ main_arg3 (by decide)).trans (V2_main_arg3 m (outs m) c),
      (at_ main_arg4 (by decide)).trans (V2_main_arg4 m (outs m) c),
      (at_ main_v15 (by decide)).trans ((show V2 m (outs m) c main_v15 = outs m 2 main_v15 c from Function.update_self ..).trans (outs_result m c))⟩,
      by simpa using hb⟩
  · iexact HSI

set_option backward.isDefEq.respectTransparency.types false in
/-- Every run of the kernel on the 32 devices ends; the five arguments are as they were, every device holds the result, and every semaphore is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v15) = result (mine m)) ∧ r.2.sem = fun _ => 0) :=
  Pipeline.θ_run_regions_kit_dev_sems (pcfgs (F := F)) adm (pdats m) () cellOf_inj EP defs₀ 𝒱₀ L lv m ρ main
    (segs m 𝒱₀ L lv (ride m) () (pdats m) (reg0 m))
    (fun c Q => by
      rewrite [main_chain c, Pipeline.Seg.run_eq_chain,
        show (segs m 𝒱₀ L lv (ride m) () (pdats m) (reg0 m) c).map Pipeline.Seg.prog
          = [StableHlo.seq (hostOps0 c), Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (owe 0) L_of_ne start0 u₀ booked
    (T₀ := fun c => iprop(StableHlo.held (c : Thread nD τ) (Pipeline.ucRefs τ sig) (V0 m c) ∗ E0 m c))
    (Tₙ := fun c => iprop(StableHlo.held (c : Thread nD τ) (Pipeline.ucRefs τ sig) (V2 m (outs m) c) ∗ semVal (barCell c) 0))
    (hch := fun c => ⟨.rfl, goes_in m c, (comes_out m c).trans (by
      show iprop(_ ∗ (semVal (barCell c) 0 ∗ ∃ W, owes (c : Thread nD τ) (0 : CellTallies nD τ sig Unit) W)) ⊢ _
      iintro ⟨Hh, Hb, HO⟩
      isplitr [HO]
      · isplitl [Hh]; · iexact Hh
        iexact Hb
      iexact HO)⟩)
    (hinit := init m ρ) (QY := Kept m) (hfin := read_off m)
    (hQ := fun s h hs => ⟨fun c => (h c).1, sem_eq_zero hs fun c sm hsm => by
      obtain rfl := bar_only sm hsm
      exact (h c).2⟩)

end Cert.KernelIdeal

end

end
-- ==== Proof.Frames.lean ====
/- The frames: every run ends, the arguments are as they were, and every semaphore is at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

attribute [local instance] Cert.Kernel.Gen.facts Cert.KernelIdeal.Gen.facts Cert.ReferenceIdeal.Gen.facts

/-- The frame over any floats. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.run_main (F := F) m g)

theorem frame_ideal : Cert.quiescent_KernelIdeal := fun m g _ => frame_any m g

/-- The kernel's body is the same text under both names. -/
theorem same_bodies : Cert.Kernel.defs₀ (F := Bits) = Cert.KernelIdeal.defs₀ (F := Bits) := by
  unfold Cert.Kernel.defs₀ Cert.KernelIdeal.defs₀
  congr 1
  funext l x
  match l, x with
  | ⟨0, _⟩, (t, s) => rfl
  | ⟨_ + 1, h⟩, _ => exact absurd h (Nat.not_lt.2 (Nat.le_add_left _ _))
theorem same_defs : Cert.Kernel.defs (F := Bits) = Cert.KernelIdeal.defs (F := Bits) := by
  unfold Cert.Kernel.defs Cert.KernelIdeal.defs
  rw [same_bodies]
  rfl

/-- The kernel as printed: the same run, at the machine's own floats. -/
theorem frame_kernel : Cert.quiescent_Kernel := fun m g _ => by
  rw [same_defs]
  exact frame_any (F := Bits) m g

/-- The reference runs on the host alone and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end

end
-- ==== Proof.Maths.lean ====
/- The attention of one query over the extended reals, written in the two ways that occur: the weights summed and divided
   at the end, and a softmax with its maximum subtracted and the masked scores at minus infinity. Where the scores are
   finite and one key at least is not masked the two are equal, whatever the values are. -/
module

public import Idealize.ShloMosaic.PureOps.Ideal

@[expose] public section

noncomputable section

namespace Cert.Maths

open Idealize.ShloMosaic

variable {n : ℕ}

/-- One weight before it is divided: the exponential of the score, and nothing where the key is masked. -/
def weight (s : Fin n → EReal) (keep : Fin n → Prop) [DecidablePred keep] (j : Fin n) : EReal := Ideal.exp (s j) * if keep j then 1 else 0

/-- The weighted sum of the values over the sum of the weights. -/
def attend (s : Fin n → EReal) (keep : Fin n → Prop) [DecidablePred keep] (v : Fin n → EReal) : EReal :=
  Ideal.div (∑ j, weight s keep j * v j) (∑ j, weight s keep j)

/-- A masked score: minus infinity where the key is masked. -/
def masked (s : Fin n → EReal) (keep : Fin n → Prop) [DecidablePred keep] (j : Fin n) : EReal := if keep j then s j else ⊥

/-- The greatest masked score. -/
def greatest (s : Fin n → EReal) (keep : Fin n → Prop) [DecidablePred keep] : EReal := Finset.univ.fold max ⊥ (masked s keep)

/-- A weight of the softmax before it is divided. -/
def shifted (s : Fin n → EReal) (keep : Fin n → Prop) [DecidablePred keep] (j : Fin n) : EReal := Ideal.exp (masked s keep j - greatest s keep)

/-- The softmax's weights, each divided by their sum, times the values. -/
def softmax (s : Fin n → EReal) (keep : Fin n → Prop) [DecidablePred keep] (v : Fin n → EReal) : EReal :=
  ∑ j, v j * Ideal.div (shifted s keep j) (∑ k, shifted s keep k)

theorem coe_sum (f : Fin n → ℝ) : ((∑ j, f j : ℝ) : EReal) = ∑ j, (f j : EReal) := map_sum (⟨⟨Real.toEReal, rfl⟩, EReal.coe_add⟩ : ℝ →+ EReal) f _

theorem exp_coe (r : ℝ) : Ideal.exp (r : EReal) = ((Real.exp r : ℝ) : EReal) := rfl
theorem exp_bot : Ideal.exp ⊥ = 0 := rfl

/-- A quotient by a real that is not zero. -/
theorem div_real {y : ℝ} (h : y ≠ 0) (x : EReal) : Ideal.div x (y : EReal) = x * ((y⁻¹ : ℝ) : EReal) := by
  rw [Ideal.div_coe h, one_div]

/-- A sum times a real factor that is not negative, term by term. -/
theorem sum_mul_real (f : Fin n → EReal) {y : ℝ} (h : 0 ≤ y) : (∑ j, f j) * (y : EReal) = ∑ j, f j * (y : EReal) := by
  classical
  induction (Finset.univ : Finset (Fin n)) using Finset.induction_on with
  | empty => simp
  | insert a s ha ih =>
    rw [Finset.sum_insert ha, Finset.sum_insert ha, ← ih, EReal.right_distrib_of_nonneg_of_ne_top (by exact_mod_cast h) (EReal.coe_ne_top y)]

theorem greatest_real (r : Fin n → ℝ) (keep : Fin n → Prop) [DecidablePred keep] {i : Fin n} (hi : keep i) :
    ∃ m : ℝ, greatest (fun j => (r j : EReal)) keep = (m : EReal) := by
  have hb : greatest (fun j => (r j : EReal)) keep ≠ ⊥ := by
    intro h
    have : masked (fun j => (r j : EReal)) keep i ≤ greatest (fun j => (r j : EReal)) keep := by
      unfold greatest
      rw [Finset.le_fold_max]
      exact Or.inr ⟨i, Finset.mem_univ _, le_refl _⟩
    rw [h, le_bot_iff] at this
    unfold masked at this
    rw [if_pos hi] at this
    exact EReal.coe_ne_bot _ this
  have ht : greatest (fun j => (r j : EReal)) keep ≠ ⊤ := by
    refine ne_of_lt ?_
    unfold greatest
    rw [Finset.fold_max_lt]
    refine ⟨bot_lt_top, fun j _ => ?_⟩
    unfold masked
    split
    · exact EReal.coe_lt_top _
    · exact bot_lt_top
  exact ⟨_, (EReal.coe_toReal ht hb).symm⟩

/-- Both ways of writing the attention are equal: the scores are real numbers and some key is not masked. -/
theorem softmax_eq (s : Fin n → EReal) (keep : Fin n → Prop) [DecidablePred keep] (v : Fin n → EReal)
    (hs : ∀ j, ∃ r : ℝ, s j = (r : EReal)) {i : Fin n} (hi : keep i) : softmax s keep v = attend s keep v := by
  obtain ⟨r, rfl⟩ : ∃ r : Fin n → ℝ, s = fun j => (r j : EReal) := by
    choose r hr using hs
    exact ⟨r, funext hr⟩
  obtain ⟨m, hm⟩ := greatest_real r keep hi
  let a : Fin n → ℝ := fun j => if keep j then Real.exp (r j) else 0
  have hw : ∀ j, weight (fun j => (r j : EReal)) keep j = (a j : EReal) := fun j => by
    unfold weight
    rw [exp_coe]
    by_cases h : keep j <;> simp [a, h]
  have hq : ∀ j, shifted (fun j => (r j : EReal)) keep j = ((a j * Real.exp (-m) : ℝ) : EReal) := fun j => by
    unfold shifted masked
    rw [hm]
    by_cases h : keep j
    · simp only [a, if_pos h]
      rw [← EReal.coe_sub, exp_coe, sub_eq_add_neg, Real.exp_add]
    · simp only [a, if_neg h]
      rw [EReal.bot_sub, exp_bot, zero_mul, EReal.coe_zero]
  have hpos : 0 < ∑ j, a j := by
    refine Finset.sum_pos' (fun j _ => ?_) ⟨i, Finset.mem_univ _, ?_⟩
    · simp only [a]; split
      · exact (Real.exp_pos _).le
      · exact le_refl _
    · simp only [a, if_pos hi]; exact Real.exp_pos _
  have hpos' : 0 < ∑ j, a j * Real.exp (-m) := by
    rw [← Finset.sum_mul]; exact mul_pos hpos (Real.exp_pos _)
  unfold softmax attend
  simp only [hw, hq]
  rw [← coe_sum, ← coe_sum, div_real hpos.ne', sum_mul_real _ (inv_nonneg.mpr hpos.le)]
  refine Finset.sum_congr rfl fun j _ => ?_
  have e0 := (Real.exp_pos (-m)).ne'
  have e : a j * Real.exp (-m) * (∑ k, a k * Real.exp (-m))⁻¹ = a j * (∑ k, a k)⁻¹ := by
    rw [← Finset.sum_mul, mul_inv]
    field_simp
  rw [div_real hpos'.ne', ← EReal.coe_mul, e, EReal.coe_mul, ← mul_assoc, mul_comm (v j)]

/-! ## Sums in tiles -/

/-- A sum over `N = a * b` terms, tile by tile. -/
theorem sum_tiles {M : Type} [AddCommMonoid M] {N : ℕ} (a b : ℕ) (hN : N = a * b) (f : Fin N → M) :
    ∑ x, f x = ∑ h : Fin a, ∑ e : Fin b, f ⟨b * h.val + e.val, hN ▸ by
      have := h.isLt; have := e.isLt
      calc b * h.val + e.val < b * h.val + b := by omega
        _ = b * (h.val + 1) := by rw [Nat.mul_succ]
        _ ≤ b * a := Nat.mul_le_mul_left _ (by omega)
        _ = a * b := Nat.mul_comm _ _⟩ := by
  subst hN
  rw [← finProdFinEquiv.sum_comp, Fintype.sum_prod_type]
  refine Finset.sum_congr rfl fun h _ => Finset.sum_congr rfl fun e _ => congrArg f (Fin.ext ?_)
  show e.val + b * h.val = b * h.val + e.val
  omega

/-! ## Scores -/

/-- One eighth, as the programs write it. -/
abbrev eighth : EReal := Ideal.ofBits .f32 0x3E000000#32

/-- A score: the product of a query and a key, scaled by one eighth. -/
def score {n : ℕ} (q k : Fin n → EReal) : EReal := (∑ e, q e * k e) * eighth

/-- Keys at most 128 positions away are kept. -/
def near (i j : Fin 256) : Prop := i.val ≤ j.val + 128 ∧ j.val ≤ i.val + 128

instance (i : Fin 256) : DecidablePred (near i) := fun j => inferInstanceAs (Decidable (i.val ≤ j.val + 128 ∧ j.val ≤ i.val + 128))

theorem near_self (i : Fin 256) : near i i := ⟨Nat.le_add_right _ _, Nat.le_add_right _ _⟩

/-- The comparison of words that both programs write for the mask. -/
theorem near_word (i j : Fin 256) :
    IntOp.cmpi .sle (IntOp.absi (IntOp.subi (BitVec.ofNat 32 i.val) (BitVec.ofNat 32 j.val))) 128#32 = if near i j then 1#1 else 0#1 := by
  have hi := i.isLt
  have hj := j.isLt
  have e : IntOp.subi (BitVec.ofNat 32 i.val) (BitVec.ofNat 32 j.val) = BitVec.ofNat 32 (256 + i.val - j.val) - 256#32 := by
    show BitVec.ofNat 32 i.val - BitVec.ofNat 32 j.val = _
    apply BitVec.eq_of_toNat_eq
    simp only [BitVec.toNat_sub, BitVec.toNat_ofNat]
    omega
  have key : ∀ t : Fin 512, IntOp.cmpi .sle (IntOp.absi (BitVec.ofNat 32 t.val - 256#32)) 128#32
      = if t.val ≤ 384 ∧ 128 ≤ t.val then 1#1 else 0#1 := by decide +kernel
  rw [e, key ⟨256 + i.val - j.val, by omega⟩]
  refine if_congr ?_ rfl rfl
  unfold near
  dsimp only
  omega

theorem real_sum {n : ℕ} (f : Fin n → EReal) (h : ∀ j, ∃ r : ℝ, f j = (r : EReal)) : ∃ r : ℝ, ∑ j, f j = (r : EReal) := by
  choose r hr using h
  exact ⟨∑ j, r j, by rw [coe_sum]; exact Finset.sum_congr rfl fun j _ => hr j⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem eighth_real : ∃ r : ℝ, eighth = (r : EReal) := by
  have h : ∀ b : BitVec 32, (b.extractLsb' 23 8).toNat ≠ 2 ^ 8 - 1 → ∃ r : ℝ, Ideal.ieee 8 23 b = (r : EReal) := fun b hb => by
    unfold Ideal.ieee
    dsimp only
    rw [if_neg hb]
    split <;> exact ⟨_, rfl⟩
  exact h 0x3E000000#32 (by decide)

/-- The word of minus infinity. -/
theorem minus_inf : Ideal.ofBits .f32 0xFF800000#32 = ⊥ := by
  simp [Ideal.ofBits, Ideal.ieee]

/-- A score of real vectors is real. -/
theorem score_real {n : ℕ} (q k : Fin n → EReal) (hq : ∀ e, ∃ r : ℝ, q e = (r : EReal)) (hk : ∀ e, ∃ r : ℝ, k e = (r : EReal)) :
    ∃ r : ℝ, score q k = (r : EReal) :=
  real_mul (real_sum _ fun e => real_mul (hq e) (hk e)) eighth_real

end Cert.Maths

end

end
-- ==== Proof.KernelValue.lean ====
/- What a device computes before the exchange, read at an element over the extended reals: the sum over its four heads
   and their 64 columns of a query's attention times the output weights. -/
module

public import proofs.«01_k».proof.Proof.Load
public import proofs.«01_k».proof.Proof.Maths
public import Idealize.ShloMosaic.Lib.Pointwise

@[expose] public section

set_option maxRecDepth 16384

noncomputable section

namespace Cert.KernelIdeal

open Idealize.ShloMosaic Gen Cert.Maths

attribute [local instance] Cert.KernelIdeal.Gen.facts

/-- The kernel's mask: one where the key is near, else zero. -/
theorem mask_at (i j : Fin 256) : k0_pay1 (F := Ideal) (ix2 i j) = if near i j then 1 else 0 := by
  pointwise [k0_pay1]
  rw [near_word]
  by_cases h : near i j
  · rw [if_pos h, if_pos h]
    show (((BitVec.setWidth 32 1#1).toInt : ℝ) : EReal) = 1
    simp
  · rw [if_neg h, if_neg h]
    show (((BitVec.setWidth 32 0#1).toInt : ℝ) : EReal) = 0
    simp

/-- The attention of query `i` in one head, at column `e`, of the queries at row offset `r` and column offset `o` of `q`. -/
def headAt (q : FVec Ideal S512x256 .f32) (b : Fin 2) (h : Fin 4) (k v : Vec Ideal S2x256x4x64 .f32) (i : Fin 256) (e : Fin 64) : EReal :=
  attend (fun j => score (fun x => q (ix2 ⟨256 * b.val + i.val, by omega⟩ ⟨64 * h.val + x.val, by omega⟩)) fun x => k (ix4 b j h x)) (near i)
    fun j => v (ix4 b j h e)

/-- One head of keys or values at an element. -/
theorem head_at (b : Fin 2) (h : Fin 4) (f : Vec Ideal S2x256x4x64 .f32) (j : Fin 256) (e : Fin 64) : head b h f (ix4 0 j 0 e) = f (ix4 b j h e) := rfl

section
variable (x : Vec Ideal S2x256x512 .f32) (wq : Vec Ideal S512x256 .f32) (q : FVec Ideal S512x256 .f32) (k v : Vec Ideal S2x256x4x64 .f32) (i : Fin 256) (e : Fin 64)

theorem head00 : k0_pay6 (k0_pay3 (head 0 0 v)) (k0_pay4 x wq (head 0 0 k)) (k0_pay5 x wq (head 0 0 k)) (ix2 i e) = headAt (k0_pay2 x wq) 0 0 k v i e := by
  unfold k0_pay5 k0_pay4
  generalize k0_pay2 x wq = q
  pointwise [k0_pay6, k0_pay3]
  simp only [mask_at, head_at]
  simp only [headAt, attend, weight, score, Fin.val_zero, Nat.mul_zero, Nat.zero_add]

theorem head01 : k0_pay7 k0_pay1 q (head 0 1 k) (head 0 1 v) (ix2 i e) = headAt q 0 1 k v i e := by
  pointwise [k0_pay7]
  simp only [mask_at, head_at]
  simp only [headAt, attend, weight, score, Fin.val_zero, Nat.mul_zero, Nat.zero_add]
  rfl

theorem head02 : k0_pay8 k0_pay1 q (head 0 2 k) (head 0 2 v) (ix2 i e) = headAt q 0 2 k v i e := by
  pointwise [k0_pay8]
  simp only [mask_at, head_at]
  simp only [headAt, attend, weight, score, Fin.val_zero, Nat.mul_zero, Nat.zero_add]
  rfl

theorem head10 : k0_pay11 k0_pay1 q (head 1 0 k) (head 1 0 v) (ix2 i e) = headAt q 1 0 k v i e := by
  pointwise [k0_pay11]
  simp only [mask_at, head_at]
  simp only [headAt, attend, weight, score, Fin.val_zero, Nat.mul_zero, Nat.zero_add]
  rfl

theorem head11 : k0_pay13 k0_pay1 (k0_pay12 q) (head 1 1 k) (head 1 1 v) (ix2 i e) = headAt q 1 1 k v i e := by
  pointwise [k0_pay13, k0_pay12]
  simp only [mask_at, head_at]
  simp only [headAt, attend, weight, score, Fin.val_zero, Nat.mul_zero, Nat.zero_add]
  rfl

theorem head12 : k0_pay14 k0_pay1 q (head 1 2 k) (head 1 2 v) (ix2 i e) = headAt q 1 2 k v i e := by
  pointwise [k0_pay14]
  simp only [mask_at, head_at]
  simp only [headAt, attend, weight, score, Fin.val_zero, Nat.mul_zero, Nat.zero_add]
  rfl

/-- The four heads of the first batch side by side. -/
theorem batch0 (a b c : FVec Ideal S256x64 .f32) (ha : ∀ i e, a (ix2 i e) = headAt q 0 0 k v i e) (hb : ∀ i e, b (ix2 i e) = headAt q 0 1 k v i e)
    (hc : ∀ i e, c (ix2 i e) = headAt q 0 2 k v i e) (h : Fin 4) :
    k0_pay10 k0_pay1 a b c (k0_pay9 q) (head 0 3 k) (head 0 3 v) (ix2 i ⟨64 * h.val + e.val, by omega⟩) = headAt q 0 h k v i e := by
  pointwise [k0_pay10, k0_pay9]
  have he := e.isLt
  obtain ⟨h, hh⟩ := h
  dsimp only
  interval_cases h
  · rw [dif_pos (by omega), ha]
    congr 1
    exact Fin.ext (by simp)
  · rw [dif_neg (by omega), dif_pos (by omega), hb]
    congr 1
    exact Fin.ext (by simp)
  · rw [dif_neg (by omega), dif_neg (by omega), dif_pos (by omega), hc]
    congr 1
    exact Fin.ext (by simp; omega)
  · rw [dif_neg (by omega), dif_neg (by omega), dif_neg (by omega)]
    have e' : (⟨64 * 3 + e.val - 64 - 64 - 64, by omega⟩ : Fin 64) = e := Fin.ext (by simp; omega)
    rw [e']
    simp only [mask_at, head_at]
    simp only [headAt, attend, weight, score, Fin.val_zero, Nat.mul_zero, Nat.zero_add]
    rfl

theorem last_at (f : FVec Ideal S256x256 .f32) (a b c : FVec Ideal S256x64 .f32) (wo : Vec Ideal S256x512 .f32) (hf : ∀ (h : Fin 4) i e, f (ix2 i ⟨64 * h.val + e.val, by omega⟩) = headAt q 0 h k v i e)
    (ha : ∀ i e, a (ix2 i e) = headAt q 1 0 k v i e) (hb : ∀ i e, b (ix2 i e) = headAt q 1 1 k v i e)
    (hc : ∀ i e, c (ix2 i e) = headAt q 1 2 k v i e) (s : Fin 2) (n : Fin 512) :
    k0_pay17 k0_pay1 f a b c (k0_pay15 q) (k0_pay16 (head 1 3 k)) (head 1 3 v) wo (ix2 ⟨256 * s.val + i.val, by omega⟩ n)
      = ∑ h : Fin 4, ∑ e : Fin 64, headAt q s h k v i e * wo (ix2 ⟨64 * h.val + e.val, by omega⟩ n) := by
  pointwise [k0_pay17, k0_pay15, k0_pay16]
  rw [sum_tiles 4 64 rfl]
  refine Finset.sum_congr rfl fun h _ => Finset.sum_congr rfl fun e _ => congrArg (· * _) ?_
  have hi := i.isLt
  have he := e.isLt
  obtain ⟨s, hs⟩ := s
  dsimp only
  interval_cases s
  · rw [dif_pos (by omega), hf]
    congr 1
    exact Fin.ext (by simp)
  rw [dif_neg (by omega)]
  have ei : (⟨256 * 1 + i.val - 256, by omega⟩ : Fin 256) = i := Fin.ext (by simp)
  have eq : (256 + (256 * 1 + i.val - 256)) = 256 + i.val := by omega
  simp only [ei]
  obtain ⟨h, hh⟩ := h
  dsimp only
  interval_cases h
  · rw [dif_pos (by omega), ha]
    congr 1
    exact Fin.ext (by simp)
  · rw [dif_neg (by omega), dif_pos (by omega), hb]
    congr 1
    exact Fin.ext (by simp)
  · rw [dif_neg (by omega), dif_neg (by omega), dif_pos (by omega), hc]
    congr 1
    exact Fin.ext (by simp; omega)
  · rw [dif_neg (by omega), dif_neg (by omega), dif_neg (by omega)]
    have e' : (⟨64 * 3 + e.val - 64 - 64 - 64, by omega⟩ : Fin 64) = e := Fin.ext (by simp; omega)
    rw [e']
    simp only [mask_at, head_at, eq]
    simp only [headAt, attend, weight, score]
    rfl
end

/-- What a device computes, at row `256 s + i`: over its four heads and their columns, the attention times the output weights. -/
theorem comp_at (x : Vec Ideal S2x256x512 .f32) (wq : Vec Ideal S512x256 .f32) (k v : Vec Ideal S2x256x4x64 .f32) (wo : Vec Ideal S256x512 .f32)
    (s : Fin 2) (i : Fin 256) (n : Fin 512) :
    comp x wq k v wo (ix2 ⟨256 * s.val + i.val, by omega⟩ n)
      = ∑ h : Fin 4, ∑ e : Fin 64, headAt (k0_pay2 x wq) s h k v i e * wo (ix2 ⟨64 * h.val + e.val, by omega⟩ n) := by
  unfold comp
  exact last_at (k0_pay2 x wq) k v i _ _ _ _ wo
    (fun h i e => batch0 (k0_pay2 x wq) k v i e _ _ _ (fun i e => head00 x wq k v i e) (fun i e => head01 _ k v i e) (fun i e => head02 _ k v i e) h)
    (fun i e => head10 _ k v i e) (fun i e => head11 _ k v i e) (fun i e => head12 _ k v i e) s n

/-- The queries at an element. -/
theorem queries_at (x : Vec Ideal S2x256x512 .f32) (wq : Vec Ideal S512x256 .f32) (s : Fin 2) (i : Fin 256) (e : Fin 256) :
    k0_pay2 x wq (ix2 ⟨256 * s.val + i.val, by omega⟩ e) = ∑ d : Fin 512, x (ix3 s i d) * wq (ix2 d e) := by
  pointwise [k0_pay2]

end Cert.KernelIdeal

end

end
-- ==== Proof.SumValue.lean ====
/- The gathered sum, read at an element over the extended reals: the sum, over all 32 devices, of what each computed. -/
module

public import proofs.«01_k».proof.Proof.Phases
public import Idealize.ShloMosaic.Lib.Pointwise

@[expose] public section

set_option maxRecDepth 16384

noncomputable section

namespace Cert.KernelIdeal

open Idealize.ShloMosaic Gen

attribute [local instance] Cert.KernelIdeal.Gen.facts

/-- A device and its three peers of the other layers. -/
def layers (c : Dev nD) : Fin 4 → Dev nD := Fin.cons c fun j : Fin 3 => peer (dir (7 + j.val)) c
/-- A device and its seven peers of the same group. -/
def members (c : Dev nD) : Fin 8 → Dev nD := Fin.cons c fun j : Fin 7 => peer (dir j.val) c
/-- The members of the groups of all layers. -/
def everyone (c : Dev nD) (p : Fin 4 × Fin 8) : Dev nD := members (layers c p.1) p.2

theorem everyone_surjective : ∀ c d : Dev nD, ∃ p, everyone c p = d := by decide +kernel

theorem everyone_bijective (c : Dev nD) : Function.Bijective (everyone c) := by
  rw [Fintype.bijective_iff_surjective_and_card]
  exact ⟨everyone_surjective c, rfl⟩

/-- The sum over the layers of the sums over the groups is the sum over all devices. -/
theorem sum_everyone {M : Type} [AddCommMonoid M] (f : Dev nD → M) (c : Dev nD) :
    ∑ l : Fin 4, ∑ g : Fin 8, f (members (layers c l) g) = ∑ d : Dev nD, f d := by
  rw [← Function.Bijective.sum_comp (everyone_bijective c), Fintype.sum_prod_type]
  rfl

theorem sum_members {M : Type} [AddCommMonoid M] (f : Dev nD → M) (c : Dev nD) :
    f c + ∑ j : Fin 7, f (peer (dir j.val) c) = ∑ g : Fin 8, f (members c g) := by
  rw [Fin.sum_univ_succ]; rfl

theorem sum_layers {M : Type} [AddCommMonoid M] (f : Dev nD → M) (c : Dev nD) :
    f c + ∑ j : Fin 3, f (peer (dir (7 + j.val)) c) = ∑ l : Fin 4, f (layers c l) := by
  rw [Fin.sum_univ_succ]; rfl

variable (A : Dev nD → Vec Ideal S512x512 .f32)

theorem p16_at (c : Dev nD) (r : Fin 512) (n : Fin 512) : (p16 A c (ix2 r n) : EReal) = A c (ix2 r n) := by
  unfold p16
  pointwise [k0_pay18]

theorem i512_eq (r : ℕ) (n : Fin 512) : i512 r n = ix2 ⟨r % 512, Nat.mod_lt _ (by decide)⟩ n := rfl
theorem i64_eq (r : ℕ) (n : Fin 512) : i64 r n = ix2 ⟨r % 64, Nat.mod_lt _ (by decide)⟩ n := rfl
theorem i16_eq (r : ℕ) (n : Fin 512) : i16 r n = ix2 ⟨r % 16, Nat.mod_lt _ (by decide)⟩ n := rfl

theorem rb_at (c : Dev nD) (j : Fin 7) (i : Fin 64) (n : Fin 512) :
    (rb A c (ix2 ⟨j.val * 64 + i.val, by omega⟩ n) : EReal) = A (peer (dir j.val) c) (i512 (blk c + i.val) n) := by
  show (p16 A (peer (dir ((j.val * 64 + i.val) / 64)) c) (i512 (blk c + (j.val * 64 + i.val) % 64) n) : EReal) = _
  rw [i512_eq, p16_at, show (j.val * 64 + i.val) / 64 = j.val by omega, ← i512_eq, show (j.val * 64 + i.val) % 64 = i.val by omega]

/-- A chunk's sum over the group. -/
theorem s1_at (c : Dev nD) (i : Fin 64) (n : Fin 512) : (s1 A c (ix2 i n) : EReal) = ∑ g : Fin 8, A (members c g) (i512 (blk c + i.val) n) := by
  rw [← sum_members (fun d => (A d (i512 (blk c + i.val) n) : EReal))]
  unfold s1
  pointwise [k0_pay20, k0_pay19]
  rw [Finset.sum_congr rfl fun j _ => rb_at A c j i n]
  rfl

theorem s1h_at (c : Dev nD) (i : Fin 64) (n : Fin 512) : (s1h A c (ix2 i n) : EReal) = s1 A c (ix2 i n) := by
  unfold s1h s1
  pointwise [k0_pay22, k0_pay21, k0_pay20]

theorem zb_at (c : Dev nD) (j : Fin 3) (i : Fin 16) (n : Fin 512) :
    (zb A c (ix2 ⟨j.val * 16 + i.val, by omega⟩ n) : EReal) = s1 A (peer (dir (7 + j.val)) c) (i64 (16 * zd c + i.val) n) := by
  show (s1h A (peer (dir (7 + (j.val * 16 + i.val) / 16)) c) (i64 (16 * zd c + (j.val * 16 + i.val) % 16) n) : EReal) = _
  rw [i64_eq, s1h_at, show (j.val * 16 + i.val) / 16 = j.val by omega, ← i64_eq, show (j.val * 16 + i.val) % 16 = i.val by omega]

theorem blk_layers : ∀ (c : Dev nD) (l : Fin 4), blk (layers c l) = blk c := by decide +kernel

/-- A piece's sum over all devices. -/
theorem s2_at (c : Dev nD) (i : Fin 16) (n : Fin 512) : (s2 A c (ix2 i n) : EReal) = ∑ d : Dev nD, A d (i512 (blk c + (16 * zd c + i.val)) n) := by
  have hz := zd_lt c
  rw [← sum_everyone (fun d => (A d (i512 (blk c + (16 * zd c + i.val)) n) : EReal)) c]
  have e : ∀ d, (s1 A d (i64 (16 * zd c + i.val) n) : EReal) = ∑ g : Fin 8, A (members d g) (i512 (blk d + (16 * zd c + i.val)) n) := fun d => by
    rw [i64_eq, s1_at]
    simp only [show (16 * zd c + i.val) % 64 = 16 * zd c + i.val by omega]
  rw [← Finset.sum_congr rfl fun l _ => (e (layers c l)).trans (by rw [blk_layers])]
  rw [← sum_layers (fun d => (s1 A d (i64 (16 * zd c + i.val) n) : EReal))]
  unfold s2
  pointwise [k0_pay23]
  rw [Finset.sum_congr rfl fun j _ => zb_at A c j i n]

/-- The gathered array at an element: the sum, over all devices, of what each computed there. -/
theorem fin_at (r : Fin 512) (n : Fin 512) : (fin A (ix2 r n) : EReal) = ∑ d : Dev nD, A d (ix2 r n) := by
  show (s2 A (devAt (r.val / 64) (r.val % 64 / 16)) (i16 r.val n) : EReal) = _
  have hr := r.isLt
  have hq := qd_devAt ⟨r.val / 64, by omega⟩ ⟨r.val % 64 / 16, by omega⟩
  have hz := zd_devAt ⟨r.val / 64, by omega⟩ ⟨r.val % 64 / 16, by omega⟩
  dsimp only at hq hz
  rw [i16_eq, s2_at, blk_eq, hq, hz]
  refine Finset.sum_congr rfl fun d _ => ?_
  rw [i512_eq]
  congr 2
  refine Fin.ext ?_
  dsimp only
  omega

/-- The result at an element. -/
theorem result_at (b : Fin 2) (i : Fin 256) (n : Fin 512) :
    (result A (ix3 b i n) : EReal) = ∑ d : Dev nD, A d (ix2 ⟨256 * b.val + i.val, by omega⟩ n) := by
  have hi := i.isLt
  rw [← fin_at]
  have row (v : ℕ) (hv : 256 * v + i.val < 512) : (rowsOf 256 v (fin A) (ix2 i n) : EReal) = fin A (ix2 ⟨256 * v + i.val, hv⟩ n) := by
    show (fin A (i512 (256 * v + i.val) n) : EReal) = _
    rw [i512_eq]
    simp only [Nat.mod_eq_of_lt hv]
  obtain ⟨b, hb⟩ := b
  interval_cases b
  · rw [← row 0 (by omega)]
    show (k0_pay24 (rowsOf 256 0 (fin A)) (ix3 0 i n) : EReal) = _
    pointwise [k0_pay24]
  · rw [← row 1 (by omega)]
    show (k0_pay25 (rowsOf 256 1 (fin A)) (ix3 0 i n) : EReal) = _
    pointwise [k0_pay25]

end Cert.KernelIdeal

end

end
-- ==== Proof.RefValue.lean ====
/- The reference's result, read at an element over the extended reals. -/
module

public import proofs.«01_k».proof.Proof.Gen.ReferenceIdeal.Run
public import proofs.«01_k».proof.Proof.Maths
public import Idealize.ShloMosaic.Lib.Pointwise
public import Idealize.ShloMosaic.Lib.Routing.OpsOrder
public import Idealize.ShloMosaic.Lib.Tactic.CleanTypes

@[expose] public section

set_option maxRecDepth 16384

noncomputable section

namespace Cert.ReferenceIdeal.Value

open Idealize.ShloMosaic Idealize.ShloMosaic.TcCoe Idealize.SL.Sem Cert.Maths

attribute [local instance] Cert.ReferenceIdeal.Gen.facts

variable (m : (ℓ : Loc nD τ sig) → Buf (Elt Ideal) ℓ) (c : Dev nD)

/-- A choice by the mask's bit. -/
theorem pick (p : Prop) [Decidable p] (x y : EReal) : Scalar.select (if p then 1#1 else 0#1) x y = if p then x else y := by
  by_cases h : p
  · rw [if_pos h, if_pos h]; rfl
  · rw [if_neg h, if_neg h]; rfl

theorem pick_one (x y : EReal) : Scalar.select 1#1 x y = x := rfl

/-- Every query keeps a key, itself. -/
theorem row_keep (i : Fin 256) : Finset.fold IntOp.ori (0#1) (fun j => if near i j then 1#1 else 0#1) (Finset.univ : Finset (Fin 256)) = 1#1 := by
  rw [Routing.fold_ori]
  exact ⟨i, Finset.mem_univ i, by rw [if_pos (near_self i)]⟩

/-- A constant of one element. -/
theorem lit_at (w : BitVec 32) : (id (constant (F := Ideal) S_ .f32 w) ix0 : EReal) = Ideal.ofBits .f32 w := rfl

/-- The attention that the reference takes of one query in one head, at one column. -/
def soft (x : S2x256x512.Idx → EReal) (wq : S512x8192.Idx → EReal) (k v : S2x256x128x64.Idx → EReal) (b : Fin 2) (i : Fin 256) (h : Fin 128) (e : Fin 64) : EReal :=
  softmax (fun j => score (fun y => ∑ d : Fin 512, x (ix3 b i d) * wq (ix2 d ⟨h.val * 64 + y.val, by omega⟩)) fun y => k (ix4 b j h y)) (near i)
    fun j => v (ix4 b j h e)

/-- The reference's result: over all heads and columns, the attention times the output weights. -/
theorem result_at (b : Fin 2) (i : Fin 256) (n : Fin 512) :
    (res_main_v34 m c (ix3 b i n) : EReal)
      = ∑ x : Fin 8192, soft (m (c.tc.loc main_arg0)) (m (c.tc.loc main_arg1)) (m (c.tc.loc main_arg2)) (m (c.tc.loc main_arg3)) b i
            ⟨x.val / 64, by omega⟩ ⟨x.val % 64, by omega⟩ * (m (c.tc.loc main_arg4) : S8192x512.Idx → EReal) (ix2 x n) := by
  unfold res_main_v34
  clean_types
  pointwise
  simp only [lit_at, near_word, pick, minus_inf, row_keep, pick_one]
  rfl

end Cert.ReferenceIdeal.Value

end

end
-- ==== Proof.HostValue.lean ====
/- The operands of the call that the host slices out: a device's columns of the query weights and its rows of the output
   weights. -/
module

public import proofs.«01_k».proof.Proof.Region
public import Idealize.ShloMosaic.Lib.StableHlo.Run
public import Idealize.ShloMosaic.Lib.DynamicIndex
public import Idealize.ShloMosaic.Lib.Pipeline.Value
public import Idealize.ShloMosaic.Lib.Pointwise
public import Idealize.ShloMosaic.Lib.Layout

@[expose] public section

set_option maxRecDepth 16384

noncomputable section

namespace Cert.KernelIdeal

open Idealize.ShloMosaic Idealize.ShloMosaic.TcCoe Gen Idealize.ShloMosaic.StableHlo

attribute [local instance] Cert.KernelIdeal.Gen.facts

variable (m : (ℓ : Loc nD τ sig) → Buf (Elt Ideal) ℓ) (c : Dev nD)

/-- The first column a device slices, as the host computes it from the device's number. -/
def first : BitVec 32 :=
  let n := Dev.word c
  let p := Host.remui (Host.divui (constantI S_ 32 n) (constantI S_ 32 1#32)) (constantI S_ 32 32#32)
  let q := muli p (constantI S_ 32 256#32)
  select (cmpi .slt q (constantI S_ 32 0#32)) (addi q (constantI S_ 32 8192#32)) q (Shape.Idx.first h_S_)

theorem first_eq : (first c).toInt = ((256 * c.val : ℕ) : ℤ) := by
  revert c
  decide +kernel

/-- The query weights of a call: the device's 256 columns. -/
theorem cols_at (d : Fin 512) (e : Fin 256) (h : 256 * c.val + e.val < 8192) :
    (V m c main_v9 (ix2 d e) : EReal)
      = (m (c.tc.loc main_arg1) : S512x8192.Idx → EReal) (ix2 d ⟨256 * c.val + e.val, h⟩) := by
  unfold V V1 hostOps0
  after_results_simp
  have hc : c.val < 32 := c.isLt
  have hoff : S512x8192.Slices ![0, 256 * c.val] S512x256 :=
    ⟨rfl, fun a => match a with
      | ⟨0, _⟩ => by show 0 + 512 ≤ 512; omega
      | ⟨1, _⟩ => by show 256 * c.val + 256 ≤ 8192; omega⟩
  rw [Host.dynamicSlice_eq_extractStridedSlice _ _ _ ![0, 256 * c.val] _ hoff (fun a => match a with
    | ⟨0, _⟩ => by after_results_simp; rfl
    | ⟨1, _⟩ => by after_results_simp; exact first_eq c)]
  exact extractStridedSlice_apply _ _ _ _ _ fun a => match a with
    | ⟨0, _⟩ => (Nat.zero_add d.val).symm
    | ⟨1, _⟩ => rfl

/-- The output weights of a call: the device's 256 rows. -/
theorem rows_at (r : Fin 256) (n : Fin 512) (h : 256 * c.val + r.val < 8192) :
    (V m c main_v14 (ix2 r n) : EReal)
      = (m (c.tc.loc main_arg4) : S8192x512.Idx → EReal) (ix2 ⟨256 * c.val + r.val, h⟩ n) := by
  unfold V V1 hostOps0
  after_results_simp
  have hc : c.val < 32 := c.isLt
  have hoff : S8192x512.Slices ![256 * c.val, 0] S256x512 :=
    ⟨rfl, fun a => match a with
      | ⟨0, _⟩ => by show 256 * c.val + 256 ≤ 8192; omega
      | ⟨1, _⟩ => by show 0 + 512 ≤ 512; omega⟩
  rw [Host.dynamicSlice_eq_extractStridedSlice _ _ _ ![256 * c.val, 0] _ hoff (fun a => match a with
    | ⟨0, _⟩ => by after_results_simp; exact first_eq c
    | ⟨1, _⟩ => by after_results_simp; rfl)]
  exact extractStridedSlice_apply _ _ _ _ _ fun a => match a with
    | ⟨0, _⟩ => rfl
    | ⟨1, _⟩ => (Nat.zero_add n.val).symm

/-- The blocks of four heads tile the hundred and twenty-eight. -/
theorem tiles : Layout.Tiles ⟨4, ![2, 256, 4, 64]⟩ ⟨4, ![2, 256, 128, 64]⟩ 2 32 := by decide

/-- A device's block of the cached keys (or values): its four heads of the hundred and twenty-eight. -/
theorem block_at (v : (⟨4, ![2, 256, 128, 64]⟩ : Shape).Idx → EReal) (b : Fin 2) (j : Fin 256) (h : Fin 4) (e : Fin 64)
    (H : 4 * c.val + h.val < 128) :
    Layout.block ⟨4, ![2, 256, 4, 64]⟩ ⟨4, ![2, 256, 128, 64]⟩ 2 32 c v tiles (ix4 b j h e)
      = v (ix4 b j ⟨4 * c.val + h.val, H⟩ e) := by
  rw [Layout.block_apply]
  refine congrArg v (funext fun a => Fin.ext ?_)
  rw [Layout.Tiles.idx_val]
  match a with
  | ⟨0, _⟩ => rfl
  | ⟨1, _⟩ => rfl
  | ⟨2, _⟩ => show c.val * 4 + h.val = 4 * c.val + h.val; omega
  | ⟨3, _⟩ => rfl

end Cert.KernelIdeal

end

end
-- ==== Proof.Finite.lean ====
/- What the precondition says: the activations, the query weights and the cached keys are real numbers. -/
module

public import proofs.«01_k».proof.Defs
public import Idealize.ShloMosaic.Lib.ReduceAll
public import Idealize.ShloMosaic.Lib.Affine

@[expose] public section

set_option maxRecDepth 16384

noncomputable section

open Idealize.ShloMosaic Idealize.SL.Sem

namespace Cert.Finite

/-- A number whose absolute value lies below +∞ is real. -/
theorem real_of_abs {a : EReal} (h : Ideal.cmp .olt (max a (-a)) (Ideal.ofBits .f32 0x7F800000#32) = 1#1) :
    ∃ r : ℝ, a = (r : EReal) := by
  have top : Ideal.ofBits .f32 0x7F800000#32 = ⊤ := by simp [Ideal.ofBits, Ideal.ieee]
  rw [top] at h
  induction a using EReal.rec with
  | coe r => exact ⟨r, rfl⟩
  | bot => simp [Ideal.cmp] at h
  | top => simp [Ideal.cmp] at h

end Cert.Finite

namespace Cert.Pre_finite_scores_KernelIdeal

theorem facts : Facts where
  bcast_S_S2x256x512 := by decide
  reducesTo_S2x256x512_S_d0_1_2 := by decide
  h_S_ := by decide
  bcast_S_S512x8192 := by decide
  reducesTo_S512x8192_S_d0_1 := by decide
  bcast_S_S2x256x4x64 := by decide
  reducesTo_S2x256x4x64_S_d0_1_2_3 := by decide

attribute [local instance] facts

instance : Subsingleton S_.Idx := ⟨fun a b => funext fun k => k.elim0⟩

theorem reals (x : FVec Ideal S2x256x512 .f32) (wq : FVec Ideal S512x8192 .f32) (k v : FVec Ideal S2x256x4x64 .f32)
    (wo : FVec Ideal S8192x512 .f32) (h : fn (F := Ideal) x wq k v wo = fun _ => 1#1) :
    (∀ j, ∃ r : ℝ, (x j : EReal) = (r : EReal)) ∧ (∀ j, ∃ r : ℝ, (wq j : EReal) = (r : EReal))
      ∧ ∀ j, ∃ r : ℝ, (k j : EReal) = (r : EReal) := by
  have h0 := congrFun h (Shape.Idx.first (by decide : 0 < S_.numel))
  dsimp only [fn] at h0
  obtain ⟨h1, hk⟩ := IntOp.andi_eq_one.1 h0
  obtain ⟨hx, hq⟩ := IntOp.andi_eq_one.1 h1
  exact ⟨fun j => Finite.real_of_abs (Host.reduce_andi_all _ _ _ _ _ hx j),
    fun j => Finite.real_of_abs (Host.reduce_andi_all _ _ _ _ _ hq j),
    fun j => Finite.real_of_abs (Host.reduce_andi_all _ _ _ _ _ hk j)⟩

end Cert.Pre_finite_scores_KernelIdeal

namespace Cert.Pre_finite_scores_ReferenceIdeal

theorem facts : Facts where
  bcast_S_S2x256x512 := by decide
  reducesTo_S2x256x512_S_d0_1_2 := by decide
  h_S_ := by decide
  bcast_S_S512x8192 := by decide
  reducesTo_S512x8192_S_d0_1 := by decide
  bcast_S_S2x256x128x64 := by decide
  reducesTo_S2x256x128x64_S_d0_1_2_3 := by decide

end Cert.Pre_finite_scores_ReferenceIdeal

end

end
-- ==== Proof.Value.lean ====
/- The value: what a device of the kernel ends with is what the reference ends with. -/
module

public import proofs.«01_k».proof.Proof.KernelValue
public import proofs.«01_k».proof.Proof.SumValue
public import proofs.«01_k».proof.Proof.RefValue
public import proofs.«01_k».proof.Proof.HostValue
public import proofs.«01_k».proof.Proof.Finite

@[expose] public section

set_option maxRecDepth 16384

noncomputable section

namespace Cert.Value

open Idealize.ShloMosaic Idealize.ShloMosaic.TcCoe Cert.Maths
open scoped BigOperators

attribute [local instance] Cert.KernelIdeal.Gen.facts Cert.ReferenceIdeal.Gen.facts

/-- The number of a head among all, from the device that holds it and its number there. -/
abbrev whole (c : Fin 32) (h : Fin 4) : Fin 128 := ⟨4 * c.val + h.val, by omega⟩

variable (x : KernelIdeal.S2x256x512.Idx → EReal) (wq : KernelIdeal.S512x8192.Idx → EReal)
variable (k v : (⟨4, ![2, 256, 128, 64]⟩ : Shape).Idx → EReal) (wo : KernelIdeal.S8192x512.Idx → EReal)

/-- What one query attends to in one head, at one column, from the whole arrays. -/
def attended (b : Fin 2) (i : Fin 256) (h : Fin 128) (e : Fin 64) : EReal :=
  attend (fun j => score (fun y => ∑ d : Fin 512, x (ix3 b i d) * wq (ix2 d ⟨h.val * 64 + y.val, by omega⟩)) fun y => k (ix4 b j h y)) (near i)
    fun j => v (ix4 b j h e)

/-- With real scores the reference's softmax is the plain weighted mean. -/
theorem soft_eq (hx : ∀ j, ∃ r : ℝ, x j = (r : EReal)) (hq : ∀ j, ∃ r : ℝ, wq j = (r : EReal)) (hk : ∀ j, ∃ r : ℝ, k j = (r : EReal))
    (b : Fin 2) (i : Fin 256) (h : Fin 128) (e : Fin 64) :
    ReferenceIdeal.Value.soft x wq k v b i h e = attended x wq k v b i h e :=
  softmax_eq _ _ _ (fun j => score_real _ _ (fun y => real_sum _ fun d => real_mul (hx _) (hq _)) fun y => hk _) (near_self i)

/-- The sum over all columns of the heads, head by head on every device. -/
theorem sum_heads (f : Fin 128 → Fin 64 → EReal) (g : Fin 8192 → EReal) :
    ∑ r : Fin 8192, f ⟨r.val / 64, by omega⟩ ⟨r.val % 64, by omega⟩ * g r
      = ∑ c : Fin 32, ∑ h : Fin 4, ∑ e : Fin 64, f (whole c h) e * g ⟨256 * c.val + (64 * h.val + e.val), by omega⟩ := by
  rw [sum_tiles 32 256 rfl]
  refine Finset.sum_congr rfl fun c _ => ?_
  rw [sum_tiles 4 64 rfl]
  refine Finset.sum_congr rfl fun h _ => Finset.sum_congr rfl fun e _ => ?_
  have hd : (256 * c.val + (64 * h.val + e.val)) / 64 = 4 * c.val + h.val := by omega
  have hm : (256 * c.val + (64 * h.val + e.val)) % 64 = e.val := by omega
  simp only [hd, hm]

variable (m : (ℓ : Loc KernelIdeal.nD KernelIdeal.τ KernelIdeal.sig) → Buf (Elt Ideal) ℓ)

section
variable (c : Dev KernelIdeal.nD)
variable (h0 : m (c.tc.loc KernelIdeal.main_arg0) = x) (h1 : m (c.tc.loc KernelIdeal.main_arg1) = wq)
variable (h2 : m (c.tc.loc KernelIdeal.main_arg2) = Layout.block ⟨4, ![2, 256, 4, 64]⟩ ⟨4, ![2, 256, 128, 64]⟩ 2 32 c k KernelIdeal.tiles)
variable (h3 : m (c.tc.loc KernelIdeal.main_arg3) = Layout.block ⟨4, ![2, 256, 4, 64]⟩ ⟨4, ![2, 256, 128, 64]⟩ 2 32 c v KernelIdeal.tiles)
variable (h4 : m (c.tc.loc KernelIdeal.main_arg4) = wo)

include h0 h1 h2 h3 in
/-- A head of a device, from the whole arrays. -/
theorem head_eq (b : Fin 2) (h : Fin 4) (i : Fin 256) (e : Fin 64) :
    KernelIdeal.headAt (KernelIdeal.Gen.k0_pay2 (KernelIdeal.V m c KernelIdeal.main_arg0) (KernelIdeal.V m c KernelIdeal.main_v9)) b h
        (KernelIdeal.V m c KernelIdeal.main_arg2) (KernelIdeal.V m c KernelIdeal.main_arg3) i e
      = attended x wq k v b i (whole c h) e := by
  have hc : c.val < 32 := c.isLt
  have e0 : KernelIdeal.V m c KernelIdeal.main_arg0 = x := (KernelIdeal.Gen.V1_of m c _ (by decide)).trans h0
  have e2 : KernelIdeal.V m c KernelIdeal.main_arg2 = _ := (KernelIdeal.Gen.V1_of m c _ (by decide)).trans h2
  have e3 : KernelIdeal.V m c KernelIdeal.main_arg3 = _ := (KernelIdeal.Gen.V1_of m c _ (by decide)).trans h3
  have q (y : Fin 64) : KernelIdeal.Gen.k0_pay2 (F := Ideal) x (KernelIdeal.V m c KernelIdeal.main_v9) (ix2 ⟨256 * b.val + i.val, by omega⟩ ⟨64 * h.val + y.val, by omega⟩)
      = ∑ d : Fin 512, x (ix3 b i d) * wq (ix2 d ⟨(whole c h).val * 64 + y.val, by omega⟩) := by
    refine (KernelIdeal.queries_at _ _ b i _).trans (Finset.sum_congr rfl fun d _ => congrArg (_ * ·) ?_)
    refine (KernelIdeal.cols_at m c d _ (by show 256 * c.val + (64 * h.val + y.val) < 8192; omega)).trans ?_
    rw [h1]
    refine congrArg wq (congrArg (ix2 d) (Fin.ext ?_))
    show 256 * c.val + (64 * h.val + y.val) = (4 * c.val + h.val) * 64 + y.val
    omega
  rw [e0, e2, e3]
  unfold KernelIdeal.headAt attended
  refine congr (congrArg (attend · (near i)) (funext fun j => ?_)) (funext fun j => KernelIdeal.block_at c v b j h e _)
  exact congr (congrArg score (funext q)) (funext fun y => KernelIdeal.block_at c k b j h y _)

include h0 h1 h2 h3 h4 in
/-- What a device adds to the result, from the whole arrays. -/
theorem part_eq (b : Fin 2) (i : Fin 256) (n : Fin 512) :
    (KernelIdeal.mine m c (ix2 ⟨256 * b.val + i.val, by omega⟩ n) : EReal)
      = ∑ h : Fin 4, ∑ e : Fin 64, attended x wq k v b i (whole c h) e
          * wo (ix2 ⟨256 * c.val + (64 * h.val + e.val), by have : c.val < 32 := c.isLt; omega⟩ n) := by
  have hc : c.val < 32 := c.isLt
  unfold KernelIdeal.mine
  refine (KernelIdeal.comp_at _ _ _ _ _ b i n).trans
    (Finset.sum_congr rfl fun h _ => Finset.sum_congr rfl fun e _ => congrArg₂ (· * ·) (head_eq x wq k v m c h0 h1 h2 h3 b h i e) ?_)
  refine (KernelIdeal.rows_at m c _ n (by show 256 * c.val + (64 * h.val + e.val) < 8192; omega)).trans ?_
  rw [h4]

end

/-- The two results are one. -/
theorem results_eq (m' : (ℓ : Loc ReferenceIdeal.nD ReferenceIdeal.τ ReferenceIdeal.sig) → Buf (Elt Ideal) ℓ) (c' : Dev ReferenceIdeal.nD)
    (h0 : ∀ c : Dev KernelIdeal.nD, m (c.tc.loc KernelIdeal.main_arg0) = m' (c'.tc.loc ReferenceIdeal.main_arg0))
    (h1 : ∀ c : Dev KernelIdeal.nD, m (c.tc.loc KernelIdeal.main_arg1) = m' (c'.tc.loc ReferenceIdeal.main_arg1))
    (h2 : ∀ c : Dev KernelIdeal.nD, m (c.tc.loc KernelIdeal.main_arg2) = Layout.block ⟨4, ![2, 256, 4, 64]⟩ ⟨4, ![2, 256, 128, 64]⟩ 2 32 c (m' (c'.tc.loc ReferenceIdeal.main_arg2)) KernelIdeal.tiles)
    (h3 : ∀ c : Dev KernelIdeal.nD, m (c.tc.loc KernelIdeal.main_arg3) = Layout.block ⟨4, ![2, 256, 4, 64]⟩ ⟨4, ![2, 256, 128, 64]⟩ 2 32 c (m' (c'.tc.loc ReferenceIdeal.main_arg3)) KernelIdeal.tiles)
    (h4 : ∀ c : Dev KernelIdeal.nD, m (c.tc.loc KernelIdeal.main_arg4) = m' (c'.tc.loc ReferenceIdeal.main_arg4))
    (hx : ∀ j, ∃ r : ℝ, (m' (c'.tc.loc ReferenceIdeal.main_arg0) j : EReal) = (r : EReal))
    (hq : ∀ j, ∃ r : ℝ, (m' (c'.tc.loc ReferenceIdeal.main_arg1) j : EReal) = (r : EReal))
    (hk : ∀ j, ∃ r : ℝ, (m' (c'.tc.loc ReferenceIdeal.main_arg2) j : EReal) = (r : EReal)) :
    KernelIdeal.result (KernelIdeal.mine m) = ReferenceIdeal.Value.res_main_v34 m' c' := by
  funext z
  obtain ⟨b, i, n, rfl⟩ : ∃ (b : Fin 2) (i : Fin 256) (n : Fin 512), z = ix3 b i n := ⟨_, _, _, ValueIdx.eq_ix3 z⟩
  refine (KernelIdeal.result_at _ b i n).trans (Eq.symm ((ReferenceIdeal.Value.result_at m' c' b i n).trans ?_))
  refine (sum_heads _ fun r => (m' (c'.tc.loc ReferenceIdeal.main_arg4) : ReferenceIdeal.S8192x512.Idx → EReal) (ix2 r n)).trans ?_
  refine Finset.sum_congr rfl fun c _ => Eq.symm ((part_eq _ _ _ _ _ m c (h0 c) (h1 c) (h2 c) (h3 c) (h4 c) b i n).trans ?_)
  refine Finset.sum_congr rfl fun h _ => Finset.sum_congr rfl fun e _ => congrArg (· * _) ?_
  exact (soft_eq _ _ _ _ hx hq hk b i _ e).symm

end Cert.Value

end

end
-- ==== Proof.Algebraic.lean ====
/- The claim on the value: under finite scores every device of the kernel ends with the reference's result. -/
module

public import proofs.«01_k».proof.Proof.Frames
public import proofs.«01_k».proof.Proof.Value

@[expose] public section

noncomputable section

namespace Cert.Proof

open Idealize.ShloMosaic Idealize.SL.Sem

attribute [local instance] Cert.Kernel.Gen.facts Cert.KernelIdeal.Gen.facts Cert.ReferenceIdeal.Gen.facts
attribute [local instance] Cert.Pre_finite_scores_KernelIdeal.facts Cert.Pre_finite_scores_ReferenceIdeal.facts

theorem frame_ideal_finite : Cert.quiescent_KernelIdeal_pre_finite_scores_KernelIdeal := fun m g _ => frame_any m g

theorem frame_reference_finite : Cert.quiescent_ReferenceIdeal_pre_finite_scores_ReferenceIdeal := fun m g _ =>
  frame_reference m g trivial

/-- Every head of the cached keys is in some device's block: if the blocks are real, so is the whole. -/
theorem whole_real (k : (⟨4, ![2, 256, 128, 64]⟩ : Shape).Idx → EReal)
    (h : ∀ (c : Fin 32) j, ∃ r : ℝ, Layout.block ⟨4, ![2, 256, 4, 64]⟩ ⟨4, ![2, 256, 128, 64]⟩ 2 32 c k Cert.KernelIdeal.tiles j = (r : EReal)) (z) :
    ∃ r : ℝ, k z = (r : EReal) := by
  obtain ⟨b, j, H, e, rfl⟩ : ∃ (b : Fin 2) (j : Fin 256) (H : Fin 128) (e : Fin 64), z = ix4 b j H e := ⟨_, _, _, _, ValueIdx.eq_ix4 z⟩
  have hH := H.isLt
  have key := h ⟨H.val / 4, by omega⟩ (ix4 b j ⟨H.val % 4, by omega⟩ e)
  have block_here := Cert.KernelIdeal.block_at (c := (⟨H.val / 4, by omega⟩ : Fin 32)) k b j ⟨H.val % 4, by omega⟩ e (by show 4 * (H.val / 4) + H.val % 4 < 128; omega)
  have hh : (⟨4 * (H.val / 4) + H.val % 4, by omega⟩ : Fin 128) = H := Fin.ext (by show 4 * (H.val / 4) + H.val % 4 = H.val; omega)
  exact hh ▸ block_here ▸ key

theorem algebraic : Cert.algebraic_KernelIdeal_ReferenceIdeal_pre_finite_scores_KernelIdeal := fun m g m' g' hpre hargs => by
  have reals (c) := Cert.Pre_finite_scores_KernelIdeal.reals _ _ _ _ _ (hpre c)
  have same := Cert.Value.results_eq m m' 0 (fun c => (hargs c).1) (fun c => (hargs c).2.1) (fun c => (hargs c).2.2.1)
    (fun c => (hargs c).2.2.2.1) (fun c => (hargs c).2.2.2.2)
    (fun j => by have := (reals 0).1 j; rw [(hargs 0).1] at this; exact this)
    (fun j => by have := (reals 0).2.1 j; rw [(hargs 0).2.1] at this; exact this)
    (whole_real _ fun c j => by have := (reals c).2.2 j; rw [(hargs c).2.2.1] at this; exact this)
  refine ⟨Cert.ReferenceIdeal.Value.res_main_v34 m' 0, ?_, ?_⟩
  · exact (θ_run Cert.KernelIdeal.defs _ _).mono
      (fun _ h c => ⟨(h.1 c).2.2.2.2.2.trans same, (h.1 c).1, (h.1 c).2.1, (h.1 c).2.2.1, (h.1 c).2.2.2.1, (h.1 c).2.2.2.2.1⟩)
      (Cert.KernelIdeal.run_main (F := Ideal) m g)
  · exact (θ_run Cert.ReferenceIdeal.defs _ _).mono (fun _ h => h 0) (Cert.ReferenceIdeal.Value.run (F := Ideal) m' g')

end Cert.Proof

end

end
-- ==== Proof.lean ====
/- The claims about the kernel and the reference, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Algebraic

@[expose] public section

noncomputable section

namespace Cert.Proof

open Idealize.ShloMosaic Idealize.SL.Sem

attribute [local instance] Cert.Kernel.Gen.facts Cert.KernelIdeal.Gen.facts Cert.ReferenceIdeal.Gen.facts

theorem claim : Cert.Claim :=
  ⟨Cert.Kernel.Gen.facts, Cert.KernelIdeal.Gen.facts, Cert.ReferenceIdeal.Gen.facts,
    Cert.Pre_finite_scores_KernelIdeal.facts, Cert.Pre_finite_scores_ReferenceIdeal.facts,
    frame_kernel, frame_ideal, frame_ideal_finite, frame_reference, frame_reference_finite, trivial, algebraic⟩

end Cert.Proof

end
